-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_NormProj (m : (ℓ : Loc Cert.NormProj.nD Cert.NormProj.τ Cert.NormProj.sig) → Buf (Elt Bits) ℓ) : Prop :=
  True

def Pre_NormProjIdeal (m : (ℓ : Loc Cert.NormProjIdeal.nD Cert.NormProjIdeal.τ Cert.NormProjIdeal.sig) → Buf (Elt Ideal) ℓ) : Prop :=
  True

def Pre_NormProjRefIdeal (m : (ℓ : Loc Cert.NormProjRefIdeal.nD Cert.NormProjRefIdeal.τ Cert.NormProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjIdeal_finite_gate [hPre_finite_gate : Cert.Pre_finite_gate.Facts] (m : (ℓ : Loc Cert.OutProjIdeal.nD Cert.OutProjIdeal.τ Cert.OutProjIdeal.sig) → Buf (Elt Ideal) ℓ) : Prop :=
  ∀ c : Dev Cert.OutProjIdeal.nD,
    (Cert.Pre_finite_gate.fn (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)) (m ((c.tc : Thread Cert.OutProjIdeal.nD Cert.OutProjIdeal.τ).loc Cert.OutProjIdeal.main_arg4))) = (fun _ => 1#1)

def Pre_OutProjRefIdeal (m : (ℓ : Loc Cert.OutProjRefIdeal.nD Cert.OutProjRefIdeal.τ Cert.OutProjRefIdeal.sig) → Buf (Elt Ideal) ℓ) : Prop :=
  True

def Pre_OutProjRefIdeal_finite_gate [hPre_finite_gate : Cert.Pre_finite_gate.Facts] (m : (ℓ : Loc Cert.OutProjRefIdeal.nD Cert.OutProjRefIdeal.τ Cert.OutProjRefIdeal.sig) → Buf (Elt Ideal) ℓ) : Prop :=
  ∀ c : Dev Cert.OutProjRefIdeal.nD,
    (Cert.Pre_finite_gate.fn (F := Ideal) (m ((c.tc : Thread Cert.OutProjRefIdeal.nD Cert.OutProjRefIdeal.τ).loc Cert.OutProjRefIdeal.main_arg0)) (m ((c.tc : Thread Cert.OutProjRefIdeal.nD Cert.OutProjRefIdeal.τ).loc Cert.OutProjRefIdeal.main_arg1)) (m ((c.tc : Thread Cert.OutProjRefIdeal.nD Cert.OutProjRefIdeal.τ).loc Cert.OutProjRefIdeal.main_arg2)) (m ((c.tc : Thread Cert.OutProjRefIdeal.nD Cert.OutProjRefIdeal.τ).loc Cert.OutProjRefIdeal.main_arg3)) (m ((c.tc : Thread Cert.OutProjRefIdeal.nD Cert.OutProjRefIdeal.τ).loc Cert.OutProjRefIdeal.main_arg4))) = (fun _ => 1#1)

def Pre_ProjFirst (m : (ℓ : Loc Cert.ProjFirst.nD Cert.ProjFirst.τ Cert.ProjFirst.sig) → Buf (Elt Bits) ℓ) : Prop :=
  True

def Pre_ProjFirstIdeal (m : (ℓ : Loc Cert.ProjFirstIdeal.nD Cert.ProjFirstIdeal.τ Cert.ProjFirstIdeal.sig) → Buf (Elt Ideal) ℓ) : Prop :=
  True

def Pre_ProjFirstRefIdeal (m : (ℓ : Loc Cert.ProjFirstRefIdeal.nD Cert.ProjFirstRefIdeal.τ Cert.ProjFirstRefIdeal.sig) → Buf (Elt Ideal) ℓ) : Prop :=
  True

def Pre_ProjSecond (m : (ℓ : Loc Cert.ProjSecond.nD Cert.ProjSecond.τ Cert.ProjSecond.sig) → Buf (Elt Bits) ℓ) : Prop :=
  True

def Pre_ProjSecondIdeal (m : (ℓ : Loc Cert.ProjSecondIdeal.nD Cert.ProjSecondIdeal.τ Cert.ProjSecondIdeal.sig) → Buf (Elt Ideal) ℓ) : Prop :=
  True

def Pre_ProjSecondRefIdeal (m : (ℓ : Loc Cert.ProjSecondRefIdeal.nD Cert.ProjSecondRefIdeal.τ Cert.ProjSecondRefIdeal.sig) → Buf (Elt Ideal) ℓ) : Prop :=
  True

def Pre_ProjThird (m : (ℓ : Loc Cert.ProjThird.nD Cert.ProjThird.τ Cert.ProjThird.sig) → Buf (Elt Bits) ℓ) : Prop :=
  True

def Pre_ProjThirdIdeal (m : (ℓ : Loc Cert.ProjThirdIdeal.nD Cert.ProjThirdIdeal.τ Cert.ProjThirdIdeal.sig) → Buf (Elt Ideal) ℓ) : Prop :=
  True

def Pre_ProjThirdRefIdeal (m : (ℓ : Loc Cert.ProjThirdRefIdeal.nD Cert.ProjThirdRefIdeal.τ Cert.ProjThirdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_NormProj [hNormProj : Cert.NormProj.Facts] : Prop :=
  ∀ (m : (ℓ : Loc Cert.NormProj.nD Cert.NormProj.τ Cert.NormProj.sig) → Buf (Elt Bits) ℓ) (g : Dev Cert.NormProj.nD → PrngReg), Pre_NormProj m →
    θ_run (Cert.NormProj.defs (F := Bits)) (onTc (τ := Cert.NormProj.τ) (Cert.NormProj.main (F := Bits))) ⟨m, fun _ => 0, g⟩ (fun r => (∀ c : Dev Cert.NormProj.nD,
      r.2.mem ((c.tc : Thread Cert.NormProj.nD Cert.NormProj.τ).loc Cert.NormProj.main_arg0) = m ((c.tc : Thread Cert.NormProj.nD Cert.NormProj.τ).loc Cert.NormProj.main_arg0)
      ∧ r.2.mem ((c.tc : Thread Cert.NormProj.nD Cert.NormProj.τ).loc Cert.NormProj.main_arg1) = m ((c.tc : Thread Cert.NormProj.nD Cert.NormProj.τ).loc Cert.NormProj.main_arg1)
      ∧ r.2.mem ((c.tc : Thread Cert.NormProj.nD Cert.NormProj.τ).loc Cert.NormProj.main_arg2) = m ((c.tc : Thread Cert.NormProj.nD Cert.NormProj.τ).loc Cert.NormProj.main_arg2))
      ∧ r.2.sem = fun _ => 0)

def quiescent_NormProjIdeal [hNormProjIdeal : Cert.NormProjIdeal.Facts] : Prop :=
  ∀ (m : (ℓ : Loc Cert.NormProjIdeal.nD Cert.NormProjIdeal.τ Cert.NormProjIdeal.sig) → Buf (Elt Ideal) ℓ) (g : Dev Cert.NormProjIdeal.nD → PrngReg), Pre_NormProjIdeal m →
    θ_run (Cert.NormProjIdeal.defs (F := Ideal)) (onTc (τ := Cert.NormProjIdeal.τ) (Cert.NormProjIdeal.main (F := Ideal))) ⟨m, fun _ => 0, g⟩ (fun r => (∀ c : Dev Cert.NormProjIdeal.nD,
      r.2.mem ((c.tc : Thread Cert.NormProjIdeal.nD Cert.NormProjIdeal.τ).loc Cert.NormProjIdeal.main_arg0) = m ((c.tc : Thread Cert.NormProjIdeal.nD Cert.NormProjIdeal.τ).loc Cert.NormProjIdeal.main_arg0)
      ∧ r.2.mem ((c.tc : Thread Cert.NormProjIdeal.nD Cert.NormProjIdeal.τ).loc Cert.NormProjIdeal.main_arg1) = m ((c.tc : Thread Cert.NormProjIdeal.nD Cert.NormProjIdeal.τ).loc Cert.NormProjIdeal.main_arg1)
      ∧ r.2.mem ((c.tc : Thread Cert.NormProjIdeal.nD Cert.NormProjIdeal.τ).loc Cert.NormProjIdeal.main_arg2) = m ((c.tc : Thread Cert.NormProjIdeal.nD Cert.NormProjIdeal.τ).loc Cert.NormProjIdeal.main_arg2))
      ∧ r.2.sem = fun _ => 0)

def quiescent_NormProjRefIdeal [hNormProjRefIdeal : Cert.NormProjRefIdeal.Facts] : Prop :=
  ∀ (m : (ℓ : Loc Cert.NormProjRefIdeal.nD Cert.NormProjRefIdeal.τ Cert.NormProjRefIdeal.sig) → Buf (Elt Ideal) ℓ) (g : Dev Cert.NormProjRefIdeal.nD → PrngReg), Pre_NormProjRefIdeal m →
    θ_run (Cert.NormProjRefIdeal.defs (F := Ideal)) (onTc (τ := Cert.NormProjRefIdeal.τ) (Cert.NormProjRefIdeal.main (F := Ideal))) ⟨m, fun _ => 0, g⟩ (fun r => (∀ c : Dev Cert.NormProjRefIdeal.nD,
      r.2.mem ((c.tc : Thread Cert.NormProjRefIdeal.nD Cert.NormProjRefIdeal.τ).loc Cert.NormProjRefIdeal.main_arg0) = m ((c.tc : Thread Cert.NormProjRefIdeal.nD Cert.NormProjRefIdeal.τ).loc Cert.NormProjRefIdeal.main_arg0)
      ∧ r.2.mem ((c.tc : Thread Cert.NormProjRefIdeal.nD Cert.NormProjRefIdeal.τ).loc Cert.NormProjRefIdeal.main_arg1) = m ((c.tc : Thread Cert.NormProjRefIdeal.nD Cert.NormProjRefIdeal.τ).loc Cert.NormProjRefIdeal.main_arg1)
      ∧ r.2.mem ((c.tc : Thread Cert.NormProjRefIdeal.nD Cert.NormProjRefIdeal.τ).loc Cert.NormProjRefIdeal.main_arg2) = m ((c.tc : Thread Cert.NormProjRefIdeal.nD Cert.NormProjRefIdeal.τ).loc Cert.NormProjRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjIdeal_pre_finite_gate [hOutProjIdeal : Cert.OutProjIdeal.Facts] [hPre_finite_gate : Cert.Pre_finite_gate.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal_finite_gate m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
      ∧ r.2.sem = fun _ => 0)

def quiescent_OutProjRefIdeal_pre_finite_gate [hOutProjRefIdeal : Cert.OutProjRefIdeal.Facts] [hPre_finite_gate : Cert.Pre_finite_gate.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal_finite_gate m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
      ∧ r.2.sem = fun _ => 0)

def quiescent_ProjFirst [hProjFirst : Cert.ProjFirst.Facts] : Prop :=
  ∀ (m : (ℓ : Loc Cert.ProjFirst.nD Cert.ProjFirst.τ Cert.ProjFirst.sig) → Buf (Elt Bits) ℓ) (g : Dev Cert.ProjFirst.nD → PrngReg), Pre_ProjFirst m →
    θ_run (Cert.ProjFirst.defs (F := Bits)) (onTc (τ := Cert.ProjFirst.τ) (Cert.ProjFirst.main (F := Bits))) ⟨m, fun _ => 0, g⟩ (fun r => (∀ c : Dev Cert.ProjFirst.nD,
      r.2.mem ((c.tc : Thread Cert.ProjFirst.nD Cert.ProjFirst.τ).loc Cert.ProjFirst.main_arg0) = m ((c.tc : Thread Cert.ProjFirst.nD Cert.ProjFirst.τ).loc Cert.ProjFirst.main_arg0)
      ∧ r.2.mem ((c.tc : Thread Cert.ProjFirst.nD Cert.ProjFirst.τ).loc Cert.ProjFirst.main_arg1) = m ((c.tc : Thread Cert.ProjFirst.nD Cert.ProjFirst.τ).loc Cert.ProjFirst.main_arg1))
      ∧ r.2.sem = fun _ => 0)

def quiescent_ProjFirstIdeal [hProjFirstIdeal : Cert.ProjFirstIdeal.Facts] : Prop :=
  ∀ (m : (ℓ : Loc Cert.ProjFirstIdeal.nD Cert.ProjFirstIdeal.τ Cert.ProjFirstIdeal.sig) → Buf (Elt Ideal) ℓ) (g : Dev Cert.ProjFirstIdeal.nD → PrngReg), Pre_ProjFirstIdeal m →
    θ_run (Cert.ProjFirstIdeal.defs (F := Ideal)) (onTc (τ := Cert.ProjFirstIdeal.τ) (Cert.ProjFirstIdeal.main (F := Ideal))) ⟨m, fun _ => 0, g⟩ (fun r => (∀ c : Dev Cert.ProjFirstIdeal.nD,
      r.2.mem ((c.tc : Thread Cert.ProjFirstIdeal.nD Cert.ProjFirstIdeal.τ).loc Cert.ProjFirstIdeal.main_arg0) = m ((c.tc : Thread Cert.ProjFirstIdeal.nD Cert.ProjFirstIdeal.τ).loc Cert.ProjFirstIdeal.main_arg0)
      ∧ r.2.mem ((c.tc : Thread Cert.ProjFirstIdeal.nD Cert.ProjFirstIdeal.τ).loc Cert.ProjFirstIdeal.main_arg1) = m ((c.tc : Thread Cert.ProjFirstIdeal.nD Cert.ProjFirstIdeal.τ).loc Cert.ProjFirstIdeal.main_arg1))
      ∧ r.2.sem = fun _ => 0)

def quiescent_ProjFirstRefIdeal [hProjFirstRefIdeal : Cert.ProjFirstRefIdeal.Facts] : Prop :=
  ∀ (m : (ℓ : Loc Cert.ProjFirstRefIdeal.nD Cert.ProjFirstRefIdeal.τ Cert.ProjFirstRefIdeal.sig) → Buf (Elt Ideal) ℓ) (g : Dev Cert.ProjFirstRefIdeal.nD → PrngReg), Pre_ProjFirstRefIdeal m →
    θ_run (Cert.ProjFirstRefIdeal.defs (F := Ideal)) (onTc (τ := Cert.ProjFirstRefIdeal.τ) (Cert.ProjFirstRefIdeal.main (F := Ideal))) ⟨m, fun _ => 0, g⟩ (fun r => (∀ c : Dev Cert.ProjFirstRefIdeal.nD,
      r.2.mem ((c.tc : Thread Cert.ProjFirstRefIdeal.nD Cert.ProjFirstRefIdeal.τ).loc Cert.ProjFirstRefIdeal.main_arg0) = m ((c.tc : Thread Cert.ProjFirstRefIdeal.nD Cert.ProjFirstRefIdeal.τ).loc Cert.ProjFirstRefIdeal.main_arg0)
      ∧ r.2.mem ((c.tc : Thread Cert.ProjFirstRefIdeal.nD Cert.ProjFirstRefIdeal.τ).loc Cert.ProjFirstRefIdeal.main_arg1) = m ((c.tc : Thread Cert.ProjFirstRefIdeal.nD Cert.ProjFirstRefIdeal.τ).loc Cert.ProjFirstRefIdeal.main_arg1))
      ∧ r.2.sem = fun _ => 0)

def quiescent_ProjSecond [hProjSecond : Cert.ProjSecond.Facts] : Prop :=
  ∀ (m : (ℓ : Loc Cert.ProjSecond.nD Cert.ProjSecond.τ Cert.ProjSecond.sig) → Buf (Elt Bits) ℓ) (g : Dev Cert.ProjSecond.nD → PrngReg), Pre_ProjSecond m →
    θ_run (Cert.ProjSecond.defs (F := Bits)) (onTc (τ := Cert.ProjSecond.τ) (Cert.ProjSecond.main (F := Bits))) ⟨m, fun _ => 0, g⟩ (fun r => (∀ c : Dev Cert.ProjSecond.nD,
      r.2.mem ((c.tc : Thread Cert.ProjSecond.nD Cert.ProjSecond.τ).loc Cert.ProjSecond.main_arg0) = m ((c.tc : Thread Cert.ProjSecond.nD Cert.ProjSecond.τ).loc Cert.ProjSecond.main_arg0)
      ∧ r.2.mem ((c.tc : Thread Cert.ProjSecond.nD Cert.ProjSecond.τ).loc Cert.ProjSecond.main_arg1) = m ((c.tc : Thread Cert.ProjSecond.nD Cert.ProjSecond.τ).loc Cert.ProjSecond.main_arg1))
      ∧ r.2.sem = fun _ => 0)

def quiescent_ProjSecondIdeal [hProjSecondIdeal : Cert.ProjSecondIdeal.Facts] : Prop :=
  ∀ (m : (ℓ : Loc Cert.ProjSecondIdeal.nD Cert.ProjSecondIdeal.τ Cert.ProjSecondIdeal.sig) → Buf (Elt Ideal) ℓ) (g : Dev Cert.ProjSecondIdeal.nD → PrngReg), Pre_ProjSecondIdeal m →
    θ_run (Cert.ProjSecondIdeal.defs (F := Ideal)) (onTc (τ := Cert.ProjSecondIdeal.τ) (Cert.ProjSecondIdeal.main (F := Ideal))) ⟨m, fun _ => 0, g⟩ (fun r => (∀ c : Dev Cert.ProjSecondIdeal.nD,
      r.2.mem ((c.tc : Thread Cert.ProjSecondIdeal.nD Cert.ProjSecondIdeal.τ).loc Cert.ProjSecondIdeal.main_arg0) = m ((c.tc : Thread Cert.ProjSecondIdeal.nD Cert.ProjSecondIdeal.τ).loc Cert.ProjSecondIdeal.main_arg0)
      ∧ r.2.mem ((c.tc : Thread Cert.ProjSecondIdeal.nD Cert.ProjSecondIdeal.τ).loc Cert.ProjSecondIdeal.main_arg1) = m ((c.tc : Thread Cert.ProjSecondIdeal.nD Cert.ProjSecondIdeal.τ).loc Cert.ProjSecondIdeal.main_arg1))
      ∧ r.2.sem = fun _ => 0)

def quiescent_ProjSecondRefIdeal [hProjSecondRefIdeal : Cert.ProjSecondRefIdeal.Facts] : Prop :=
  ∀ (m : (ℓ : Loc Cert.ProjSecondRefIdeal.nD Cert.ProjSecondRefIdeal.τ Cert.ProjSecondRefIdeal.sig) → Buf (Elt Ideal) ℓ) (g : Dev Cert.ProjSecondRefIdeal.nD → PrngReg), Pre_ProjSecondRefIdeal m →
    θ_run (Cert.ProjSecondRefIdeal.defs (F := Ideal)) (onTc (τ := Cert.ProjSecondRefIdeal.τ) (Cert.ProjSecondRefIdeal.main (F := Ideal))) ⟨m, fun _ => 0, g⟩ (fun r => (∀ c : Dev Cert.ProjSecondRefIdeal.nD,
      r.2.mem ((c.tc : Thread Cert.ProjSecondRefIdeal.nD Cert.ProjSecondRefIdeal.τ).loc Cert.ProjSecondRefIdeal.main_arg0) = m ((c.tc : Thread Cert.ProjSecondRefIdeal.nD Cert.ProjSecondRefIdeal.τ).loc Cert.ProjSecondRefIdeal.main_arg0)
      ∧ r.2.mem ((c.tc : Thread Cert.ProjSecondRefIdeal.nD Cert.ProjSecondRefIdeal.τ).loc Cert.ProjSecondRefIdeal.main_arg1) = m ((c.tc : Thread Cert.ProjSecondRefIdeal.nD Cert.ProjSecondRefIdeal.τ).loc Cert.ProjSecondRefIdeal.main_arg1))
      ∧ r.2.sem = fun _ => 0)

def quiescent_ProjThird [hProjThird : Cert.ProjThird.Facts] : Prop :=
  ∀ (m : (ℓ : Loc Cert.ProjThird.nD Cert.ProjThird.τ Cert.ProjThird.sig) → Buf (Elt Bits) ℓ) (g : Dev Cert.ProjThird.nD → PrngReg), Pre_ProjThird m →
    θ_run (Cert.ProjThird.defs (F := Bits)) (onTc (τ := Cert.ProjThird.τ) (Cert.ProjThird.main (F := Bits))) ⟨m, fun _ => 0, g⟩ (fun r => (∀ c : Dev Cert.ProjThird.nD,
      r.2.mem ((c.tc : Thread Cert.ProjThird.nD Cert.ProjThird.τ).loc Cert.ProjThird.main_arg0) = m ((c.tc : Thread Cert.ProjThird.nD Cert.ProjThird.τ).loc Cert.ProjThird.main_arg0)
      ∧ r.2.mem ((c.tc : Thread Cert.ProjThird.nD Cert.ProjThird.τ).loc Cert.ProjThird.main_arg1) = m ((c.tc : Thread Cert.ProjThird.nD Cert.ProjThird.τ).loc Cert.ProjThird.main_arg1))
      ∧ r.2.sem = fun _ => 0)

def quiescent_ProjThirdIdeal [hProjThirdIdeal : Cert.ProjThirdIdeal.Facts] : Prop :=
  ∀ (m : (ℓ : Loc Cert.ProjThirdIdeal.nD Cert.ProjThirdIdeal.τ Cert.ProjThirdIdeal.sig) → Buf (Elt Ideal) ℓ) (g : Dev Cert.ProjThirdIdeal.nD → PrngReg), Pre_ProjThirdIdeal m →
    θ_run (Cert.ProjThirdIdeal.defs (F := Ideal)) (onTc (τ := Cert.ProjThirdIdeal.τ) (Cert.ProjThirdIdeal.main (F := Ideal))) ⟨m, fun _ => 0, g⟩ (fun r => (∀ c : Dev Cert.ProjThirdIdeal.nD,
      r.2.mem ((c.tc : Thread Cert.ProjThirdIdeal.nD Cert.ProjThirdIdeal.τ).loc Cert.ProjThirdIdeal.main_arg0) = m ((c.tc : Thread Cert.ProjThirdIdeal.nD Cert.ProjThirdIdeal.τ).loc Cert.ProjThirdIdeal.main_arg0)
      ∧ r.2.mem ((c.tc : Thread Cert.ProjThirdIdeal.nD Cert.ProjThirdIdeal.τ).loc Cert.ProjThirdIdeal.main_arg1) = m ((c.tc : Thread Cert.ProjThirdIdeal.nD Cert.ProjThirdIdeal.τ).loc Cert.ProjThirdIdeal.main_arg1))
      ∧ r.2.sem = fun _ => 0)

def quiescent_ProjThirdRefIdeal [hProjThirdRefIdeal : Cert.ProjThirdRefIdeal.Facts] : Prop :=
  ∀ (m : (ℓ : Loc Cert.ProjThirdRefIdeal.nD Cert.ProjThirdRefIdeal.τ Cert.ProjThirdRefIdeal.sig) → Buf (Elt Ideal) ℓ) (g : Dev Cert.ProjThirdRefIdeal.nD → PrngReg), Pre_ProjThirdRefIdeal m →
    θ_run (Cert.ProjThirdRefIdeal.defs (F := Ideal)) (onTc (τ := Cert.ProjThirdRefIdeal.τ) (Cert.ProjThirdRefIdeal.main (F := Ideal))) ⟨m, fun _ => 0, g⟩ (fun r => (∀ c : Dev Cert.ProjThirdRefIdeal.nD,
      r.2.mem ((c.tc : Thread Cert.ProjThirdRefIdeal.nD Cert.ProjThirdRefIdeal.τ).loc Cert.ProjThirdRefIdeal.main_arg0) = m ((c.tc : Thread Cert.ProjThirdRefIdeal.nD Cert.ProjThirdRefIdeal.τ).loc Cert.ProjThirdRefIdeal.main_arg0)
      ∧ r.2.mem ((c.tc : Thread Cert.ProjThirdRefIdeal.nD Cert.ProjThirdRefIdeal.τ).loc Cert.ProjThirdRefIdeal.main_arg1) = m ((c.tc : Thread Cert.ProjThirdRefIdeal.nD Cert.ProjThirdRefIdeal.τ).loc Cert.ProjThirdRefIdeal.main_arg1))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_NormProj_NormProjIdeal : Prop :=
  IdealRules.named_const.Statement Cert.NormProjIdeal.κ "q_scale" .f32 0x3E38AA3B#32 (((Real.log 256)⁻¹ : ℝ) : EReal)

def algebraic_NormProjIdeal_NormProjRefIdeal [hNormProjIdeal : Cert.NormProjIdeal.Facts] [hNormProjRefIdeal : Cert.NormProjRefIdeal.Facts] : Prop :=
  ∀ (m : (ℓ : Loc Cert.NormProjIdeal.nD Cert.NormProjIdeal.τ Cert.NormProjIdeal.sig) → Buf (Elt Ideal) ℓ) (g : Dev Cert.NormProjIdeal.nD → PrngReg)
    (m' : (ℓ : Loc Cert.NormProjRefIdeal.nD Cert.NormProjRefIdeal.τ Cert.NormProjRefIdeal.sig) → Buf (Elt Ideal) ℓ) (g' : Dev Cert.NormProjRefIdeal.nD → PrngReg), Pre_NormProjIdeal m →
    (∀ c : Dev Cert.NormProjIdeal.nD,
      m' ((c.tc : Thread Cert.NormProjRefIdeal.nD Cert.NormProjRefIdeal.τ).loc Cert.NormProjRefIdeal.main_arg0) = m ((c.tc : Thread Cert.NormProjIdeal.nD Cert.NormProjIdeal.τ).loc Cert.NormProjIdeal.main_arg0)
      ∧ m' ((c.tc : Thread Cert.NormProjRefIdeal.nD Cert.NormProjRefIdeal.τ).loc Cert.NormProjRefIdeal.main_arg1) = m ((c.tc : Thread Cert.NormProjIdeal.nD Cert.NormProjIdeal.τ).loc Cert.NormProjIdeal.main_arg1)
      ∧ m' ((c.tc : Thread Cert.NormProjRefIdeal.nD Cert.NormProjRefIdeal.τ).loc Cert.NormProjRefIdeal.main_arg2) = m ((c.tc : Thread Cert.NormProjIdeal.nD Cert.NormProjIdeal.τ).loc Cert.NormProjIdeal.main_arg2)) →
    ∃ (v0 : (c : Dev Cert.NormProjIdeal.nD) → Buf (Elt Ideal) ((c.tc : Thread Cert.NormProjIdeal.nD Cert.NormProjIdeal.τ).loc Cert.NormProjIdeal.main_v1)),
      θ_run (Cert.NormProjIdeal.defs (F := Ideal)) (onTc (τ := Cert.NormProjIdeal.τ) (Cert.NormProjIdeal.main (F := Ideal))) ⟨m, fun _ => 0, g⟩ (fun r => ∀ c : Dev Cert.NormProjIdeal.nD,
          r.2.mem ((c.tc : Thread Cert.NormProjIdeal.nD Cert.NormProjIdeal.τ).loc Cert.NormProjIdeal.main_v1) = v0 c
          ∧ r.2.mem ((c.tc : Thread Cert.NormProjIdeal.nD Cert.NormProjIdeal.τ).loc Cert.NormProjIdeal.main_arg0) = m ((c.tc : Thread Cert.NormProjIdeal.nD Cert.NormProjIdeal.τ).loc Cert.NormProjIdeal.main_arg0)
          ∧ r.2.mem ((c.tc : Thread Cert.NormProjIdeal.nD Cert.NormProjIdeal.τ).loc Cert.NormProjIdeal.main_arg1) = m ((c.tc : Thread Cert.NormProjIdeal.nD Cert.NormProjIdeal.τ).loc Cert.NormProjIdeal.main_arg1)
          ∧ r.2.mem ((c.tc : Thread Cert.NormProjIdeal.nD Cert.NormProjIdeal.τ).loc Cert.NormProjIdeal.main_arg2) = m ((c.tc : Thread Cert.NormProjIdeal.nD Cert.NormProjIdeal.τ).loc Cert.NormProjIdeal.main_arg2))
      ∧ θ_run (Cert.NormProjRefIdeal.defs (F := Ideal)) (onTc (τ := Cert.NormProjRefIdeal.τ) (Cert.NormProjRefIdeal.main (F := Ideal))) ⟨m', fun _ => 0, g'⟩ (fun r => ∀ c : Dev Cert.NormProjRefIdeal.nD,
          r.2.mem ((c.tc : Thread Cert.NormProjRefIdeal.nD Cert.NormProjRefIdeal.τ).loc Cert.NormProjRefIdeal.main_v24) = v0 c
          ∧ r.2.mem ((c.tc : Thread Cert.NormProjRefIdeal.nD Cert.NormProjRefIdeal.τ).loc Cert.NormProjRefIdeal.main_arg0) = m' ((c.tc : Thread Cert.NormProjRefIdeal.nD Cert.NormProjRefIdeal.τ).loc Cert.NormProjRefIdeal.main_arg0)
          ∧ r.2.mem ((c.tc : Thread Cert.NormProjRefIdeal.nD Cert.NormProjRefIdeal.τ).loc Cert.NormProjRefIdeal.main_arg1) = m' ((c.tc : Thread Cert.NormProjRefIdeal.nD Cert.NormProjRefIdeal.τ).loc Cert.NormProjRefIdeal.main_arg1)
          ∧ r.2.mem ((c.tc : Thread Cert.NormProjRefIdeal.nD Cert.NormProjRefIdeal.τ).loc Cert.NormProjRefIdeal.main_arg2) = m' ((c.tc : Thread Cert.NormProjRefIdeal.nD Cert.NormProjRefIdeal.τ).loc Cert.NormProjRefIdeal.main_arg2))

def preserves_OutProj_OutProjIdeal : Prop :=
  True

def algebraic_OutProjIdeal_OutProjRefIdeal_pre_finite_gate [hOutProjIdeal : Cert.OutProjIdeal.Facts] [hOutProjRefIdeal : Cert.OutProjRefIdeal.Facts] [hPre_finite_gate : Cert.Pre_finite_gate.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal_finite_gate m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v1_0)) (v1 : (c : Dev Cert.OutProjIdeal.nD) → Buf (Elt Ideal) ((c.tc : Thread Cert.OutProjIdeal.nD Cert.OutProjIdeal.τ).loc Cert.OutProjIdeal.main_v1_1)) (v2 : (c : Dev Cert.OutProjIdeal.nD) → Buf (Elt Ideal) ((c.tc : Thread Cert.OutProjIdeal.nD Cert.OutProjIdeal.τ).loc Cert.OutProjIdeal.main_v1_2)) (v3 : (c : Dev Cert.OutProjIdeal.nD) → Buf (Elt Ideal) ((c.tc : Thread Cert.OutProjIdeal.nD Cert.OutProjIdeal.τ).loc Cert.OutProjIdeal.main_v1_3)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1_0) = v0 c
          ∧ r.2.mem ((c.tc : Thread Cert.OutProjIdeal.nD Cert.OutProjIdeal.τ).loc Cert.OutProjIdeal.main_v1_1) = v1 c
          ∧ r.2.mem ((c.tc : Thread Cert.OutProjIdeal.nD Cert.OutProjIdeal.τ).loc Cert.OutProjIdeal.main_v1_2) = v2 c
          ∧ r.2.mem ((c.tc : Thread Cert.OutProjIdeal.nD Cert.OutProjIdeal.τ).loc Cert.OutProjIdeal.main_v1_3) = v3 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v11) = v0 c
          ∧ r.2.mem ((c.tc : Thread Cert.OutProjRefIdeal.nD Cert.OutProjRefIdeal.τ).loc Cert.OutProjRefIdeal.main_v27) = v1 c
          ∧ r.2.mem ((c.tc : Thread Cert.OutProjRefIdeal.nD Cert.OutProjRefIdeal.τ).loc Cert.OutProjRefIdeal.main_v30) = v2 c
          ∧ r.2.mem ((c.tc : Thread Cert.OutProjRefIdeal.nD Cert.OutProjRefIdeal.τ).loc Cert.OutProjRefIdeal.main_v33) = v3 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4))

def preserves_ProjFirst_ProjFirstIdeal : Prop :=
  IdealRules.named_const.Statement Cert.ProjFirstIdeal.κ "q_scale" .f32 0x3E38AA3B#32 (((Real.log 256)⁻¹ : ℝ) : EReal)

def algebraic_ProjFirstIdeal_ProjFirstRefIdeal [hProjFirstIdeal : Cert.ProjFirstIdeal.Facts] [hProjFirstRefIdeal : Cert.ProjFirstRefIdeal.Facts] : Prop :=
  ∀ (m : (ℓ : Loc Cert.ProjFirstIdeal.nD Cert.ProjFirstIdeal.τ Cert.ProjFirstIdeal.sig) → Buf (Elt Ideal) ℓ) (g : Dev Cert.ProjFirstIdeal.nD → PrngReg)
    (m' : (ℓ : Loc Cert.ProjFirstRefIdeal.nD Cert.ProjFirstRefIdeal.τ Cert.ProjFirstRefIdeal.sig) → Buf (Elt Ideal) ℓ) (g' : Dev Cert.ProjFirstRefIdeal.nD → PrngReg), Pre_ProjFirstIdeal m →
    (∀ c : Dev Cert.ProjFirstIdeal.nD,
      m' ((c.tc : Thread Cert.ProjFirstRefIdeal.nD Cert.ProjFirstRefIdeal.τ).loc Cert.ProjFirstRefIdeal.main_arg0) = m ((c.tc : Thread Cert.ProjFirstIdeal.nD Cert.ProjFirstIdeal.τ).loc Cert.ProjFirstIdeal.main_arg0)
      ∧ m' ((c.tc : Thread Cert.ProjFirstRefIdeal.nD Cert.ProjFirstRefIdeal.τ).loc Cert.ProjFirstRefIdeal.main_arg1) = m ((c.tc : Thread Cert.ProjFirstIdeal.nD Cert.ProjFirstIdeal.τ).loc Cert.ProjFirstIdeal.main_arg1)) →
    ∃ (v0 : (c : Dev Cert.ProjFirstIdeal.nD) → Buf (Elt Ideal) ((c.tc : Thread Cert.ProjFirstIdeal.nD Cert.ProjFirstIdeal.τ).loc Cert.ProjFirstIdeal.main_v0)),
      θ_run (Cert.ProjFirstIdeal.defs (F := Ideal)) (onTc (τ := Cert.ProjFirstIdeal.τ) (Cert.ProjFirstIdeal.main (F := Ideal))) ⟨m, fun _ => 0, g⟩ (fun r => ∀ c : Dev Cert.ProjFirstIdeal.nD,
          r.2.mem ((c.tc : Thread Cert.ProjFirstIdeal.nD Cert.ProjFirstIdeal.τ).loc Cert.ProjFirstIdeal.main_v0) = v0 c
          ∧ r.2.mem ((c.tc : Thread Cert.ProjFirstIdeal.nD Cert.ProjFirstIdeal.τ).loc Cert.ProjFirstIdeal.main_arg0) = m ((c.tc : Thread Cert.ProjFirstIdeal.nD Cert.ProjFirstIdeal.τ).loc Cert.ProjFirstIdeal.main_arg0)
          ∧ r.2.mem ((c.tc : Thread Cert.ProjFirstIdeal.nD Cert.ProjFirstIdeal.τ).loc Cert.ProjFirstIdeal.main_arg1) = m ((c.tc : Thread Cert.ProjFirstIdeal.nD Cert.ProjFirstIdeal.τ).loc Cert.ProjFirstIdeal.main_arg1))
      ∧ θ_run (Cert.ProjFirstRefIdeal.defs (F := Ideal)) (onTc (τ := Cert.ProjFirstRefIdeal.τ) (Cert.ProjFirstRefIdeal.main (F := Ideal))) ⟨m', fun _ => 0, g'⟩ (fun r => ∀ c : Dev Cert.ProjFirstRefIdeal.nD,
          r.2.mem ((c.tc : Thread Cert.ProjFirstRefIdeal.nD Cert.ProjFirstRefIdeal.τ).loc Cert.ProjFirstRefIdeal.main_v13) = v0 c
          ∧ r.2.mem ((c.tc : Thread Cert.ProjFirstRefIdeal.nD Cert.ProjFirstRefIdeal.τ).loc Cert.ProjFirstRefIdeal.main_arg0) = m' ((c.tc : Thread Cert.ProjFirstRefIdeal.nD Cert.ProjFirstRefIdeal.τ).loc Cert.ProjFirstRefIdeal.main_arg0)
          ∧ r.2.mem ((c.tc : Thread Cert.ProjFirstRefIdeal.nD Cert.ProjFirstRefIdeal.τ).loc Cert.ProjFirstRefIdeal.main_arg1) = m' ((c.tc : Thread Cert.ProjFirstRefIdeal.nD Cert.ProjFirstRefIdeal.τ).loc Cert.ProjFirstRefIdeal.main_arg1))

def preserves_ProjSecond_ProjSecondIdeal : Prop :=
  IdealRules.named_const.Statement Cert.ProjSecondIdeal.κ "q_scale" .f32 0x3E38AA3B#32 (((Real.log 256)⁻¹ : ℝ) : EReal)

def algebraic_ProjSecondIdeal_ProjSecondRefIdeal [hProjSecondIdeal : Cert.ProjSecondIdeal.Facts] [hProjSecondRefIdeal : Cert.ProjSecondRefIdeal.Facts] : Prop :=
  ∀ (m : (ℓ : Loc Cert.ProjSecondIdeal.nD Cert.ProjSecondIdeal.τ Cert.ProjSecondIdeal.sig) → Buf (Elt Ideal) ℓ) (g : Dev Cert.ProjSecondIdeal.nD → PrngReg)
    (m' : (ℓ : Loc Cert.ProjSecondRefIdeal.nD Cert.ProjSecondRefIdeal.τ Cert.ProjSecondRefIdeal.sig) → Buf (Elt Ideal) ℓ) (g' : Dev Cert.ProjSecondRefIdeal.nD → PrngReg), Pre_ProjSecondIdeal m →
    (∀ c : Dev Cert.ProjSecondIdeal.nD,
      m' ((c.tc : Thread Cert.ProjSecondRefIdeal.nD Cert.ProjSecondRefIdeal.τ).loc Cert.ProjSecondRefIdeal.main_arg0) = m ((c.tc : Thread Cert.ProjSecondIdeal.nD Cert.ProjSecondIdeal.τ).loc Cert.ProjSecondIdeal.main_arg0)
      ∧ m' ((c.tc : Thread Cert.ProjSecondRefIdeal.nD Cert.ProjSecondRefIdeal.τ).loc Cert.ProjSecondRefIdeal.main_arg1) = m ((c.tc : Thread Cert.ProjSecondIdeal.nD Cert.ProjSecondIdeal.τ).loc Cert.ProjSecondIdeal.main_arg1)) →
    ∃ (v0 : (c : Dev Cert.ProjSecondIdeal.nD) → Buf (Elt Ideal) ((c.tc : Thread Cert.ProjSecondIdeal.nD Cert.ProjSecondIdeal.τ).loc Cert.ProjSecondIdeal.main_v0)),
      θ_run (Cert.ProjSecondIdeal.defs (F := Ideal)) (onTc (τ := Cert.ProjSecondIdeal.τ) (Cert.ProjSecondIdeal.main (F := Ideal))) ⟨m, fun _ => 0, g⟩ (fun r => ∀ c : Dev Cert.ProjSecondIdeal.nD,
          r.2.mem ((c.tc : Thread Cert.ProjSecondIdeal.nD Cert.ProjSecondIdeal.τ).loc Cert.ProjSecondIdeal.main_v0) = v0 c
          ∧ r.2.mem ((c.tc : Thread Cert.ProjSecondIdeal.nD Cert.ProjSecondIdeal.τ).loc Cert.ProjSecondIdeal.main_arg0) = m ((c.tc : Thread Cert.ProjSecondIdeal.nD Cert.ProjSecondIdeal.τ).loc Cert.ProjSecondIdeal.main_arg0)
          ∧ r.2.mem ((c.tc : Thread Cert.ProjSecondIdeal.nD Cert.ProjSecondIdeal.τ).loc Cert.ProjSecondIdeal.main_arg1) = m ((c.tc : Thread Cert.ProjSecondIdeal.nD Cert.ProjSecondIdeal.τ).loc Cert.ProjSecondIdeal.main_arg1))
      ∧ θ_run (Cert.ProjSecondRefIdeal.defs (F := Ideal)) (onTc (τ := Cert.ProjSecondRefIdeal.τ) (Cert.ProjSecondRefIdeal.main (F := Ideal))) ⟨m', fun _ => 0, g'⟩ (fun r => ∀ c : Dev Cert.ProjSecondRefIdeal.nD,
          r.2.mem ((c.tc : Thread Cert.ProjSecondRefIdeal.nD Cert.ProjSecondRefIdeal.τ).loc Cert.ProjSecondRefIdeal.main_v11) = v0 c
          ∧ r.2.mem ((c.tc : Thread Cert.ProjSecondRefIdeal.nD Cert.ProjSecondRefIdeal.τ).loc Cert.ProjSecondRefIdeal.main_arg0) = m' ((c.tc : Thread Cert.ProjSecondRefIdeal.nD Cert.ProjSecondRefIdeal.τ).loc Cert.ProjSecondRefIdeal.main_arg0)
          ∧ r.2.mem ((c.tc : Thread Cert.ProjSecondRefIdeal.nD Cert.ProjSecondRefIdeal.τ).loc Cert.ProjSecondRefIdeal.main_arg1) = m' ((c.tc : Thread Cert.ProjSecondRefIdeal.nD Cert.ProjSecondRefIdeal.τ).loc Cert.ProjSecondRefIdeal.main_arg1))

def preserves_ProjThird_ProjThirdIdeal : Prop :=
  IdealRules.named_const.Statement Cert.ProjThirdIdeal.κ "q_scale" .f32 0x3E38AA3B#32 (((Real.log 256)⁻¹ : ℝ) : EReal)

def algebraic_ProjThirdIdeal_ProjThirdRefIdeal [hProjThirdIdeal : Cert.ProjThirdIdeal.Facts] [hProjThirdRefIdeal : Cert.ProjThirdRefIdeal.Facts] : Prop :=
  ∀ (m : (ℓ : Loc Cert.ProjThirdIdeal.nD Cert.ProjThirdIdeal.τ Cert.ProjThirdIdeal.sig) → Buf (Elt Ideal) ℓ) (g : Dev Cert.ProjThirdIdeal.nD → PrngReg)
    (m' : (ℓ : Loc Cert.ProjThirdRefIdeal.nD Cert.ProjThirdRefIdeal.τ Cert.ProjThirdRefIdeal.sig) → Buf (Elt Ideal) ℓ) (g' : Dev Cert.ProjThirdRefIdeal.nD → PrngReg), Pre_ProjThirdIdeal m →
    (∀ c : Dev Cert.ProjThirdIdeal.nD,
      m' ((c.tc : Thread Cert.ProjThirdRefIdeal.nD Cert.ProjThirdRefIdeal.τ).loc Cert.ProjThirdRefIdeal.main_arg0) = m ((c.tc : Thread Cert.ProjThirdIdeal.nD Cert.ProjThirdIdeal.τ).loc Cert.ProjThirdIdeal.main_arg0)
      ∧ m' ((c.tc : Thread Cert.ProjThirdRefIdeal.nD Cert.ProjThirdRefIdeal.τ).loc Cert.ProjThirdRefIdeal.main_arg1) = m ((c.tc : Thread Cert.ProjThirdIdeal.nD Cert.ProjThirdIdeal.τ).loc Cert.ProjThirdIdeal.main_arg1)) →
    ∃ (v0 : (c : Dev Cert.ProjThirdIdeal.nD) → Buf (Elt Ideal) ((c.tc : Thread Cert.ProjThirdIdeal.nD Cert.ProjThirdIdeal.τ).loc Cert.ProjThirdIdeal.main_v0)),
      θ_run (Cert.ProjThirdIdeal.defs (F := Ideal)) (onTc (τ := Cert.ProjThirdIdeal.τ) (Cert.ProjThirdIdeal.main (F := Ideal))) ⟨m, fun _ => 0, g⟩ (fun r => ∀ c : Dev Cert.ProjThirdIdeal.nD,
          r.2.mem ((c.tc : Thread Cert.ProjThirdIdeal.nD Cert.ProjThirdIdeal.τ).loc Cert.ProjThirdIdeal.main_v0) = v0 c
          ∧ r.2.mem ((c.tc : Thread Cert.ProjThirdIdeal.nD Cert.ProjThirdIdeal.τ).loc Cert.ProjThirdIdeal.main_arg0) = m ((c.tc : Thread Cert.ProjThirdIdeal.nD Cert.ProjThirdIdeal.τ).loc Cert.ProjThirdIdeal.main_arg0)
          ∧ r.2.mem ((c.tc : Thread Cert.ProjThirdIdeal.nD Cert.ProjThirdIdeal.τ).loc Cert.ProjThirdIdeal.main_arg1) = m ((c.tc : Thread Cert.ProjThirdIdeal.nD Cert.ProjThirdIdeal.τ).loc Cert.ProjThirdIdeal.main_arg1))
      ∧ θ_run (Cert.ProjThirdRefIdeal.defs (F := Ideal)) (onTc (τ := Cert.ProjThirdRefIdeal.τ) (Cert.ProjThirdRefIdeal.main (F := Ideal))) ⟨m', fun _ => 0, g'⟩ (fun r => ∀ c : Dev Cert.ProjThirdRefIdeal.nD,
          r.2.mem ((c.tc : Thread Cert.ProjThirdRefIdeal.nD Cert.ProjThirdRefIdeal.τ).loc Cert.ProjThirdRefIdeal.main_v11) = v0 c
          ∧ r.2.mem ((c.tc : Thread Cert.ProjThirdRefIdeal.nD Cert.ProjThirdRefIdeal.τ).loc Cert.ProjThirdRefIdeal.main_arg0) = m' ((c.tc : Thread Cert.ProjThirdRefIdeal.nD Cert.ProjThirdRefIdeal.τ).loc Cert.ProjThirdRefIdeal.main_arg0)
          ∧ r.2.mem ((c.tc : Thread Cert.ProjThirdRefIdeal.nD Cert.ProjThirdRefIdeal.τ).loc Cert.ProjThirdRefIdeal.main_arg1) = m' ((c.tc : Thread Cert.ProjThirdRefIdeal.nD Cert.ProjThirdRefIdeal.τ).loc Cert.ProjThirdRefIdeal.main_arg1))

def Claim : Prop :=
  ∃ (hKernel : Cert.Kernel.Facts) (hKernelIdeal : Cert.KernelIdeal.Facts) (hReferenceIdeal : Cert.ReferenceIdeal.Facts) (hNormProj : Cert.NormProj.Facts) (hNormProjIdeal : Cert.NormProjIdeal.Facts) (hNormProjRefIdeal : Cert.NormProjRefIdeal.Facts) (hOutProj : Cert.OutProj.Facts) (hOutProjIdeal : Cert.OutProjIdeal.Facts) (hOutProjRefIdeal : Cert.OutProjRefIdeal.Facts) (hProjFirst : Cert.ProjFirst.Facts) (hProjFirstIdeal : Cert.ProjFirstIdeal.Facts) (hProjFirstRefIdeal : Cert.ProjFirstRefIdeal.Facts) (hProjSecond : Cert.ProjSecond.Facts) (hProjSecondIdeal : Cert.ProjSecondIdeal.Facts) (hProjSecondRefIdeal : Cert.ProjSecondRefIdeal.Facts) (hProjThird : Cert.ProjThird.Facts) (hProjThirdIdeal : Cert.ProjThirdIdeal.Facts) (hProjThirdRefIdeal : Cert.ProjThirdRefIdeal.Facts) (hPre_finite : Cert.Pre_finite.Facts) (hPre_finite_gate : Cert.Pre_finite_gate.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_NormProj (hNormProj := hNormProj)
    ∧ quiescent_NormProjIdeal (hNormProjIdeal := hNormProjIdeal)
    ∧ quiescent_NormProjRefIdeal (hNormProjRefIdeal := hNormProjRefIdeal)
    ∧ quiescent_OutProj (hOutProj := hOutProj)
    ∧ quiescent_OutProjIdeal (hOutProjIdeal := hOutProjIdeal)
    ∧ quiescent_OutProjIdeal_pre_finite_gate (hOutProjIdeal := hOutProjIdeal) (hPre_finite_gate := hPre_finite_gate)
    ∧ quiescent_OutProjRefIdeal (hOutProjRefIdeal := hOutProjRefIdeal)
    ∧ quiescent_OutProjRefIdeal_pre_finite_gate (hOutProjRefIdeal := hOutProjRefIdeal) (hPre_finite_gate := hPre_finite_gate)
    ∧ quiescent_ProjFirst (hProjFirst := hProjFirst)
    ∧ quiescent_ProjFirstIdeal (hProjFirstIdeal := hProjFirstIdeal)
    ∧ quiescent_ProjFirstRefIdeal (hProjFirstRefIdeal := hProjFirstRefIdeal)
    ∧ quiescent_ProjSecond (hProjSecond := hProjSecond)
    ∧ quiescent_ProjSecondIdeal (hProjSecondIdeal := hProjSecondIdeal)
    ∧ quiescent_ProjSecondRefIdeal (hProjSecondRefIdeal := hProjSecondRefIdeal)
    ∧ quiescent_ProjThird (hProjThird := hProjThird)
    ∧ quiescent_ProjThirdIdeal (hProjThirdIdeal := hProjThirdIdeal)
    ∧ quiescent_ProjThirdRefIdeal (hProjThirdRefIdeal := hProjThirdRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_NormProj_NormProjIdeal
    ∧ algebraic_NormProjIdeal_NormProjRefIdeal (hNormProjIdeal := hNormProjIdeal) (hNormProjRefIdeal := hNormProjRefIdeal)
    ∧ preserves_OutProj_OutProjIdeal
    ∧ algebraic_OutProjIdeal_OutProjRefIdeal_pre_finite_gate (hOutProjIdeal := hOutProjIdeal) (hOutProjRefIdeal := hOutProjRefIdeal) (hPre_finite_gate := hPre_finite_gate)
    ∧ preserves_ProjFirst_ProjFirstIdeal
    ∧ algebraic_ProjFirstIdeal_ProjFirstRefIdeal (hProjFirstIdeal := hProjFirstIdeal) (hProjFirstRefIdeal := hProjFirstRefIdeal)
    ∧ preserves_ProjSecond_ProjSecondIdeal
    ∧ algebraic_ProjSecondIdeal_ProjSecondRefIdeal (hProjSecondIdeal := hProjSecondIdeal) (hProjSecondRefIdeal := hProjSecondRefIdeal)
    ∧ preserves_ProjThird_ProjThirdIdeal
    ∧ algebraic_ProjThirdIdeal_ProjThirdRefIdeal (hProjThirdIdeal := hProjThirdIdeal) (hProjThirdRefIdeal := hProjThirdRefIdeal)
-- ==== Pre_finite.lean ====
abbrev S16x16384x256 : Shape := ⟨3, ![16, 16384, 256]⟩
abbrev S16x15x31 : Shape := ⟨3, ![16, 15, 31]⟩
abbrev S_ : Shape := ⟨0, ![]⟩

class Facts : Prop where
  bitsLt_bf16_f32 : FTy.bits .bf16 < FTy.bits .f32
  bcast_S_S16x16384x256 : S_.BroadcastsInDim S16x16384x256 (![] : Fin 0 → Fin S16x16384x256.rank)
  reducesTo_S16x16384x256_S_d0_1_2 : S16x16384x256.ReducesTo [0, 1, 2] S_
  h_S_ : 0 < S_.numel
  bcast_S_S16x15x31 : S_.BroadcastsInDim S16x15x31 (![] : Fin 0 → Fin S16x15x31.rank)
  reducesTo_S16x15x31_S_d0_1_2 : S16x15x31.ReducesTo [0, 1, 2] S_

variable [Facts]

def fn {F : FTy → Type} [FloatOps F] (main_arg0 : FVec F S16x16384x256 .bf16) (main_arg1 : FVec F S16x15x31 .f32) : IVec S_ 1 :=
  let main_v0 : FVec F S16x16384x256 .f32 := (extf .f32 · bitsLt_bf16_f32) main_arg0
  let main_v1 : FVec F S16x16384x256 .f32 := Host.absf main_v0
  let main_cst : FVec F S_ .f32 := constant S_ .f32 0x7F800000#32
  let main_v2 : FVec F S16x16384x256 .f32 := broadcastInDim S16x16384x256 ![] bcast_S_S16x16384x256 main_cst
  let main_v3 : IVec S16x16384x256 1 := cmpf .olt main_v1 main_v2
  let main_c : IVec S_ 1 := constantI S_ 1 1#1
  let main_v4 : IVec S_ 1 := (fun x v => Host.reduce IntOp.andi x v reducesTo_S16x16384x256_S_d0_1_2 h_S_) main_v3 main_c
  let main_v5 : FVec F S16x15x31 .f32 := Host.absf main_arg1
  let main_cst_0 : FVec F S_ .f32 := constant S_ .f32 0x7F800000#32
  let main_v6 : FVec F S16x15x31 .f32 := broadcastInDim S16x15x31 ![] bcast_S_S16x15x31 main_cst_0
  let main_v7 : IVec S16x15x31 1 := cmpf .olt main_v5 main_v6
  let main_c_1 : IVec S_ 1 := constantI S_ 1 1#1
  let main_v8 : IVec S_ 1 := (fun x v => Host.reduce IntOp.andi x v reducesTo_S16x15x31_S_d0_1_2 h_S_) main_v7 main_c_1
  let main_v9 : IVec S_ 1 := andi main_v4 main_v8
  main_v9
-- ==== Pre_finite_gate.lean ====
abbrev S4x16384x256 : Shape := ⟨3, ![4, 16384, 256]⟩
abbrev S16x16384x256 : Shape := ⟨3, ![16, 16384, 256]⟩
abbrev S2x8192x1024 : Shape := ⟨3, ![2, 8192, 1024]⟩
abbrev S1024x1024 : Shape := ⟨2, ![1024, 1024]⟩
abbrev S1024 : Shape := ⟨1, ![1024]⟩
abbrev S_ : Shape := ⟨0, ![]⟩

class Facts : Prop where
  slices_S16x16384x256_S4x16384x256_12_0_0 : S16x16384x256.Slices ![12, 0, 0] S4x16384x256
  bitsLt_bf16_f32 : FTy.bits .bf16 < FTy.bits .f32
  bcast_S_S4x16384x256 : S_.BroadcastsInDim S4x16384x256 (![] : Fin 0 → Fin S4x16384x256.rank)
  reducesTo_S4x16384x256_S_d0_1_2 : S4x16384x256.ReducesTo [0, 1, 2] S_
  h_S_ : 0 < S_.numel

variable [Facts]

def fn {F : FTy → Type} [FloatOps F] (main_arg0 : FVec F S4x16384x256 .bf16) (main_arg1 : FVec F S16x16384x256 .bf16) (main_arg2 : FVec F S2x8192x1024 .f32) (main_arg3 : FVec F S1024x1024 .bf16) (main_arg4 : FVec F S1024 .f32) : IVec S_ 1 :=
  let main_v0 : FVec F S4x16384x256 .bf16 := (extractStridedSlice S4x16384x256 ![12, 0, 0] · slices_S16x16384x256_S4x16384x256_12_0_0) main_arg1
  let main_v1 : FVec F S4x16384x256 .f32 := (extf .f32 · bitsLt_bf16_f32) main_v0
  let main_v2 : FVec F S4x16384x256 .f32 := Host.absf main_v1
  let main_cst : FVec F S_ .f32 := constant S_ .f32 0x7F800000#32
  let main_v3 : FVec F S4x16384x256 .f32 := broadcastInDim S4x16384x256 ![] bcast_S_S4x16384x256 main_cst
  let main_v4 : IVec S4x16384x256 1 := cmpf .olt main_v2 main_v3
  let main_c : IVec S_ 1 := constantI S_ 1 1#1
  let main_v5 : IVec S_ 1 := (fun x v => Host.reduce IntOp.andi x v reducesTo_S4x16384x256_S_d0_1_2 h_S_) main_v4 main_c
  main_v5
-- ==== Kernel.lean ====
abbrev S16x16384x256 : Shape := ⟨3, ![16, 16384, 256]⟩
abbrev S16x15x31 : Shape := ⟨3, ![16, 15, 31]⟩
abbrev S2x31x64x2x64 : Shape := ⟨5, ![2, 31, 64, 2, 64]⟩
abbrev S_ : Shape := ⟨0, ![]⟩
abbrev S62x8192 : Shape := ⟨2, ![62, 8192]⟩
abbrev S1x1x64x2x64 : Shape := ⟨5, ![1, 1, 64, 2, 64]⟩
abbrev S64x2x64 : Shape := ⟨3, ![64, 2, 64]⟩
abbrev S1x8192 : Shape := ⟨2, ![1, 8192]⟩
abbrev S16x14x31 : Shape := ⟨3, ![16, 14, 31]⟩
abbrev S16x14x62 : Shape := ⟨3, ![16, 14, 62]⟩
abbrev S224x62 : Shape := ⟨2, ![224, 62]⟩
abbrev S224x8192 : Shape := ⟨2, ![224, 8192]⟩
abbrev S16x14x64x128 : Shape := ⟨4, ![16, 14, 64, 128]⟩
abbrev S4x16384x256 : Shape := ⟨3, ![4, 16384, 256]⟩
abbrev S1x2048x256 : Shape := ⟨3, ![1, 2048, 256]⟩
abbrev S1x8192x256 : Shape := ⟨3, ![1, 8192, 256]⟩
abbrev S4x14x64x128 : Shape := ⟨4, ![4, 14, 64, 128]⟩
abbrev S64x256 : Shape := ⟨2, ![64, 256]⟩
abbrev S1x64x256 : Shape := ⟨3, ![1, 64, 256]⟩
abbrev S256x256 : Shape := ⟨2, ![256, 256]⟩
abbrev S1x512x256 : Shape := ⟨3, ![1, 512, 256]⟩
abbrev S512x256 : Shape := ⟨2, ![512, 256]⟩
abbrev S256x512 : Shape := ⟨2, ![256, 512]⟩
abbrev S1x1x64x128 : Shape := ⟨4, ![1, 1, 64, 128]⟩
abbrev S64x128 : Shape := ⟨2, ![64, 128]⟩
abbrev S64x512 : Shape := ⟨2, ![64, 512]⟩
abbrev S256 : Shape := ⟨1, ![256]⟩
abbrev S256x1 : Shape := ⟨2, ![256, 1]⟩

abbrev nBuf : Space → Nat
  | .hbm => 46
  | .vmem => 14
  | .smem => 0
  | _ => 0

abbrev bufTy : (tb : Table) → Fin (tcTables nBuf tb) → BufTy
  | .hbm, ⟨0, _⟩ => ⟨S16x16384x256, .bf16⟩
  | .hbm, ⟨1, _⟩ => ⟨S16x15x31, .f32⟩
  | .hbm, ⟨2, _⟩ => ⟨S2x31x64x2x64, .i32⟩
  | .hbm, ⟨3, _⟩ => ⟨S2x31x64x2x64, .i32⟩
  | .hbm, ⟨4, _⟩ => ⟨S2x31x64x2x64, .i32⟩
  | .hbm, ⟨5, _⟩ => ⟨S2x31x64x2x64, .i32⟩
  | .hbm, ⟨6, _⟩ => ⟨S2x31x64x2x64, .i32⟩
  | .hbm, ⟨7, _⟩ => ⟨S_, .i32⟩
  | .hbm, ⟨8, _⟩ => ⟨S2x31x64x2x64, .i32⟩
  | .hbm, ⟨9, _⟩ => ⟨S2x31x64x2x64, .i32⟩
  | .hbm, ⟨10, _⟩ => ⟨S_, .i32⟩
  | .hbm, ⟨11, _⟩ => ⟨S2x31x64x2x64, .i32⟩
  | .hbm, ⟨12, _⟩ => ⟨S2x31x64x2x64, .i32⟩
  | .hbm, ⟨13, _⟩ => ⟨S_, .i32⟩
  | .hbm, ⟨14, _⟩ => ⟨S2x31x64x2x64, .i32⟩
  | .hbm, ⟨15, _⟩ => ⟨S2x31x64x2x64, .i32⟩
  | .hbm, ⟨16, _⟩ => ⟨S2x31x64x2x64, .i1⟩
  | .hbm, ⟨17, _⟩ => ⟨S_, .i32⟩
  | .hbm, ⟨18, _⟩ => ⟨S2x31x64x2x64, .i32⟩
  | .hbm, ⟨19, _⟩ => ⟨S2x31x64x2x64, .i32⟩
  | .hbm, ⟨20, _⟩ => ⟨S2x31x64x2x64, .i1⟩
  | .hbm, ⟨21, _⟩ => ⟨S2x31x64x2x64, .i1⟩
  | .hbm, ⟨22, _⟩ => ⟨S2x31x64x2x64, .i1⟩
  | .hbm, ⟨23, _⟩ => ⟨S2x31x64x2x64, .i32⟩
  | .hbm, ⟨24, _⟩ => ⟨S_, .i32⟩
  | .hbm, ⟨25, _⟩ => ⟨S2x31x64x2x64, .i32⟩
  | .hbm, ⟨26, _⟩ => ⟨S2x31x64x2x64, .i32⟩
  | .hbm, ⟨27, _⟩ => ⟨S_, .i32⟩
  | .hbm, ⟨28, _⟩ => ⟨S2x31x64x2x64, .i32⟩
  | .hbm, ⟨29, _⟩ => ⟨S2x31x64x2x64, .i32⟩
  | .hbm, ⟨30, _⟩ => ⟨S2x31x64x2x64, .i1⟩
  | .hbm, ⟨31, _⟩ => ⟨S2x31x64x2x64, .i1⟩
  | .hbm, ⟨32, _⟩ => ⟨S2x31x64x2x64, .i1⟩
  | .hbm, ⟨33, _⟩ => ⟨S2x31x64x2x64, .f32⟩
  | .hbm, ⟨34, _⟩ => ⟨S62x8192, .f32⟩
  | .hbm, ⟨35, _⟩ => ⟨S1x1x64x2x64, .i1⟩
  | .hbm, ⟨36, _⟩ => ⟨S64x2x64, .i1⟩
  | .hbm, ⟨37, _⟩ => ⟨S64x2x64, .i32⟩
  | .hbm, ⟨38, _⟩ => ⟨S1x8192, .i32⟩
  | .hbm, ⟨39, _⟩ => ⟨S16x14x31, .f32⟩
  | .hbm, ⟨40, _⟩ => ⟨S16x14x31, .f32⟩
  | .hbm, ⟨41, _⟩ => ⟨S16x14x62, .f32⟩
  | .hbm, ⟨42, _⟩ => ⟨S224x62, .f32⟩
  | .hbm, ⟨43, _⟩ => ⟨S224x8192, .f32⟩
  | .hbm, ⟨44, _⟩ => ⟨S16x14x64x128, .f32⟩
  | .hbm, ⟨45, _⟩ => ⟨S4x16384x256, .bf16⟩
  | .local _ .vmem, ⟨0, _⟩ => ⟨S224x62, .f32⟩
  | .local _ .vmem, ⟨1, _⟩ => ⟨S62x8192, .f32⟩
  | .local _ .vmem, ⟨2, _⟩ => ⟨S1x8192, .i32⟩
  | .local _ .vmem, ⟨3, _⟩ => ⟨S224x8192, .f32⟩
  | .local _ .vmem, ⟨4, _⟩ => ⟨S1x2048x256, .bf16⟩
  | .local _ .vmem, ⟨5, _⟩ => ⟨S1x2048x256, .bf16⟩
  | .local _ .vmem, ⟨6, _⟩ => ⟨S1x8192x256, .bf16⟩
  | .local _ .vmem, ⟨7, _⟩ => ⟨S1x8192x256, .bf16⟩
  | .local _ .vmem, ⟨8, _⟩ => ⟨S1x8192x256, .bf16⟩
  | .local _ .vmem, ⟨9, _⟩ => ⟨S1x8192x256, .bf16⟩
  | .local _ .vmem, ⟨10, _⟩ => ⟨S4x14x64x128, .f32⟩
  | .local _ .vmem, ⟨11, _⟩ => ⟨S4x14x64x128, .f32⟩
  | .local _ .vmem, ⟨12, _⟩ => ⟨S1x2048x256, .bf16⟩
  | .local _ .vmem, ⟨13, _⟩ => ⟨S1x2048x256, .bf16⟩
  | _, _ => ⟨S16x16384x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_c_0 : Ref sig .tc := ⟨.hbm, 10, rfl⟩
abbrev main_v7 : Ref sig .tc := ⟨.hbm, 11, rfl⟩
abbrev main_v8 : Ref sig .tc := ⟨.hbm, 12, rfl⟩
abbrev main_c_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_3 : Ref sig .tc := ⟨.hbm, 24, rfl⟩
abbrev main_v18 : Ref sig .tc := ⟨.hbm, 25, rfl⟩
abbrev main_v19 : Ref sig .tc := ⟨.hbm, 26, rfl⟩
abbrev main_c_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := .none

abbrev stage0_0 : Fin 1 → Memref sig .tc .vmem S224x62 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S62x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x8192 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S224x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨3, ![2, 4, 4], ![false, false, false]⟩

def k1_mult1 (i : grid1.Coords) : BitVec 32 :=
  let c120_i32 : BitVec 32 := 120#32
  let c0_i32_5 : BitVec 32 := 0#32
  let arg2 : BitVec 32 := BitVec.ofNat 32 (i 2).val
  let c32_i32 : BitVec 32 := 32#32
  let v25 : BitVec 32 := Scalar.muli arg2 c32_i32
  let c0_i32_4 : BitVec 32 := 0#32
  let v26 : BitVec 32 := Scalar.addi v25 c0_i32_4
  let c4_i32 : BitVec 32 := 4#32
  let v27 : BitVec 32 := Scalar.subi v26 c4_i32
  let v28 : BitVec 32 := Scalar.maxsi c0_i32_5 v27
  let v29 : BitVec 32 := Scalar.minsi c120_i32 v28
  let c64_i32_6 : BitVec 32 := 64#32
  let v30 : BitVec 32 := Scalar.muli v29 c64_i32_6
  v30
def k1_off1 (i : grid1.Coords) (c0_i32_4 : BitVec 32) : Fin 3 → Nat :=
  let c0_11 : Index := 0#32
  let c120_i32 : BitVec 32 := 120#32
  let c0_i32_5 : BitVec 32 := 0#32
  let arg2 : BitVec 32 := BitVec.ofNat 32 (i 2).val
  let c32_i32 : BitVec 32 := 32#32
  let v25 : BitVec 32 := Scalar.muli arg2 c32_i32
  let v26 : BitVec 32 := Scalar.addi v25 c0_i32_4
  let c4_i32 : BitVec 32 := 4#32
  let v27 : BitVec 32 := Scalar.subi v26 c4_i32
  let v28 : BitVec 32 := Scalar.maxsi c0_i32_5 v27
  let v29 : BitVec 32 := Scalar.minsi c120_i32 v28
  let c64_i32_6 : BitVec 32 := 64#32
  let v30 : BitVec 32 := Scalar.muli v29 c64_i32_6
  let v31 : BitVec 32 := v30
  let v48 : Index := Scalar.indexCast v31
  let c0_12 : Index := 0#32
  ![0, v48.toNat, 0]
def k1_off2 (i : grid1.Coords) (c0_i32_4 : BitVec 32) (c0_i32_15 : BitVec 32) : Fin 4 → Nat :=
  let c0_16 : Index := 0#32
  let c120_i32 : BitVec 32 := 120#32
  let c0_i32_5 : BitVec 32 := 0#32
  let arg2 : BitVec 32 := BitVec.ofNat 32 (i 2).val
  let c32_i32 : BitVec 32 := 32#32
  let v25 : BitVec 32 := Scalar.muli arg2 c32_i32
  let v26 : BitVec 32 := Scalar.addi v25 c0_i32_4
  let c4_i32 : BitVec 32 := 4#32
  let v27 : BitVec 32 := Scalar.subi v26 c4_i32
  let v28 : BitVec 32 := Scalar.maxsi c0_i32_5 v27
  let v29 : BitVec 32 := Scalar.minsi c120_i32 v28
  let v52 : BitVec 32 := Scalar.subi v29 v26
  let c8_i32 : BitVec 32 := 8#32
  let v53 : BitVec 32 := Scalar.addi v52 c8_i32
  let c1_i32_14 : BitVec 32 := 1#32
  let v54 : BitVec 32 := Scalar.subi v53 c1_i32_14
  let v55 : BitVec 32 := Scalar.addi v54 c0_i32_15
  let v56 : Index := Scalar.indexCast v55
  let c0_17 : Index := 0#32
  let c0_18 : Index := 0#32
  ![0, v56.toNat, 0, 0]
def k1_off3 (i : grid1.Coords) (c0_i32_4 : BitVec 32) (c0_i32_30 : BitVec 32) : Fin 4 → Nat :=
  let c1 : Index := 1#32
  let c120_i32 : BitVec 32 := 120#32
  let c0_i32_5 : BitVec 32 := 0#32
  let arg2 : BitVec 32 := BitVec.ofNat 32 (i 2).val
  let c32_i32 : BitVec 32 := 32#32
  let v25 : BitVec 32 := Scalar.muli arg2 c32_i32
  let v26 : BitVec 32 := Scalar.addi v25 c0_i32_4
  let c4_i32 : BitVec 32 := 4#32
  let v27 : BitVec 32 := Scalar.subi v26 c4_i32
  let v28 : BitVec 32 := Scalar.maxsi c0_i32_5 v27
  let v29 : BitVec 32 := Scalar.minsi c120_i32 v28
  let v52 : BitVec 32 := Scalar.subi v29 v26
  let c8_i32 : BitVec 32 := 8#32
  let v53 : BitVec 32 := Scalar.addi v52 c8_i32
  let c1_i32_14 : BitVec 32 := 1#32
  let v54 : BitVec 32 := Scalar.subi v53 c1_i32_14
  let v72 : BitVec 32 := Scalar.addi v54 c0_i32_30
  let v73 : Index := Scalar.indexCast v72
  let c0_31 : Index := 0#32
  let c0_32 : Index := 0#32
  ![1, v73.toNat, 0, 0]
def k1_off4 (i : grid1.Coords) (c0_i32_4 : BitVec 32) (c0_i32_45 : BitVec 32) : Fin 4 → Nat :=
  let c2 : Index := 2#32
  let c120_i32 : BitVec 32 := 120#32
  let c0_i32_5 : BitVec 32 := 0#32
  let arg2 : BitVec 32 := BitVec.ofNat 32 (i 2).val
  let c32_i32 : BitVec 32 := 32#32
  let v25 : BitVec 32 := Scalar.muli arg2 c32_i32
  let v26 : BitVec 32 := Scalar.addi v25 c0_i32_4
  let c4_i32 : BitVec 32 := 4#32
  let v27 : BitVec 32 := Scalar.subi v26 c4_i32
  let v28 : BitVec 32 := Scalar.maxsi c0_i32_5 v27
  let v29 : BitVec 32 := Scalar.minsi c120_i32 v28
  let v52 : BitVec 32 := Scalar.subi v29 v26
  let c8_i32 : BitVec 32 := 8#32
  let v53 : BitVec 32 := Scalar.addi v52 c8_i32
  let c1_i32_14 : BitVec 32 := 1#32
  let v54 : BitVec 32 := Scalar.subi v53 c1_i32_14
  let v89 : BitVec 32 := Scalar.addi v54 c0_i32_45
  let v90 : Index := Scalar.indexCast v89
  let c0_46 : Index := 0#32
  let c0_47 : Index := 0#32
  ![2, v90.toNat, 0, 0]
def k1_off5 (i : grid1.Coords) (c0_i32_4 : BitVec 32) (c0_i32_60 : BitVec 32) : Fin 4 → Nat :=
  let c3 : Index := 3#32
  let c120_i32 : BitVec 32 := 120#32
  let c0_i32_5 : BitVec 32 := 0#32
  let arg2 : BitVec 32 := BitVec.ofNat 32 (i 2).val
  let c32_i32 : BitVec 32 := 32#32
  let v25 : BitVec 32 := Scalar.muli arg2 c32_i32
  let v26 : BitVec 32 := Scalar.addi v25 c0_i32_4
  let c4_i32 : BitVec 32 := 4#32
  let v27 : BitVec 32 := Scalar.subi v26 c4_i32
  let v28 : BitVec 32 := Scalar.maxsi c0_i32_5 v27
  let v29 : BitVec 32 := Scalar.minsi c120_i32 v28
  let v52 : BitVec 32 := Scalar.subi v29 v26
  let c8_i32 : BitVec 32 := 8#32
  let v53 : BitVec 32 := Scalar.addi v52 c8_i32
  let c1_i32_14 : BitVec 32 := 1#32
  let v54 : BitVec 32 := Scalar.subi v53 c1_i32_14
  let v106 : BitVec 32 := Scalar.addi v54 c0_i32_60
  let v107 : Index := Scalar.indexCast v106
  let c0_61 : Index := 0#32
  let c0_62 : Index := 0#32
  ![3, v107.toNat, 0, 0]
def k1_mult2 (i : grid1.Coords) : BitVec 32 :=
  let c120_i32_91 : BitVec 32 := 120#32
  let c0_i32_90 : BitVec 32 := 0#32
  let arg2 : BitVec 32 := BitVec.ofNat 32 (i 2).val
  let c32_i32_87 : BitVec 32 := 32#32
  let v158 : BitVec 32 := Scalar.muli arg2 c32_i32_87
  let c1_i32_88 : BitVec 32 := 1#32
  let v159 : BitVec 32 := Scalar.addi v158 c1_i32_88
  let c4_i32_89 : BitVec 32 := 4#32
  let v160 : BitVec 32 := Scalar.subi v159 c4_i32_89
  let v161 : BitVec 32 := Scalar.maxsi c0_i32_90 v160
  let v162 : BitVec 32 := Scalar.minsi c120_i32_91 v161
  let c64_i32_92 : BitVec 32 := 64#32
  let v163 : BitVec 32 := Scalar.muli v162 c64_i32_92
  v163
def k1_mult3 (i : grid1.Coords) : BitVec 32 :=
  let c120_i32_185 : BitVec 32 := 120#32
  let c0_i32_184 : BitVec 32 := 0#32
  let arg2 : BitVec 32 := BitVec.ofNat 32 (i 2).val
  let c32_i32_181 : BitVec 32 := 32#32
  let v291 : BitVec 32 := Scalar.muli arg2 c32_i32_181
  let c2_i32_182 : BitVec 32 := 2#32
  let v292 : BitVec 32 := Scalar.addi v291 c2_i32_182
  let c4_i32_183 : BitVec 32 := 4#32
  let v293 : BitVec 32 := Scalar.subi v292 c4_i32_183
  let v294 : BitVec 32 := Scalar.maxsi c0_i32_184 v293
  let v295 : BitVec 32 := Scalar.minsi c120_i32_185 v294
  let c64_i32_186 : BitVec 32 := 64#32
  let v296 : BitVec 32 := Scalar.muli v295 c64_i32_186
  v296
def k1_mult4 (i : grid1.Coords) : BitVec 32 :=
  let c120_i32_279 : BitVec 32 := 120#32
  let c0_i32_278 : BitVec 32 := 0#32
  let arg2 : BitVec 32 := BitVec.ofNat 32 (i 2).val
  let c32_i32_275 : BitVec 32 := 32#32
  let v424 : BitVec 32 := Scalar.muli arg2 c32_i32_275
  let c3_i32_276 : BitVec 32 := 3#32
  let v425 : BitVec 32 := Scalar.addi v424 c3_i32_276
  let c4_i32_277 : BitVec 32 := 4#32
  let v426 : BitVec 32 := Scalar.subi v425 c4_i32_277
  let v427 : BitVec 32 := Scalar.maxsi c0_i32_278 v426
  let v428 : BitVec 32 := Scalar.minsi c120_i32_279 v427
  let c64_i32_280 : BitVec 32 := 64#32
  let v429 : BitVec 32 := Scalar.muli v428 c64_i32_280
  v429
def k1_mult5 (i : grid1.Coords) : BitVec 32 :=
  let c120_i32_373 : BitVec 32 := 120#32
  let c0_i32_372 : BitVec 32 := 0#32
  let arg2 : BitVec 32 := BitVec.ofNat 32 (i 2).val
  let c32_i32_369 : BitVec 32 := 32#32
  let v557 : BitVec 32 := Scalar.muli arg2 c32_i32_369
  let c4_i32_370 : BitVec 32 := 4#32
  let v558 : BitVec 32 := Scalar.addi v557 c4_i32_370
  let c4_i32_371 : BitVec 32 := 4#32
  let v559 : BitVec 32 := Scalar.subi v558 c4_i32_371
  let v560 : BitVec 32 := Scalar.maxsi c0_i32_372 v559
  let v561 : BitVec 32 := Scalar.minsi c120_i32_373 v560
  let c64_i32_374 : BitVec 32 := 64#32
  let v562 : BitVec 32 := Scalar.muli v561 c64_i32_374
  v562
def k1_mult6 (i : grid1.Coords) : BitVec 32 :=
  let c120_i32_466 : BitVec 32 := 120#32
  let c0_i32_465 : BitVec 32 := 0#32
  let arg2 : BitVec 32 := BitVec.ofNat 32 (i 2).val
  let c32_i32_463 : BitVec 32 := 32#32
  let v690 : BitVec 32 := Scalar.muli arg2 c32_i32_463
  let c5_i32 : BitVec 32 := 5#32
  let v691 : BitVec 32 := Scalar.addi v690 c5_i32
  let c4_i32_464 : BitVec 32 := 4#32
  let v692 : BitVec 32 := Scalar.subi v691 c4_i32_464
  let v693 : BitVec 32 := Scalar.maxsi c0_i32_465 v692
  let v694 : BitVec 32 := Scalar.minsi c120_i32_466 v693
  let c64_i32_467 : BitVec 32 := 64#32
  let v695 : BitVec 32 := Scalar.muli v694 c64_i32_467
  v695
def k1_mult7 (i : grid1.Coords) : BitVec 32 :=
  let c120_i32_560 : BitVec 32 := 120#32
  let c0_i32_559 : BitVec 32 := 0#32
  let arg2 : BitVec 32 := BitVec.ofNat 32 (i 2).val
  let c32_i32_556 : BitVec 32 := 32#32
  let v823 : BitVec 32 := Scalar.muli arg2 c32_i32_556
  let c6_i32_557 : BitVec 32 := 6#32
  let v824 : BitVec 32 := Scalar.addi v823 c6_i32_557
  let c4_i32_558 : BitVec 32 := 4#32
  let v825 : BitVec 32 := Scalar.subi v824 c4_i32_558
  let v826 : BitVec 32 := Scalar.maxsi c0_i32_559 v825
  let v827 : BitVec 32 := Scalar.minsi c120_i32_560 v826
  let c64_i32_561 : BitVec 32 := 64#32
  let v828 : BitVec 32 := Scalar.muli v827 c64_i32_561
  v828
def k1_mult8 (i : grid1.Coords) : BitVec 32 :=
  let c120_i32_653 : BitVec 32 := 120#32
  let c0_i32_652 : BitVec 32 := 0#32
  let arg2 : BitVec 32 := BitVec.ofNat 32 (i 2).val
  let c32_i32_650 : BitVec 32 := 32#32
  let v956 : BitVec 32 := Scalar.muli arg2 c32_i32_650
  let c7_i32 : BitVec 32 := 7#32
  let v957 : BitVec 32 := Scalar.addi v956 c7_i32
  let c4_i32_651 : BitVec 32 := 4#32
  let v958 : BitVec 32 := Scalar.subi v957 c4_i32_651
  let v959 : BitVec 32 := Scalar.maxsi c0_i32_652 v958
  let v960 : BitVec 32 := Scalar.minsi c120_i32_653 v959
  let c64_i32_654 : BitVec 32 := 64#32
  let v961 : BitVec 32 := Scalar.muli v960 c64_i32_654
  v961
def k1_mult9 (i : grid1.Coords) : BitVec 32 :=
  let c120_i32_747 : BitVec 32 := 120#32
  let c0_i32_746 : BitVec 32 := 0#32
  let arg2 : BitVec 32 := BitVec.ofNat 32 (i 2).val
  let c32_i32_743 : BitVec 32 := 32#32
  let v1089 : BitVec 32 := Scalar.muli arg2 c32_i32_743
  let c8_i32_744 : BitVec 32 := 8#32
  let v1090 : BitVec 32 := Scalar.addi v1089 c8_i32_744
  let c4_i32_745 : BitVec 32 := 4#32
  let v1091 : BitVec 32 := Scalar.subi v1090 c4_i32_745
  let v1092 : BitVec 32 := Scalar.maxsi c0_i32_746 v1091
  let v1093 : BitVec 32 := Scalar.minsi c120_i32_747 v1092
  let c64_i32_748 : BitVec 32 := 64#32
  let v1094 : BitVec 32 := Scalar.muli v1093 c64_i32_748
  v1094
def k1_mult10 (i : grid1.Coords) : BitVec 32 :=
  let c120_i32_840 : BitVec 32 := 120#32
  let c0_i32_839 : BitVec 32 := 0#32
  let arg2 : BitVec 32 := BitVec.ofNat 32 (i 2).val
  let c32_i32_837 : BitVec 32 := 32#32
  let v1222 : BitVec 32 := Scalar.muli arg2 c32_i32_837
  let c9_i32 : BitVec 32 := 9#32
  let v1223 : BitVec 32 := Scalar.addi v1222 c9_i32
  let c4_i32_838 : BitVec 32 := 4#32
  let v1224 : BitVec 32 := Scalar.subi v1223 c4_i32_838
  let v1225 : BitVec 32 := Scalar.maxsi c0_i32_839 v1224
  let v1226 : BitVec 32 := Scalar.minsi c120_i32_840 v1225
  let c64_i32_841 : BitVec 32 := 64#32
  let v1227 : BitVec 32 := Scalar.muli v1226 c64_i32_841
  v1227
def k1_mult11 (i : grid1.Coords) : BitVec 32 :=
  let c120_i32_933 : BitVec 32 := 120#32
  let c0_i32_932 : BitVec 32 := 0#32
  let arg2 : BitVec 32 := BitVec.ofNat 32 (i 2).val
  let c32_i32_930 : BitVec 32 := 32#32
  let v1355 : BitVec 32 := Scalar.muli arg2 c32_i32_930
  let c10_i32 : BitVec 32 := 10#32
  let v1356 : BitVec 32 := Scalar.addi v1355 c10_i32
  let c4_i32_931 : BitVec 32 := 4#32
  let v1357 : BitVec 32 := Scalar.subi v1356 c4_i32_931
  let v1358 : BitVec 32 := Scalar.maxsi c0_i32_932 v1357
  let v1359 : BitVec 32 := Scalar.minsi c120_i32_933 v1358
  let c64_i32_934 : BitVec 32 := 64#32
  let v1360 : BitVec 32 := Scalar.muli v1359 c64_i32_934
  v1360
def k1_mult12 (i : grid1.Coords) : BitVec 32 :=
  let c120_i32_1026 : BitVec 32 := 120#32
  let c0_i32_1025 : BitVec 32 := 0#32
  let arg2 : BitVec 32 := BitVec.ofNat 32 (i 2).val
  let c32_i32_1023 : BitVec 32 := 32#32
  let v1488 : BitVec 32 := Scalar.muli arg2 c32_i32_1023
  let c11_i32 : BitVec 32 := 11#32
  let v1489 : BitVec 32 := Scalar.addi v1488 c11_i32
  let c4_i32_1024 : BitVec 32 := 4#32
  let v1490 : BitVec 32 := Scalar.subi v1489 c4_i32_1024
  let v1491 : BitVec 32 := Scalar.maxsi c0_i32_1025 v1490
  let v1492 : BitVec 32 := Scalar.minsi c120_i32_1026 v1491
  let c64_i32_1027 : BitVec 32 := 64#32
  let v1493 : BitVec 32 := Scalar.muli v1492 c64_i32_1027
  v1493
def k1_mult13 (i : grid1.Coords) : BitVec 32 :=
  let c120_i32_1119 : BitVec 32 := 120#32
  let c0_i32_1118 : BitVec 32 := 0#32
  let arg2 : BitVec 32 := BitVec.ofNat 32 (i 2).val
  let c32_i32_1116 : BitVec 32 := 32#32
  let v1621 : BitVec 32 := Scalar.muli arg2 c32_i32_1116
  let c12_i32 : BitVec 32 := 12#32
  let v1622 : BitVec 32 := Scalar.addi v1621 c12_i32
  let c4_i32_1117 : BitVec 32 := 4#32
  let v1623 : BitVec 32 := Scalar.subi v1622 c4_i32_1117
  let v1624 : BitVec 32 := Scalar.maxsi c0_i32_1118 v1623
  let v1625 : BitVec 32 := Scalar.minsi c120_i32_1119 v1624
  let c64_i32_1120 : BitVec 32 := 64#32
  let v1626 : BitVec 32 := Scalar.muli v1625 c64_i32_1120
  v1626
def k1_mult14 (i : grid1.Coords) : BitVec 32 :=
  let c120_i32_1212 : BitVec 32 := 120#32
  let c0_i32_1211 : BitVec 32 := 0#32
  let arg2 : BitVec 32 := BitVec.ofNat 32 (i 2).val
  let c32_i32_1209 : BitVec 32 := 32#32
  let v1754 : BitVec 32 := Scalar.muli arg2 c32_i32_1209
  let c13_i32 : BitVec 32 := 13#32
  let v1755 : BitVec 32 := Scalar.addi v1754 c13_i32
  let c4_i32_1210 : BitVec 32 := 4#32
  let v1756 : BitVec 32 := Scalar.subi v1755 c4_i32_1210
  let v1757 : BitVec 32 := Scalar.maxsi c0_i32_1211 v1756
  let v1758 : BitVec 32 := Scalar.minsi c120_i32_1212 v1757
  let c64_i32_1213 : BitVec 32 := 64#32
  let v1759 : BitVec 32 := Scalar.muli v1758 c64_i32_1213
  v1759
def k1_mult15 (i : grid1.Coords) : BitVec 32 :=
  let c120_i32_1305 : BitVec 32 := 120#32
  let c0_i32_1304 : BitVec 32 := 0#32
  let arg2 : BitVec 32 := BitVec.ofNat 32 (i 2).val
  let c32_i32_1302 : BitVec 32 := 32#32
  let v1887 : BitVec 32 := Scalar.muli arg2 c32_i32_1302
  let c14_i32 : BitVec 32 := 14#32
  let v1888 : BitVec 32 := Scalar.addi v1887 c14_i32
  let c4_i32_1303 : BitVec 32 := 4#32
  let v1889 : BitVec 32 := Scalar.subi v1888 c4_i32_1303
  let v1890 : BitVec 32 := Scalar.maxsi c0_i32_1304 v1889
  let v1891 : BitVec 32 := Scalar.minsi c120_i32_1305 v1890
  let c64_i32_1306 : BitVec 32 := 64#32
  let v1892 : BitVec 32 := Scalar.muli v1891 c64_i32_1306
  v1892
def k1_mult16 (i : grid1.Coords) : BitVec 32 :=
  let c120_i32_1398 : BitVec 32 := 120#32
  let c0_i32_1397 : BitVec 32 := 0#32
  let arg2 : BitVec 32 := BitVec.ofNat 32 (i 2).val
  let c32_i32_1395 : BitVec 32 := 32#32
  let v2020 : BitVec 32 := Scalar.muli arg2 c32_i32_1395
  let c15_i32 : BitVec 32 := 15#32
  let v2021 : BitVec 32 := Scalar.addi v2020 c15_i32
  let c4_i32_1396 : BitVec 32 := 4#32
  let v2022 : BitVec 32 := Scalar.subi v2021 c4_i32_1396
  let v2023 : BitVec 32 := Scalar.maxsi c0_i32_1397 v2022
  let v2024 : BitVec 32 := Scalar.minsi c120_i32_1398 v2023
  let c64_i32_1399 : BitVec 32 := 64#32
  let v2025 : BitVec 32 := Scalar.muli v2024 c64_i32_1399
  v2025
def k1_mult17 (i : grid1.Coords) : BitVec 32 :=
  let c120_i32_1491 : BitVec 32 := 120#32
  let c0_i32_1490 : BitVec 32 := 0#32
  let arg2 : BitVec 32 := BitVec.ofNat 32 (i 2).val
  let c32_i32_1488 : BitVec 32 := 32#32
  let v2153 : BitVec 32 := Scalar.muli arg2 c32_i32_1488
  let c16_i32 : BitVec 32 := 16#32
  let v2154 : BitVec 32 := Scalar.addi v2153 c16_i32
  let c4_i32_1489 : BitVec 32 := 4#32
  let v2155 : BitVec 32 := Scalar.subi v2154 c4_i32_1489
  let v2156 : BitVec 32 := Scalar.maxsi c0_i32_1490 v2155
  let v2157 : BitVec 32 := Scalar.minsi c120_i32_1491 v2156
  let c64_i32_1492 : BitVec 32 := 64#32
  let v2158 : BitVec 32 := Scalar.muli v2157 c64_i32_1492
  v2158
def k1_mult18 (i : grid1.Coords) : BitVec 32 :=
  let c120_i32_1584 : BitVec 32 := 120#32
  let c0_i32_1583 : BitVec 32 := 0#32
  let arg2 : BitVec 32 := BitVec.ofNat 32 (i 2).val
  let c32_i32_1581 : BitVec 32 := 32#32
  let v2286 : BitVec 32 := Scalar.muli arg2 c32_i32_1581
  let c17_i32 : BitVec 32 := 17#32
  let v2287 : BitVec 32 := Scalar.addi v2286 c17_i32
  let c4_i32_1582 : BitVec 32 := 4#32
  let v2288 : BitVec 32 := Scalar.subi v2287 c4_i32_1582
  let v2289 : BitVec 32 := Scalar.maxsi c0_i32_1583 v2288
  let v2290 : BitVec 32 := Scalar.minsi c120_i32_1584 v2289
  let c64_i32_1585 : BitVec 32 := 64#32
  let v2291 : BitVec 32 := Scalar.muli v2290 c64_i32_1585
  v2291
def k1_mult19 (i : grid1.Coords) : BitVec 32 :=
  let c120_i32_1677 : BitVec 32 := 120#32
  let c0_i32_1676 : BitVec 32 := 0#32
  let arg2 : BitVec 32 := BitVec.ofNat 32 (i 2).val
  let c32_i32_1674 : BitVec 32 := 32#32
  let v2419 : BitVec 32 := Scalar.muli arg2 c32_i32_1674
  let c18_i32 : BitVec 32 := 18#32
  let v2420 : BitVec 32 := Scalar.addi v2419 c18_i32
  let c4_i32_1675 : BitVec 32 := 4#32
  let v2421 : BitVec 32 := Scalar.subi v2420 c4_i32_1675
  let v2422 : BitVec 32 := Scalar.maxsi c0_i32_1676 v2421
  let v2423 : BitVec 32 := Scalar.minsi c120_i32_1677 v2422
  let c64_i32_1678 : BitVec 32 := 64#32
  let v2424 : BitVec 32 := Scalar.muli v2423 c64_i32_1678
  v2424
def k1_mult20 (i : grid1.Coords) : BitVec 32 :=
  let c120_i32_1770 : BitVec 32 := 120#32
  let c0_i32_1769 : BitVec 32 := 0#32
  let arg2 : BitVec 32 := BitVec.ofNat 32 (i 2).val
  let c32_i32_1767 : BitVec 32 := 32#32
  let v2552 : BitVec 32 := Scalar.muli arg2 c32_i32_1767
  let c19_i32 : BitVec 32 := 19#32
  let v2553 : BitVec 32 := Scalar.addi v2552 c19_i32
  let c4_i32_1768 : BitVec 32 := 4#32
  let v2554 : BitVec 32 := Scalar.subi v2553 c4_i32_1768
  let v2555 : BitVec 32 := Scalar.maxsi c0_i32_1769 v2554
  let v2556 : BitVec 32 := Scalar.minsi c120_i32_1770 v2555
  let c64_i32_1771 : BitVec 32 := 64#32
  let v2557 : BitVec 32 := Scalar.muli v2556 c64_i32_1771
  v2557
def k1_mult21 (i : grid1.Coords) : BitVec 32 :=
  let c120_i32_1863 : BitVec 32 := 120#32
  let c0_i32_1862 : BitVec 32 := 0#32
  let arg2 : BitVec 32 := BitVec.ofNat 32 (i 2).val
  let c32_i32_1860 : BitVec 32 := 32#32
  let v2685 : BitVec 32 := Scalar.muli arg2 c32_i32_1860
  let c20_i32 : BitVec 32 := 20#32
  let v2686 : BitVec 32 := Scalar.addi v2685 c20_i32
  let c4_i32_1861 : BitVec 32 := 4#32
  let v2687 : BitVec 32 := Scalar.subi v2686 c4_i32_1861
  let v2688 : BitVec 32 := Scalar.maxsi c0_i32_1862 v2687
  let v2689 : BitVec 32 := Scalar.minsi c120_i32_1863 v2688
  let c64_i32_1864 : BitVec 32 := 64#32
  let v2690 : BitVec 32 := Scalar.muli v2689 c64_i32_1864
  v2690
def k1_mult22 (i : grid1.Coords) : BitVec 32 :=
  let c120_i32_1956 : BitVec 32 := 120#32
  let c0_i32_1955 : BitVec 32 := 0#32
  let arg2 : BitVec 32 := BitVec.ofNat 32 (i 2).val
  let c32_i32_1953 : BitVec 32 := 32#32
  let v2818 : BitVec 32 := Scalar.muli arg2 c32_i32_1953
  let c21_i32 : BitVec 32 := 21#32
  let v2819 : BitVec 32 := Scalar.addi v2818 c21_i32
  let c4_i32_1954 : BitVec 32 := 4#32
  let v2820 : BitVec 32 := Scalar.subi v2819 c4_i32_1954
  let v2821 : BitVec 32 := Scalar.maxsi c0_i32_1955 v2820
  let v2822 : BitVec 32 := Scalar.minsi c120_i32_1956 v2821
  let c64_i32_1957 : BitVec 32 := 64#32
  let v2823 : BitVec 32 := Scalar.muli v2822 c64_i32_1957
  v2823
def k1_mult23 (i : grid1.Coords) : BitVec 32 :=
  let c120_i32_2049 : BitVec 32 := 120#32
  let c0_i32_2048 : BitVec 32 := 0#32
  let arg2 : BitVec 32 := BitVec.ofNat 32 (i 2).val
  let c32_i32_2046 : BitVec 32 := 32#32
  let v2951 : BitVec 32 := Scalar.muli arg2 c32_i32_2046
  let c22_i32 : BitVec 32 := 22#32
  let v2952 : BitVec 32 := Scalar.addi v2951 c22_i32
  let c4_i32_2047 : BitVec 32 := 4#32
  let v2953 : BitVec 32 := Scalar.subi v2952 c4_i32_2047
  let v2954 : BitVec 32 := Scalar.maxsi c0_i32_2048 v2953
  let v2955 : BitVec 32 := Scalar.minsi c120_i32_2049 v2954
  let c64_i32_2050 : BitVec 32 := 64#32
  let v2956 : BitVec 32 := Scalar.muli v2955 c64_i32_2050
  v2956
def k1_mult24 (i : grid1.Coords) : BitVec 32 :=
  let c120_i32_2142 : BitVec 32 := 120#32
  let c0_i32_2141 : BitVec 32 := 0#32
  let arg2 : BitVec 32 := BitVec.ofNat 32 (i 2).val
  let c32_i32_2139 : BitVec 32 := 32#32
  let v3084 : BitVec 32 := Scalar.muli arg2 c32_i32_2139
  let c23_i32 : BitVec 32 := 23#32
  let v3085 : BitVec 32 := Scalar.addi v3084 c23_i32
  let c4_i32_2140 : BitVec 32 := 4#32
  let v3086 : BitVec 32 := Scalar.subi v3085 c4_i32_2140
  let v3087 : BitVec 32 := Scalar.maxsi c0_i32_2141 v3086
  let v3088 : BitVec 32 := Scalar.minsi c120_i32_2142 v3087
  let c64_i32_2143 : BitVec 32 := 64#32
  let v3089 : BitVec 32 := Scalar.muli v3088 c64_i32_2143
  v3089
def k1_mult25 (i : grid1.Coords) : BitVec 32 :=
  let c120_i32_2235 : BitVec 32 := 120#32
  let c0_i32_2234 : BitVec 32 := 0#32
  let arg2 : BitVec 32 := BitVec.ofNat 32 (i 2).val
  let c32_i32_2232 : BitVec 32 := 32#32
  let v3217 : BitVec 32 := Scalar.muli arg2 c32_i32_2232
  let c24_i32 : BitVec 32 := 24#32
  let v3218 : BitVec 32 := Scalar.addi v3217 c24_i32
  let c4_i32_2233 : BitVec 32 := 4#32
  let v3219 : BitVec 32 := Scalar.subi v3218 c4_i32_2233
  let v3220 : BitVec 32 := Scalar.maxsi c0_i32_2234 v3219
  let v3221 : BitVec 32 := Scalar.minsi c120_i32_2235 v3220
  let c64_i32_2236 : BitVec 32 := 64#32
  let v3222 : BitVec 32 := Scalar.muli v3221 c64_i32_2236
  v3222
def k1_mult26 (i : grid1.Coords) : BitVec 32 :=
  let c120_i32_2328 : BitVec 32 := 120#32
  let c0_i32_2327 : BitVec 32 := 0#32
  let arg2 : BitVec 32 := BitVec.ofNat 32 (i 2).val
  let c32_i32_2325 : BitVec 32 := 32#32
  let v3350 : BitVec 32 := Scalar.muli arg2 c32_i32_2325
  let c25_i32 : BitVec 32 := 25#32
  let v3351 : BitVec 32 := Scalar.addi v3350 c25_i32
  let c4_i32_2326 : BitVec 32 := 4#32
  let v3352 : BitVec 32 := Scalar.subi v3351 c4_i32_2326
  let v3353 : BitVec 32 := Scalar.maxsi c0_i32_2327 v3352
  let v3354 : BitVec 32 := Scalar.minsi c120_i32_2328 v3353
  let c64_i32_2329 : BitVec 32 := 64#32
  let v3355 : BitVec 32 := Scalar.muli v3354 c64_i32_2329
  v3355
def k1_mult27 (i : grid1.Coords) : BitVec 32 :=
  let c120_i32_2421 : BitVec 32 := 120#32
  let c0_i32_2420 : BitVec 32 := 0#32
  let arg2 : BitVec 32 := BitVec.ofNat 32 (i 2).val
  let c32_i32_2418 : BitVec 32 := 32#32
  let v3483 : BitVec 32 := Scalar.muli arg2 c32_i32_2418
  let c26_i32 : BitVec 32 := 26#32
  let v3484 : BitVec 32 := Scalar.addi v3483 c26_i32
  let c4_i32_2419 : BitVec 32 := 4#32
  let v3485 : BitVec 32 := Scalar.subi v3484 c4_i32_2419
  let v3486 : BitVec 32 := Scalar.maxsi c0_i32_2420 v3485
  let v3487 : BitVec 32 := Scalar.minsi c120_i32_2421 v3486
  let c64_i32_2422 : BitVec 32 := 64#32
  let v3488 : BitVec 32 := Scalar.muli v3487 c64_i32_2422
  v3488
def k1_mult28 (i : grid1.Coords) : BitVec 32 :=
  let c120_i32_2514 : BitVec 32 := 120#32
  let c0_i32_2513 : BitVec 32 := 0#32
  let arg2 : BitVec 32 := BitVec.ofNat 32 (i 2).val
  let c32_i32_2511 : BitVec 32 := 32#32
  let v3616 : BitVec 32 := Scalar.muli arg2 c32_i32_2511
  let c27_i32 : BitVec 32 := 27#32
  let v3617 : BitVec 32 := Scalar.addi v3616 c27_i32
  let c4_i32_2512 : BitVec 32 := 4#32
  let v3618 : BitVec 32 := Scalar.subi v3617 c4_i32_2512
  let v3619 : BitVec 32 := Scalar.maxsi c0_i32_2513 v3618
  let v3620 : BitVec 32 := Scalar.minsi c120_i32_2514 v3619
  let c64_i32_2515 : BitVec 32 := 64#32
  let v3621 : BitVec 32 := Scalar.muli v3620 c64_i32_2515
  v3621
def k1_mult29 (i : grid1.Coords) : BitVec 32 :=
  let c120_i32_2607 : BitVec 32 := 120#32
  let c0_i32_2606 : BitVec 32 := 0#32
  let arg2 : BitVec 32 := BitVec.ofNat 32 (i 2).val
  let c32_i32_2604 : BitVec 32 := 32#32
  let v3749 : BitVec 32 := Scalar.muli arg2 c32_i32_2604
  let c28_i32 : BitVec 32 := 28#32
  let v3750 : BitVec 32 := Scalar.addi v3749 c28_i32
  let c4_i32_2605 : BitVec 32 := 4#32
  let v3751 : BitVec 32 := Scalar.subi v3750 c4_i32_2605
  let v3752 : BitVec 32 := Scalar.maxsi c0_i32_2606 v3751
  let v3753 : BitVec 32 := Scalar.minsi c120_i32_2607 v3752
  let c64_i32_2608 : BitVec 32 := 64#32
  let v3754 : BitVec 32 := Scalar.muli v3753 c64_i32_2608
  v3754
def k1_mult30 (i : grid1.Coords) : BitVec 32 :=
  let c120_i32_2700 : BitVec 32 := 120#32
  let c0_i32_2699 : BitVec 32 := 0#32
  let arg2 : BitVec 32 := BitVec.ofNat 32 (i 2).val
  let c32_i32_2697 : BitVec 32 := 32#32
  let v3882 : BitVec 32 := Scalar.muli arg2 c32_i32_2697
  let c29_i32 : BitVec 32 := 29#32
  let v3883 : BitVec 32 := Scalar.addi v3882 c29_i32
  let c4_i32_2698 : BitVec 32 := 4#32
  let v3884 : BitVec 32 := Scalar.subi v3883 c4_i32_2698
  let v3885 : BitVec 32 := Scalar.maxsi c0_i32_2699 v3884
  let v3886 : BitVec 32 := Scalar.minsi c120_i32_2700 v3885
  let c64_i32_2701 : BitVec 32 := 64#32
  let v3887 : BitVec 32 := Scalar.muli v3886 c64_i32_2701
  v3887
def k1_mult31 (i : grid1.Coords) : BitVec 32 :=
  let c120_i32_2793 : BitVec 32 := 120#32
  let c0_i32_2792 : BitVec 32 := 0#32
  let arg2 : BitVec 32 := BitVec.ofNat 32 (i 2).val
  let c32_i32_2790 : BitVec 32 := 32#32
  let v4015 : BitVec 32 := Scalar.muli arg2 c32_i32_2790
  let c30_i32 : BitVec 32 := 30#32
  let v4016 : BitVec 32 := Scalar.addi v4015 c30_i32
  let c4_i32_2791 : BitVec 32 := 4#32
  let v4017 : BitVec 32 := Scalar.subi v4016 c4_i32_2791
  let v4018 : BitVec 32 := Scalar.maxsi c0_i32_2792 v4017
  let v4019 : BitVec 32 := Scalar.minsi c120_i32_2793 v4018
  let c64_i32_2794 : BitVec 32 := 64#32
  let v4020 : BitVec 32 := Scalar.muli v4019 c64_i32_2794
  v4020
def k1_mult32 (i : grid1.Coords) : BitVec 32 :=
  let c120_i32_2886 : BitVec 32 := 120#32
  let c0_i32_2885 : BitVec 32 := 0#32
  let arg2 : BitVec 32 := BitVec.ofNat 32 (i 2).val
  let c32_i32_2883 : BitVec 32 := 32#32
  let v4148 : BitVec 32 := Scalar.muli arg2 c32_i32_2883
  let c31_i32 : BitVec 32 := 31#32
  let v4149 : BitVec 32 := Scalar.addi v4148 c31_i32
  let c4_i32_2884 : BitVec 32 := 4#32
  let v4150 : BitVec 32 := Scalar.subi v4149 c4_i32_2884
  let v4151 : BitVec 32 := Scalar.maxsi c0_i32_2885 v4150
  let v4152 : BitVec 32 := Scalar.minsi c120_i32_2886 v4151
  let c64_i32_2887 : BitVec 32 := 64#32
  let v4153 : BitVec 32 := Scalar.muli v4152 c64_i32_2887
  v4153
def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![arg1.toNat, v1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![v0.toNat, arg0.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![v0.toNat, arg0.toNat, c0_i32.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![arg1.toNat, v1.toNat, c0_i32.toNat]

abbrev stage1_0 : Fin 2 → Memref sig .tc .vmem S1x2048x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x8192x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x8192x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S4x14x64x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S1x2048x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S16x16384x256 : Shape := ⟨3, ![16, 16384, 256]⟩
abbrev S16x15x31 : Shape := ⟨3, ![16, 15, 31]⟩
abbrev S4x16384x256 : Shape := ⟨3, ![4, 16384, 256]⟩
abbrev S4x2x8192x4x64 : Shape := ⟨5, ![4, 2, 8192, 4, 64]⟩
abbrev S4x2x4x8192x8192 : Shape := ⟨5, ![4, 2, 4, 8192, 8192]⟩
abbrev S_ : Shape := ⟨0, ![]⟩
abbrev S128x64 : Shape := ⟨2, ![128, 64]⟩
abbrev S8192x1 : Shape := ⟨2, ![8192, 1]⟩
abbrev S1x8192 : Shape := ⟨2, ![1, 8192]⟩
abbrev S8192x8192 : Shape := ⟨2, ![8192, 8192]⟩
abbrev S8192x8192x1 : Shape := ⟨3, ![8192, 8192, 1]⟩
abbrev S8192x8192x2 : Shape := ⟨3, ![8192, 8192, 2]⟩
abbrev S16x8192x8192 : Shape := ⟨3, ![16, 8192, 8192]⟩
abbrev S4x1x4x8192x8192 : Shape := ⟨5, ![4, 1, 4, 8192, 8192]⟩
abbrev S4x2x4x8192 : Shape := ⟨4, ![4, 2, 4, 8192]⟩
abbrev S4x2x4x8192x1 : Shape := ⟨5, ![4, 2, 4, 8192, 1]⟩
abbrev S4x2x4x8192x64 : Shape := ⟨5, ![4, 2, 4, 8192, 64]⟩

abbrev nBuf : Space → Nat
  | .hbm => 134
  | .vmem => 0
  | .smem => 0
  | _ => 0

abbrev hbmTy0_0 (i : Nat) : BufTy := match i % 128 with
  | 0 => ⟨S16x16384x256, .bf16⟩
  | 1 => ⟨S16x15x31, .f32⟩
  | 2 => ⟨S4x16384x256, .bf16⟩
  | 3 => ⟨S4x16384x256, .f32⟩
  | 4 => ⟨S4x2x8192x4x64, .f32⟩
  | 5 => ⟨S4x16384x256, .bf16⟩
  | 6 => ⟨S4x16384x256, .f32⟩
  | 7 => ⟨S4x2x8192x4x64, .f32⟩
  | 8 => ⟨S4x16384x256, .bf16⟩
  | 9 => ⟨S4x16384x256, .f32⟩
  | 10 => ⟨S4x2x8192x4x64, .f32⟩
  | 11 => ⟨S4x2x4x8192x8192, .f32⟩
  | 12 => ⟨S_, .f32⟩
  | 13 => ⟨S_, .f32⟩
  | 14 => ⟨S4x2x4x8192x8192, .f32⟩
  | 15 => ⟨S4x2x4x8192x8192, .f32⟩
  | 16 => ⟨S128x64, .i32⟩
  | 17 => ⟨S8192x1, .i32⟩
  | 18 => ⟨S1x8192, .i32⟩
  | 19 => ⟨S_, .i32⟩
  | 20 => ⟨S8192x1, .i32⟩
  | 21 => ⟨S8192x1, .i32⟩
  | 22 => ⟨S_, .i32⟩
  | 23 => ⟨S8192x1, .i32⟩
  | 24 => ⟨S8192x1, .i32⟩
  | 25 => ⟨S_, .i32⟩
  | 26 => ⟨S8192x1, .i32⟩
  | 27 => ⟨S8192x1, .i32⟩
  | 28 => ⟨S8192x8192, .i32⟩
  | 29 => ⟨S8192x8192, .i32⟩
  | 30 => ⟨S8192x8192, .i32⟩
  | 31 => ⟨S_, .i32⟩
  | 32 => ⟨S8192x8192, .i32⟩
  | 33 => ⟨S8192x8192, .i32⟩
  | 34 => ⟨S_, .i32⟩
  | 35 => ⟨S8192x8192, .i32⟩
  | 36 => ⟨S8192x8192, .i32⟩
  | 37 => ⟨S_, .i32⟩
  | 38 => ⟨S8192x8192, .i32⟩
  | 39 => ⟨S8192x8192, .i32⟩
  | 40 => ⟨S_, .i32⟩
  | 41 => ⟨S8192x8192, .i32⟩
  | 42 => ⟨S8192x8192, .i32⟩
  | 43 => ⟨S8192x8192, .i32⟩
  | 44 => ⟨S8192x8192, .i32⟩
  | 45 => ⟨S8192x8192, .i1⟩
  | 46 => ⟨S_, .i32⟩
  | 47 => ⟨S8192x1, .i32⟩
  | 48 => ⟨S8192x1, .i32⟩
  | 49 => ⟨S8192x8192, .i32⟩
  | 50 => ⟨S8192x8192, .i32⟩
  | 51 => ⟨S8192x8192, .i1⟩
  | 52 => ⟨S8192x8192, .i1⟩
  | 53 => ⟨S128x64, .i32⟩
  | 54 => ⟨S8192x1, .i32⟩
  | 55 => ⟨S1x8192, .i32⟩
  | 56 => ⟨S_, .i32⟩
  | 57 => ⟨S8192x1, .i32⟩
  | 58 => ⟨S8192x1, .i32⟩
  | 59 => ⟨S_, .i32⟩
  | 60 => ⟨S8192x1, .i32⟩
  | 61 => ⟨S8192x1, .i32⟩
  | 62 => ⟨S_, .i32⟩
  | 63 => ⟨S8192x1, .i32⟩
  | 64 => ⟨S8192x1, .i32⟩
  | 65 => ⟨S8192x8192, .i32⟩
  | 66 => ⟨S8192x8192, .i32⟩
  | 67 => ⟨S8192x8192, .i32⟩
  | 68 => ⟨S_, .i32⟩
  | 69 => ⟨S8192x8192, .i32⟩
  | 70 => ⟨S8192x8192, .i32⟩
  | 71 => ⟨S_, .i32⟩
  | 72 => ⟨S8192x8192, .i32⟩
  | 73 => ⟨S8192x8192, .i32⟩
  | 74 => ⟨S_, .i32⟩
  | 75 => ⟨S8192x8192, .i32⟩
  | 76 => ⟨S8192x8192, .i32⟩
  | 77 => ⟨S_, .i32⟩
  | 78 => ⟨S8192x8192, .i32⟩
  | 79 => ⟨S8192x8192, .i32⟩
  | 80 => ⟨S8192x8192, .i32⟩
  | 81 => ⟨S8192x8192, .i32⟩
  | 82 => ⟨S8192x8192, .i1⟩
  | 83 => ⟨S_, .i32⟩
  | 84 => ⟨S8192x1, .i32⟩
  | 85 => ⟨S8192x1, .i32⟩
  | 86 => ⟨S8192x8192, .i32⟩
  | 87 => ⟨S8192x8192, .i32⟩
  | 88 => ⟨S8192x8192, .i1⟩
  | 89 => ⟨S8192x8192, .i1⟩
  | 90 => ⟨S_, .i32⟩
  | 91 => ⟨S8192x8192, .i32⟩
  | 92 => ⟨S8192x8192, .i1⟩
  | 93 => ⟨S_, .i32⟩
  | 94 => ⟨S8192x8192, .i32⟩
  | 95 => ⟨S8192x8192, .i32⟩
  | 96 => ⟨S8192x8192, .i32⟩
  | 97 => ⟨S_, .i32⟩
  | 98 => ⟨S8192x8192, .i32⟩
  | 99 => ⟨S8192x8192, .i1⟩
  | 100 => ⟨S_, .i32⟩
  | 101 => ⟨S8192x8192, .i32⟩
  | 102 => ⟨S8192x8192, .i32⟩
  | 103 => ⟨S8192x8192, .i32⟩
  | 104 => ⟨S8192x8192x1, .i32⟩
  | 105 => ⟨S8192x8192x1, .i32⟩
  | 106 => ⟨S8192x8192x2, .i32⟩
  | 107 => ⟨S16x8192x8192, .f32⟩
  | 108 => ⟨S4x1x4x8192x8192, .f32⟩
  | 109 => ⟨S8192x8192, .i1⟩
  | 110 => ⟨S4x2x4x8192x8192, .i1⟩
  | 111 => ⟨S4x2x4x8192x8192, .f32⟩
  | 112 => ⟨S4x2x4x8192x8192, .f32⟩
  | 113 => ⟨S_, .f32⟩
  | 114 => ⟨S4x2x4x8192x8192, .f32⟩
  | 115 => ⟨S4x2x4x8192x8192, .f32⟩
  | 116 => ⟨S_, .f32⟩
  | 117 => ⟨S4x2x4x8192, .f32⟩
  | 118 => ⟨S_, .f32⟩
  | 119 => ⟨S4x2x4x8192, .f32⟩
  | 120 => ⟨S4x2x4x8192, .f32⟩
  | 121 => ⟨S4x2x4x8192x1, .f32⟩
  | 122 => ⟨S4x2x4x8192x8192, .f32⟩
  | 123 => ⟨S4x2x4x8192x8192, .f32⟩
  | 124 => ⟨S4x2x4x8192x8192, .f32⟩
  | 125 => ⟨S_, .f32⟩
  | 126 => ⟨S4x2x4x8192, .f32⟩
  | 127 => ⟨S4x2x4x8192x1, .f32⟩
  | _ => ⟨S16x16384x256, .bf16⟩

abbrev hbmTy0_1 (i : Nat) : BufTy := match i % 128 with
  | 0 => ⟨S4x2x4x8192x8192, .f32⟩
  | 1 => ⟨S4x2x4x8192x8192, .f32⟩
  | 2 => ⟨S4x2x4x8192x64, .f32⟩
  | 3 => ⟨S4x2x8192x4x64, .f32⟩
  | 4 => ⟨S4x16384x256, .f32⟩
  | 5 => ⟨S4x16384x256, .bf16⟩
  | _ => ⟨S16x16384x256, .bf16⟩

abbrev hbmTy (i : Nat) : BufTy := match i / 128 with
  | 0 => hbmTy0_0 i
  | 1 => hbmTy0_1 i
  | _ => ⟨S16x16384x256, .bf16⟩

abbrev bufTy : (tb : Table) → Fin (tcTables nBuf tb) → BufTy
  | .hbm, ⟨i, _⟩ => hbmTy i
  | _, _ => ⟨S16x16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c : Ref sig .tc := ⟨.hbm, 19, rfl⟩
abbrev main_v16 : Ref sig .tc := ⟨.hbm, 20, rfl⟩
abbrev main_v17 : Ref sig .tc := ⟨.hbm, 21, rfl⟩
abbrev main_c_0 : Ref sig .tc := ⟨.hbm, 22, rfl⟩
abbrev main_v18 : Ref sig .tc := ⟨.hbm, 23, rfl⟩
abbrev main_v19 : Ref sig .tc := ⟨.hbm, 24, rfl⟩
abbrev main_c_1 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_c_2 : Ref sig .tc := ⟨.hbm, 31, rfl⟩
abbrev main_v25 : Ref sig .tc := ⟨.hbm, 32, rfl⟩
abbrev main_v26 : Ref sig .tc := ⟨.hbm, 33, rfl⟩
abbrev main_c_3 : Ref sig .tc := ⟨.hbm, 34, rfl⟩
abbrev main_v27 : Ref sig .tc := ⟨.hbm, 35, rfl⟩
abbrev main_v28 : Ref sig .tc := ⟨.hbm, 36, rfl⟩
abbrev main_c_4 : Ref sig .tc := ⟨.hbm, 37, rfl⟩
abbrev main_v29 : Ref sig .tc := ⟨.hbm, 38, rfl⟩
abbrev main_v30 : Ref sig .tc := ⟨.hbm, 39, rfl⟩
abbrev main_c_5 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_c_6 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_c_7 : Ref sig .tc := ⟨.hbm, 56, rfl⟩
abbrev main_v45 : Ref sig .tc := ⟨.hbm, 57, rfl⟩
abbrev main_v46 : Ref sig .tc := ⟨.hbm, 58, rfl⟩
abbrev main_c_8 : Ref sig .tc := ⟨.hbm, 59, rfl⟩
abbrev main_v47 : Ref sig .tc := ⟨.hbm, 60, rfl⟩
abbrev main_v48 : Ref sig .tc := ⟨.hbm, 61, rfl⟩
abbrev main_c_9 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_c_10 : Ref sig .tc := ⟨.hbm, 68, rfl⟩
abbrev main_v54 : Ref sig .tc := ⟨.hbm, 69, rfl⟩
abbrev main_v55 : Ref sig .tc := ⟨.hbm, 70, rfl⟩
abbrev main_c_11 : Ref sig .tc := ⟨.hbm, 71, rfl⟩
abbrev main_v56 : Ref sig .tc := ⟨.hbm, 72, rfl⟩
abbrev main_v57 : Ref sig .tc := ⟨.hbm, 73, rfl⟩
abbrev main_c_12 : Ref sig .tc := ⟨.hbm, 74, rfl⟩
abbrev main_v58 : Ref sig .tc := ⟨.hbm, 75, rfl⟩
abbrev main_v59 : Ref sig .tc := ⟨.hbm, 76, rfl⟩
abbrev main_c_13 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_c_14 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_c_15 : Ref sig .tc := ⟨.hbm, 90, rfl⟩
abbrev main_v71 : Ref sig .tc := ⟨.hbm, 91, rfl⟩
abbrev main_v72 : Ref sig .tc := ⟨.hbm, 92, rfl⟩
abbrev main_c_16 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_c_17 : Ref sig .tc := ⟨.hbm, 97, rfl⟩
abbrev main_v76 : Ref sig .tc := ⟨.hbm, 98, rfl⟩
abbrev main_v77 : Ref sig .tc := ⟨.hbm, 99, rfl⟩
abbrev main_c_18 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_cst_19 : Ref sig .tc := ⟨.hbm, 113, rfl⟩
abbrev main_v90 : Ref sig .tc := ⟨.hbm, 114, rfl⟩
abbrev main_v91 : Ref sig .tc := ⟨.hbm, 115, rfl⟩
abbrev main_cst_20 : Ref sig .tc := ⟨.hbm, 116, rfl⟩
abbrev main_v92 : Ref sig .tc := ⟨.hbm, 117, rfl⟩
abbrev main_cst_21 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_cst_22 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩

abbrev nD : Nat := 1
abbrev τ : Topo := Topo.v7x

variable {F : FTy → Type} [FloatOps F]
-- ==== NormProj.lean ====
abbrev S16384x1024 : Shape := ⟨2, ![16384, 1024]⟩
abbrev S1024 : Shape := ⟨1, ![1024]⟩
abbrev S1024x4096 : Shape := ⟨2, ![1024, 4096]⟩
abbrev S1x1024 : Shape := ⟨2, ![1, 1024]⟩
abbrev S16x16384x256 : Shape := ⟨3, ![16, 16384, 256]⟩
abbrev S512x1024 : Shape := ⟨2, ![512, 1024]⟩
abbrev S1024x1024 : Shape := ⟨2, ![1024, 1024]⟩
abbrev S4x2048x256 : Shape := ⟨3, ![4, 2048, 256]⟩
abbrev S2x2048x1024 : Shape := ⟨3, ![2, 2048, 1024]⟩
abbrev S512 : Shape := ⟨1, ![512]⟩
abbrev S512x1 : Shape := ⟨2, ![512, 1]⟩
abbrev S1x512x1024 : Shape := ⟨3, ![1, 512, 1024]⟩
abbrev S1x2048x1024 : Shape := ⟨3, ![1, 2048, 1024]⟩
abbrev S2048x1024 : Shape := ⟨2, ![2048, 1024]⟩
abbrev S2048x256 : Shape := ⟨2, ![2048, 256]⟩
abbrev S1x2048x256 : Shape := ⟨3, ![1, 2048, 256]⟩

abbrev nBuf : Space → Nat
  | .hbm => 5
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S1x1024, .f32⟩
  | .hbm, ⟨4, _⟩ => ⟨S16x16384x256, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S4x2048x256, .bf16⟩
  | .local _ .vmem, ⟨6, _⟩ => ⟨S4x2048x256, .bf16⟩
  | .local _ .vmem, ⟨7, _⟩ => ⟨S2x2048x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![9, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg1 : BitVec 32 := BitVec.ofNat 32 (i 1).val
  let c512_i32 : BitVec 32 := 512#32
  let v6 : BitVec 32 := Scalar.muli arg1 c512_i32
  v6
def k0_off1 (i : grid0.Coords) : Fin 3 → Nat :=
  let arg0 : BitVec 32 := BitVec.ofNat 32 (i 0).val
  let c2_i32 : BitVec 32 := 2#32
  let c0_i32_8 : BitVec 32 := 0#32
  let v24 : BitVec 1 := Scalar.cmpi .eq c2_i32 c0_i32_8
  let c1_i32 : BitVec 32 := 1#32
  let v25 : BitVec 32 := Scalar.select v24 c1_i32 c2_i32
  let v26 : BitVec 32 := Scalar.remsi arg0 v25
  let c0_i32_10 : BitVec 32 := 0#32
  let v28 : BitVec 1 := Scalar.cmpi .slt v26 c0_i32_10
  let c0_i32_11 : BitVec 32 := 0#32
  let v29 : BitVec 1 := Scalar.cmpi .slt v25 c0_i32_11
  let v30 : BitVec 1 := Scalar.xori v28 v29
  let c0_i32_9 : BitVec 32 := 0#32
  let v27 : BitVec 1 := Scalar.cmpi .ne v26 c0_i32_9
  let v31 : BitVec 1 := Scalar.andi v30 v27
  let v32 : BitVec 32 := Scalar.addi v26 v25
  let v33 : BitVec 32 := Scalar.select v31 v32 v26
  let v34 : Index := Scalar.indexCast v33
  let arg1 : BitVec 32 := BitVec.ofNat 32 (i 1).val
  let c512_i32 : BitVec 32 := 512#32
  let v6 : BitVec 32 := Scalar.muli arg1 c512_i32
  let v7 : BitVec 32 := v6
  let v35 : Index := Scalar.indexCast v7
  let c0_12 : Index := 0#32
  ![v34.toNat, v35.toNat, 0]
def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def k0_off2 (i : grid0.Coords) : Fin 3 → Nat :=
  let arg0 : BitVec 32 := BitVec.ofNat 32 (i 0).val
  let c1_i32 : BitVec 32 := 1#32
  let v6 : BitVec 32 := Scalar.subi arg0 c1_i32
  let c2_i32 : BitVec 32 := 2#32
  let c0_i32_3 : BitVec 32 := 0#32
  let v7 : BitVec 1 := Scalar.cmpi .eq c2_i32 c0_i32_3
  let c1_i32_4 : BitVec 32 := 1#32
  let v8 : BitVec 32 := Scalar.select v7 c1_i32_4 c2_i32
  let v9 : BitVec 32 := Scalar.remsi v6 v8
  let c0_i32_6 : BitVec 32 := 0#32
  let v11 : BitVec 1 := Scalar.cmpi .slt v9 c0_i32_6
  let c0_i32_7 : BitVec 32 := 0#32
  let v12 : BitVec 1 := Scalar.cmpi .slt v8 c0_i32_7
  let v13 : BitVec 1 := Scalar.xori v11 v12
  let c0_i32_5 : BitVec 32 := 0#32
  let v10 : BitVec 1 := Scalar.cmpi .ne v9 c0_i32_5
  let v14 : BitVec 1 := Scalar.andi v13 v10
  let v15 : BitVec 32 := Scalar.addi v9 v8
  let v16 : BitVec 32 := Scalar.select v14 v15 v9
  let v17 : Index := Scalar.indexCast v16
  let c0 : Index := 0#32
  let c0_8 : Index := 0#32
  ![v17.toNat, 0, 0]
def k0_mult2 (i : grid0.Coords) : BitVec 32 :=
  let arg1 : BitVec 32 := BitVec.ofNat 32 (i 1).val
  let c512_i32 : BitVec 32 := 512#32
  let v44 : BitVec 32 := Scalar.muli arg1 c512_i32
  v44
def k0_off3 (i : grid0.Coords) : Fin 3 → Nat :=
  let arg0 : BitVec 32 := BitVec.ofNat 32 (i 0).val
  let c2_i32_30 : BitVec 32 := 2#32
  let c0_i32_31 : BitVec 32 := 0#32
  let v62 : BitVec 1 := Scalar.cmpi .eq c2_i32_30 c0_i32_31
  let c1_i32_32 : BitVec 32 := 1#32
  let v63 : BitVec 32 := Scalar.select v62 c1_i32_32 c2_i32_30
  let v64 : BitVec 32 := Scalar.remsi arg0 v63
  let c0_i32_34 : BitVec 32 := 0#32
  let v66 : BitVec 1 := Scalar.cmpi .slt v64 c0_i32_34
  let c0_i32_35 : BitVec 32 := 0#32
  let v67 : BitVec 1 := Scalar.cmpi .slt v63 c0_i32_35
  let v68 : BitVec 1 := Scalar.xori v66 v67
  let c0_i32_33 : BitVec 32 := 0#32
  let v65 : BitVec 1 := Scalar.cmpi .ne v64 c0_i32_33
  let v69 : BitVec 1 := Scalar.andi v68 v65
  let v70 : BitVec 32 := Scalar.addi v64 v63
  let v71 : BitVec 32 := Scalar.select v69 v70 v64
  let v72 : Index := Scalar.indexCast v71
  let arg1 : BitVec 32 := BitVec.ofNat 32 (i 1).val
  let c512_i32 : BitVec 32 := 512#32
  let v44 : BitVec 32 := Scalar.muli arg1 c512_i32
  let v45 : BitVec 32 := v44
  let v73 : Index := Scalar.indexCast v45
  let c0_36 : Index := 0#32
  ![v72.toNat, v73.toNat, 0]
def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  let c0_i32_3 : BitVec 32 := 0#32
  ![v1.toNat, v3.toNat, c0_i32_2.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== NormProjIdeal.lean ====
variable {F : FTy → Type} [FloatOps F] [Named F]
def κ : String → Option EReal := fun
  | "q_scale" => some (((Real.log 256)⁻¹ : ℝ) : EReal)
  | _ => none
-- ==== NormProjRefIdeal.lean ====
abbrev S16384x1024 : Shape := ⟨2, ![16384, 1024]⟩
abbrev S1024 : Shape := ⟨1, ![1024]⟩
abbrev S1024x4096 : Shape := ⟨2, ![1024, 4096]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩
abbrev S16384x16x256 : Shape := ⟨3, ![16384, 16, 256]⟩
abbrev S16x16384x256 : Shape := ⟨3, ![16, 16384, 256]⟩

abbrev nBuf : Space → Nat
  | .hbm => 34
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x4096, .f32⟩
  | .hbm, ⟨20, _⟩ => ⟨S16384x4096, .i32⟩
  | .hbm, ⟨21, _⟩ => ⟨S_, .i32⟩
  | .hbm, ⟨22, _⟩ => ⟨S16384x4096, .i32⟩
  | .hbm, ⟨23, _⟩ => ⟨S16384x4096, .i1⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S16384x4096, .f32⟩
  | .hbm, ⟨29, _⟩ => ⟨S16384x4096, .f32⟩
  | .hbm, ⟨30, _⟩ => ⟨S16384x4096, .f32⟩
  | .hbm, ⟨31, _⟩ => ⟨S16384x16x256, .f32⟩
  | .hbm, ⟨32, _⟩ => ⟨S16x16384x256, .f32⟩
  | .hbm, ⟨33, _⟩ => ⟨S16x16384x256, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== OutProj.lean ====
abbrev S4x16384x256 : Shape := ⟨3, ![4, 16384, 256]⟩
abbrev S16x16384x256 : Shape := ⟨3, ![16, 16384, 256]⟩
abbrev S2x8192x1024 : Shape := ⟨3, ![2, 8192, 1024]⟩
abbrev S1024x1024 : Shape := ⟨2, ![1024, 1024]⟩
abbrev S1024 : Shape := ⟨1, ![1024]⟩
abbrev S1x1024 : Shape := ⟨2, ![1, 1024]⟩
abbrev S2x1x8192x1024 : Shape := ⟨4, ![2, 1, 8192, 1024]⟩
abbrev S2x4x2048x1024 : Shape := ⟨4, ![2, 4, 2048, 1024]⟩
abbrev S2x16x512x1024 : Shape := ⟨4, ![2, 16, 512, 1024]⟩
abbrev S4x1024x256 : Shape := ⟨3, ![4, 1024, 256]⟩
abbrev S1x1024x1024 : Shape := ⟨3, ![1, 1024, 1024]⟩
abbrev S1x1x1024x1024 : Shape := ⟨4, ![1, 1, 1024, 1024]⟩
abbrev S1x4x256x1024 : Shape := ⟨4, ![1, 4, 256, 1024]⟩
abbrev S1x16x64x1024 : Shape := ⟨4, ![1, 16, 64, 1024]⟩
abbrev S8x1024x128 : Shape := ⟨3, ![8, 1024, 128]⟩
abbrev S1x1024x256 : Shape := ⟨3, ![1, 1024, 256]⟩
abbrev S1024x256 : Shape := ⟨2, ![1024, 256]⟩
abbrev S1024x1 : Shape := ⟨2, ![1024, 1]⟩
abbrev S1024x128 : Shape := ⟨2, ![1024, 128]⟩
abbrev S1x1024x128 : Shape := ⟨3, ![1, 1024, 128]⟩
abbrev S1x256x128 : Shape := ⟨3, ![1, 256, 128]⟩
abbrev S256x128 : Shape := ⟨2, ![256, 128]⟩
abbrev S1x1x256x128 : Shape := ⟨4, ![1, 1, 256, 128]⟩
abbrev S1x64x128 : Shape := ⟨3, ![1, 64, 128]⟩
abbrev S64x128 : Shape := ⟨2, ![64, 128]⟩
abbrev S1x1x64x128 : Shape := ⟨4, ![1, 1, 64, 128]⟩

abbrev nBuf : Space → Nat
  | .hbm => 10
  | .vmem => 18
  | .smem => 0
  | _ => 0

abbrev bufTy : (tb : Table) → Fin (tcTables nBuf tb) → BufTy
  | .hbm, ⟨0, _⟩ => ⟨S4x16384x256, .bf16⟩
  | .hbm, ⟨1, _⟩ => ⟨S16x16384x256, .bf16⟩
  | .hbm, ⟨2, _⟩ => ⟨S2x8192x1024, .f32⟩
  | .hbm, ⟨3, _⟩ => ⟨S1024x1024, .bf16⟩
  | .hbm, ⟨4, _⟩ => ⟨S1024, .f32⟩
  | .hbm, ⟨5, _⟩ => ⟨S1x1024, .f32⟩
  | .hbm, ⟨6, _⟩ => ⟨S2x8192x1024, .f32⟩
  | .hbm, ⟨7, _⟩ => ⟨S2x1x8192x1024, .bf16⟩
  | .hbm, ⟨8, _⟩ => ⟨S2x4x2048x1024, .bf16⟩
  | .hbm, ⟨9, _⟩ => ⟨S2x16x512x1024, .bf16⟩
  | .local _ .vmem, ⟨0, _⟩ => ⟨S4x1024x256, .bf16⟩
  | .local _ .vmem, ⟨1, _⟩ => ⟨S4x1024x256, .bf16⟩
  | .local _ .vmem, ⟨2, _⟩ => ⟨S4x1024x256, .bf16⟩
  | .local _ .vmem, ⟨3, _⟩ => ⟨S4x1024x256, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S1x1x1024x1024, .bf16⟩
  | .local _ .vmem, ⟨11, _⟩ => ⟨S1x1x1024x1024, .bf16⟩
  | .local _ .vmem, ⟨12, _⟩ => ⟨S1x4x256x1024, .bf16⟩
  | .local _ .vmem, ⟨13, _⟩ => ⟨S1x4x256x1024, .bf16⟩
  | .local _ .vmem, ⟨14, _⟩ => ⟨S1x16x64x1024, .bf16⟩
  | .local _ .vmem, ⟨15, _⟩ => ⟨S1x16x64x1024, .bf16⟩
  | .local _ .vmem, ⟨16, _⟩ => ⟨S8x1024x128, .f32⟩
  | .local _ .vmem, ⟨17, _⟩ => ⟨S8x1024x128, .f32⟩
  | _, _ => ⟨S4x16384x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c3_i32 : BitVec 32 := 3#32
  let c0_i32 : BitVec 32 := 0#32
  let c0_i32_0 : BitVec 32 := 0#32
  ![c3_i32.toNat, v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S4x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x64x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== OutProjRefIdeal.lean ====
abbrev S4x16384x256 : Shape := ⟨3, ![4, 16384, 256]⟩
abbrev S16x16384x256 : Shape := ⟨3, ![16, 16384, 256]⟩
abbrev S2x8192x1024 : Shape := ⟨3, ![2, 8192, 1024]⟩
abbrev S1024x1024 : Shape := ⟨2, ![1024, 1024]⟩
abbrev S1024 : Shape := ⟨1, ![1024]⟩
abbrev S16384x4x256 : Shape := ⟨3, ![16384, 4, 256]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x1x1024 : Shape := ⟨4, ![2, 8192, 1, 1024]⟩
abbrev S2x1x8192x1024 : Shape := ⟨4, ![2, 1, 8192, 1024]⟩
abbrev S2x2048x4x1024 : Shape := ⟨4, ![2, 2048, 4, 1024]⟩
abbrev S2x4x2048x1024 : Shape := ⟨4, ![2, 4, 2048, 1024]⟩
abbrev S2x512x16x1024 : Shape := ⟨4, ![2, 512, 16, 1024]⟩
abbrev S2x16x512x1024 : Shape := ⟨4, ![2, 16, 512, 1024]⟩

abbrev nBuf : Space → Nat
  | .hbm => 50
  | .vmem => 0
  | .smem => 0
  | _ => 0

abbrev bufTy : (tb : Table) → Fin (tcTables nBuf tb) → BufTy
  | .hbm, ⟨0, _⟩ => ⟨S4x16384x256, .bf16⟩
  | .hbm, ⟨1, _⟩ => ⟨S16x16384x256, .bf16⟩
  | .hbm, ⟨2, _⟩ => ⟨S2x8192x1024, .f32⟩
  | .hbm, ⟨3, _⟩ => ⟨S1024x1024, .bf16⟩
  | .hbm, ⟨4, _⟩ => ⟨S1024, .f32⟩
  | .hbm, ⟨5, _⟩ => ⟨S4x16384x256, .f32⟩
  | .hbm, ⟨6, _⟩ => ⟨S16384x4x256, .f32⟩
  | .hbm, ⟨7, _⟩ => ⟨S2x8192x1024, .f32⟩
  | .hbm, ⟨8, _⟩ => ⟨S4x16384x256, .bf16⟩
  | .hbm, ⟨9, _⟩ => ⟨S4x16384x256, .f32⟩
  | .hbm, ⟨10, _⟩ => ⟨S16384x4x256, .f32⟩
  | .hbm, ⟨11, _⟩ => ⟨S2x8192x1024, .f32⟩
  | .hbm, ⟨12, _⟩ => ⟨S2x8192x1024, .f32⟩
  | .hbm, ⟨13, _⟩ => ⟨S2x8192x1024, .f32⟩
  | .hbm, ⟨14, _⟩ => ⟨S_, .f32⟩
  | .hbm, ⟨15, _⟩ => ⟨S2x8192x1024, .f32⟩
  | .hbm, ⟨16, _⟩ => ⟨S2x8192x1024, .f32⟩
  | .hbm, ⟨17, _⟩ => ⟨S_, .f32⟩
  | .hbm, ⟨18, _⟩ => ⟨S2x8192x1024, .f32⟩
  | .hbm, ⟨19, _⟩ => ⟨S2x8192x1024, .f32⟩
  | .hbm, ⟨20, _⟩ => ⟨S2x8192x1024, .f32⟩
  | .hbm, ⟨21, _⟩ => ⟨S2x8192x1024, .f32⟩
  | .hbm, ⟨22, _⟩ => ⟨S1024x1024, .f32⟩
  | .hbm, ⟨23, _⟩ => ⟨S2x8192x1024, .f32⟩
  | .hbm, ⟨24, _⟩ => ⟨S2x8192x1024, .f32⟩
  | .hbm, ⟨25, _⟩ => ⟨S2x8192x1024, .f32⟩
  | .hbm, ⟨26, _⟩ => ⟨S_, .f32⟩
  | .hbm, ⟨27, _⟩ => ⟨S2x8192, .f32⟩
  | .hbm, ⟨28, _⟩ => ⟨S2x8192x1, .f32⟩
  | .hbm, ⟨29, _⟩ => ⟨S_, .f32⟩
  | .hbm, ⟨30, _⟩ => ⟨S2x8192x1, .f32⟩
  | .hbm, ⟨31, _⟩ => ⟨S2x8192x1, .f32⟩
  | .hbm, ⟨32, _⟩ => ⟨S_, .f32⟩
  | .hbm, ⟨33, _⟩ => ⟨S2x8192x1, .f32⟩
  | .hbm, ⟨34, _⟩ => ⟨S2x8192x1, .f32⟩
  | .hbm, ⟨35, _⟩ => ⟨S2x8192x1, .f32⟩
  | .hbm, ⟨36, _⟩ => ⟨S2x8192x1024, .f32⟩
  | .hbm, ⟨37, _⟩ => ⟨S2x8192x1024, .f32⟩
  | .hbm, ⟨38, _⟩ => ⟨S1x1x1024, .f32⟩
  | .hbm, ⟨39, _⟩ => ⟨S2x8192x1024, .f32⟩
  | .hbm, ⟨40, _⟩ => ⟨S2x8192x1024, .f32⟩
  | .hbm, ⟨41, _⟩ => ⟨S2x8192x1x1024, .f32⟩
  | .hbm, ⟨42, _⟩ => ⟨S2x1x8192x1024, .f32⟩
  | .hbm, ⟨43, _⟩ => ⟨S2x1x8192x1024, .bf16⟩
  | .hbm, ⟨44, _⟩ => ⟨S2x2048x4x1024, .f32⟩
  | .hbm, ⟨45, _⟩ => ⟨S2x4x2048x1024, .f32⟩
  | .hbm, ⟨46, _⟩ => ⟨S2x4x2048x1024, .bf16⟩
  | .hbm, ⟨47, _⟩ => ⟨S2x512x16x1024, .f32⟩
  | .hbm, ⟨48, _⟩ => ⟨S2x16x512x1024, .f32⟩
  | .hbm, ⟨49, _⟩ => ⟨S2x16x512x1024, .bf16⟩
  | _, _ => ⟨S4x16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_cst_0 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩

abbrev nD : Nat := 1
abbrev τ : Topo := Topo.v7x

variable {F : FTy → Type} [FloatOps F]
-- ==== ProjFirst.lean ====
abbrev S16384x1024 : Shape := ⟨2, ![16384, 1024]⟩
abbrev S1024x10240 : Shape := ⟨2, ![1024, 10240]⟩
abbrev S16384x4096 : Shape := ⟨2, ![16384, 4096]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x10240, .f32⟩
  | .hbm, ⟨2, _⟩ => ⟨S16384x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .f32⟩
  | .local _ .vmem, ⟨3, _⟩ => ⟨S1024x1024, .f32⟩
  | .local _ .vmem, ⟨4, _⟩ => ⟨S2048x1024, .bf16⟩
  | .local _ .vmem, ⟨5, _⟩ => ⟨S2048x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 1 := Scalar.cmpi .eq v16 c2_i32
  let c2_i32_5 : BitVec 32 := 2#32
  let c9_i32 : BitVec 32 := 9#32
  let v18 : BitVec 32 := Scalar.select v17 c2_i32_5 c9_i32
  let c1_i32_6 : BitVec 32 := 1#32
  let v19 : BitVec 1 := Scalar.cmpi .eq v16 c1_i32_6
  let c1_i32_7 : BitVec 32 := 1#32
  let v20 : BitVec 32 := Scalar.select v19 c1_i32_7 v18
  let c0_i32_8 : BitVec 32 := 0#32
  let v21 : BitVec 1 := Scalar.cmpi .eq v16 c0_i32_8
  let c0_i32_9 : BitVec 32 := 0#32
  let v22 : BitVec 32 := Scalar.select v21 c0_i32_9 v20
  let c1_i32_10 : BitVec 32 := 1#32
  let v23 : BitVec 32 := Scalar.muli v22 c1_i32_10
  let c1_i32_11 : BitVec 32 := 1#32
  let c0_i32_12 : BitVec 32 := 0#32
  let v24 : BitVec 1 := Scalar.cmpi .eq c1_i32_11 c0_i32_12
  let c1_i32_13 : BitVec 32 := 1#32
  let v25 : BitVec 32 := Scalar.select v24 c1_i32_13 c1_i32_11
  let v26 : BitVec 32 := Scalar.remsi arg1 v25
  let c0_i32_14 : BitVec 32 := 0#32
  let v27 : BitVec 1 := Scalar.cmpi .ne v26 c0_i32_14
  let c0_i32_15 : BitVec 32 := 0#32
  let v28 : BitVec 1 := Scalar.cmpi .slt v26 c0_i32_15
  let c0_i32_16 : BitVec 32 := 0#32
  let v29 : BitVec 1 := Scalar.cmpi .slt v25 c0_i32_16
  let v30 : BitVec 1 := Scalar.xori v28 v29
  let v31 : BitVec 1 := Scalar.andi v30 v27
  let v32 : BitVec 32 := Scalar.addi v26 v25
  let v33 : BitVec 32 := Scalar.select v31 v32 v26
  let v34 : BitVec 32 := Scalar.addi v23 v33
  let c0_i32_17 : BitVec 32 := 0#32
  let c0_i32_18 : BitVec 32 := 0#32
  ![c0_i32_17.toNat, v34.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjFirstIdeal.lean ====
variable {F : FTy → Type} [FloatOps F] [Named F]
def κ : String → Option EReal := fun
  | "q_scale" => some (((Real.log 256)⁻¹ : ℝ) : EReal)
  | _ => none
-- ==== ProjFirstRefIdeal.lean ====
abbrev S16384x1024 : Shape := ⟨2, ![16384, 1024]⟩
abbrev S1024x10240 : Shape := ⟨2, ![1024, 10240]⟩
abbrev S1024x3072 : Shape := ⟨2, ![1024, 3072]⟩
abbrev S1024x1024 : Shape := ⟨2, ![1024, 1024]⟩
abbrev S1024x4096 : Shape := ⟨2, ![1024, 4096]⟩
abbrev S16384x4096 : Shape := ⟨2, ![16384, 4096]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x10240, .f32⟩
  | .hbm, ⟨2, _⟩ => ⟨S1024x3072, .f32⟩
  | .hbm, ⟨3, _⟩ => ⟨S1024x1024, .f32⟩
  | .hbm, ⟨4, _⟩ => ⟨S1024x4096, .f32⟩
  | .hbm, ⟨5, _⟩ => ⟨S16384x1024, .f32⟩
  | .hbm, ⟨6, _⟩ => ⟨S16384x4096, .f32⟩
  | .hbm, ⟨7, _⟩ => ⟨S16384x4096, .i32⟩
  | .hbm, ⟨8, _⟩ => ⟨S_, .i32⟩
  | .hbm, ⟨9, _⟩ => ⟨S16384x4096, .i32⟩
  | .hbm, ⟨10, _⟩ => ⟨S16384x4096, .i1⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S16384x4096, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== ProjSecond.lean ====
abbrev S16384x1024 : Shape := ⟨2, ![16384, 1024]⟩
abbrev S1024x10240 : Shape := ⟨2, ![1024, 10240]⟩
abbrev S16384x3072 : Shape := ⟨2, ![16384, 3072]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x10240, .f32⟩
  | .hbm, ⟨2, _⟩ => ⟨S16384x3072, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .f32⟩
  | .local _ .vmem, ⟨3, _⟩ => ⟨S1024x1024, .f32⟩
  | .local _ .vmem, ⟨4, _⟩ => ⟨S2048x1024, .bf16⟩
  | .local _ .vmem, ⟨5, _⟩ => ⟨S2048x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 1 := Scalar.cmpi .eq v16 c1_i32_5
  let c4_i32 : BitVec 32 := 4#32
  let c5_i32 : BitVec 32 := 5#32
  let v18 : BitVec 32 := Scalar.select v17 c4_i32 c5_i32
  let c0_i32_6 : BitVec 32 := 0#32
  let v19 : BitVec 1 := Scalar.cmpi .eq v16 c0_i32_6
  let c3_i32 : BitVec 32 := 3#32
  let v20 : BitVec 32 := Scalar.select v19 c3_i32 v18
  let c1_i32_7 : BitVec 32 := 1#32
  let v21 : BitVec 32 := Scalar.muli v20 c1_i32_7
  let c1_i32_8 : BitVec 32 := 1#32
  let c0_i32_9 : BitVec 32 := 0#32
  let v22 : BitVec 1 := Scalar.cmpi .eq c1_i32_8 c0_i32_9
  let c1_i32_10 : BitVec 32 := 1#32
  let v23 : BitVec 32 := Scalar.select v22 c1_i32_10 c1_i32_8
  let v24 : BitVec 32 := Scalar.remsi arg1 v23
  let c0_i32_11 : BitVec 32 := 0#32
  let v25 : BitVec 1 := Scalar.cmpi .ne v24 c0_i32_11
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let v29 : BitVec 1 := Scalar.andi v28 v25
  let v30 : BitVec 32 := Scalar.addi v24 v23
  let v31 : BitVec 32 := Scalar.select v29 v30 v24
  let v32 : BitVec 32 := Scalar.addi v21 v31
  let c0_i32_14 : BitVec 32 := 0#32
  let c0_i32_15 : BitVec 32 := 0#32
  ![c0_i32_14.toNat, v32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjSecondIdeal.lean ====
variable {F : FTy → Type} [FloatOps F] [Named F]
def κ : String → Option EReal := fun
  | "q_scale" => some (((Real.log 256)⁻¹ : ℝ) : EReal)
  | _ => none
-- ==== ProjSecondRefIdeal.lean ====
abbrev S16384x1024 : Shape := ⟨2, ![16384, 1024]⟩
abbrev S1024x10240 : Shape := ⟨2, ![1024, 10240]⟩
abbrev S1024x3072 : Shape := ⟨2, ![1024, 3072]⟩
abbrev S16384x3072 : Shape := ⟨2, ![16384, 3072]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x10240, .f32⟩
  | .hbm, ⟨2, _⟩ => ⟨S1024x3072, .f32⟩
  | .hbm, ⟨3, _⟩ => ⟨S16384x1024, .f32⟩
  | .hbm, ⟨4, _⟩ => ⟨S16384x3072, .f32⟩
  | .hbm, ⟨5, _⟩ => ⟨S16384x3072, .i32⟩
  | .hbm, ⟨6, _⟩ => ⟨S_, .i32⟩
  | .hbm, ⟨7, _⟩ => ⟨S16384x3072, .i32⟩
  | .hbm, ⟨8, _⟩ => ⟨S16384x3072, .i1⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S16384x3072, .f32⟩
  | .hbm, ⟨14, _⟩ => ⟨S16384x3072, .f32⟩
  | .hbm, ⟨15, _⟩ => ⟨S16384x3072, .f32⟩
  | .hbm, ⟨16, _⟩ => ⟨S16384x3072, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== ProjThird.lean ====
abbrev S16384x1024 : Shape := ⟨2, ![16384, 1024]⟩
abbrev S1024x10240 : Shape := ⟨2, ![1024, 10240]⟩
abbrev S16384x3072 : Shape := ⟨2, ![16384, 3072]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x10240, .f32⟩
  | .hbm, ⟨2, _⟩ => ⟨S16384x3072, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .f32⟩
  | .local _ .vmem, ⟨3, _⟩ => ⟨S1024x1024, .f32⟩
  | .local _ .vmem, ⟨4, _⟩ => ⟨S2048x1024, .bf16⟩
  | .local _ .vmem, ⟨5, _⟩ => ⟨S2048x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 1 := Scalar.cmpi .eq v16 c1_i32_5
  let c7_i32 : BitVec 32 := 7#32
  let c8_i32 : BitVec 32 := 8#32
  let v18 : BitVec 32 := Scalar.select v17 c7_i32 c8_i32
  let c0_i32_6 : BitVec 32 := 0#32
  let v19 : BitVec 1 := Scalar.cmpi .eq v16 c0_i32_6
  let c6_i32 : BitVec 32 := 6#32
  let v20 : BitVec 32 := Scalar.select v19 c6_i32 v18
  let c1_i32_7 : BitVec 32 := 1#32
  let v21 : BitVec 32 := Scalar.muli v20 c1_i32_7
  let c1_i32_8 : BitVec 32 := 1#32
  let c0_i32_9 : BitVec 32 := 0#32
  let v22 : BitVec 1 := Scalar.cmpi .eq c1_i32_8 c0_i32_9
  let c1_i32_10 : BitVec 32 := 1#32
  let v23 : BitVec 32 := Scalar.select v22 c1_i32_10 c1_i32_8
  let v24 : BitVec 32 := Scalar.remsi arg1 v23
  let c0_i32_11 : BitVec 32 := 0#32
  let v25 : BitVec 1 := Scalar.cmpi .ne v24 c0_i32_11
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let v29 : BitVec 1 := Scalar.andi v28 v25
  let v30 : BitVec 32 := Scalar.addi v24 v23
  let v31 : BitVec 32 := Scalar.select v29 v30 v24
  let v32 : BitVec 32 := Scalar.addi v21 v31
  let c0_i32_14 : BitVec 32 := 0#32
  let c0_i32_15 : BitVec 32 := 0#32
  ![c0_i32_14.toNat, v32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjThirdIdeal.lean ====
variable {F : FTy → Type} [FloatOps F] [Named F]
def κ : String → Option EReal := fun
  | "q_scale" => some (((Real.log 256)⁻¹ : ℝ) : EReal)
  | _ => none
-- ==== ProjThirdRefIdeal.lean ====
abbrev S16384x1024 : Shape := ⟨2, ![16384, 1024]⟩
abbrev S1024x10240 : Shape := ⟨2, ![1024, 10240]⟩
abbrev S1024x3072 : Shape := ⟨2, ![1024, 3072]⟩
abbrev S16384x3072 : Shape := ⟨2, ![16384, 3072]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x10240, .f32⟩
  | .hbm, ⟨2, _⟩ => ⟨S1024x3072, .f32⟩
  | .hbm, ⟨3, _⟩ => ⟨S16384x1024, .f32⟩
  | .hbm, ⟨4, _⟩ => ⟨S16384x3072, .f32⟩
  | .hbm, ⟨5, _⟩ => ⟨S16384x3072, .i32⟩
  | .hbm, ⟨6, _⟩ => ⟨S_, .i32⟩
  | .hbm, ⟨7, _⟩ => ⟨S16384x3072, .i32⟩
  | .hbm, ⟨8, _⟩ => ⟨S16384x3072, .i1⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S16384x3072, .f32⟩
  | .hbm, ⟨14, _⟩ => ⟨S16384x3072, .f32⟩
  | .hbm, ⟨15, _⟩ => ⟨S16384x3072, .f32⟩
  | .hbm, ⟨16, _⟩ => ⟨S16384x3072, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Proof.Run.lean ====
module

public import proofs.«01_k».proof.Proof.Gen.KernelIdeal
public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the launch lemma's implicit arguments are found by unifying its conclusion with this one
set_option backward.isDefEq.respectTransparency.types false in
/-- The kernel program runs to the end; its result is then what the last region leaves, and its arguments are as they were. -/
theorem run : θ_run defs (onTc (τ := τ) (main (F := F))) ⟨m, fun _ => 0, ρ⟩ (fun r => ∀ c : Dev nD,
      r.2.mem ((c.tc : Thread nD τ).loc main_v37) = W4 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨h c _ (mem_uc main_v37 (by decide)),
       (h c _ (mem_uc main_arg0 (by decide))).trans (W4_main_arg0 m ρ c),
       (h c _ (mem_uc main_arg1 (by decide))).trans (W4_main_arg1 m ρ c)⟩)

end Cert.KernelIdeal.Gen
-- ==== Proof.Tile.lean ====
module

public import proofs.«01_k».proof.Proof.Gen.KernelIdeal
public import proofs.«01_k».proof.Proof.Gen.KernelIdeal.Frame
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic

variable {F : FTy → Type} [FloatOps F] [Named F]

/-- What the kernel computes for one tile of 64 queries, from the queries, their 512 keys and values, and the sixteen
    pieces of the bias (head by head, each in four pieces of 128 keys). -/
def tileOf (q : Vec F S1x64x256 .bf16) (k v : Vec F S1x512x256 .bf16) (b : Fin 4 → Fin 4 → Vec F S1x1x64x128 .f32) :
    Vec F S1x64x256 .bf16 :=
  k1_pay13 k1_pay2 (k1_pay12 (k1_pay6 k1_pay2 (k1_pay3 q) k1_pay4 (k1_pay5 q) 1#32 k)
    (k1_pay7 (b 0 0) (b 0 1) (b 0 2) (b 0 3)) (k1_pay8 (b 1 0) (b 1 1) (b 1 2) (b 1 3))
    (k1_pay9 (b 2 0)) (k1_pay10 (b 2 1)) (k1_pay11 (b 2 2)) (b 2 3) (b 3 0) (b 3 1) (b 3 2) (b 3 3) v)

/-- Tile `u`'s rows of a block of queries. -/
theorem tile_inb (u : Fin 32) : ∀ a, (![0, 64 * u.val, 0] : Fin 3 → Nat) a + S1x64x256.size a ≤ S1x2048x256.size a := by
  revert u; decide +kernel
abbrev tileRect (u : Fin 32) : Rect S1x2048x256 := Rect.unit (s := S1x2048x256) ![0, 64 * u.val, 0] S1x64x256.size (tile_inb u)
/-- Tile `u`'s key rows. -/
abbrev keyRect (i : grid1.Coords) (u : Fin 32) : Rect S1x8192x256 :=
  Rect.unit (s := S1x8192x256) (k1_off1 i (BitVec.ofNat 32 u.val)) S1x512x256.size (k1_off1_inb i u)
/-- Tile `u`'s piece `n` of head `h`'s bias. -/
abbrev biasRect (i : grid1.Coords) (u : Fin 32) (h n : Fin 4) : Rect S4x14x64x128 :=
  match h with
  | 0 => Rect.unit (s := S4x14x64x128) (k1_off2 i (BitVec.ofNat 32 u.val) (BitVec.ofNat 32 (2 * n.val))) S1x1x64x128.size (k1_off2_inb i u n)
  | 1 => Rect.unit (s := S4x14x64x128) (k1_off3 i (BitVec.ofNat 32 u.val) (BitVec.ofNat 32 (2 * n.val))) S1x1x64x128.size (k1_off3_inb i u n)
  | 2 => Rect.unit (s := S4x14x64x128) (k1_off4 i (BitVec.ofNat 32 u.val) (BitVec.ofNat 32 (2 * n.val))) S1x1x64x128.size (k1_off4_inb i u n)
  | 3 => Rect.unit (s := S4x14x64x128) (k1_off5 i (BitVec.ofNat 32 u.val) (BitVec.ofNat 32 (2 * n.val))) S1x1x64x128.size (k1_off5_inb i u n)

/-- Tile `u`'s sixteen pieces of the bias. -/
def tileBias (i : grid1.Coords) (x3 : Vec F S4x14x64x128 .f32) (u : Fin 32) (h n : Fin 4) : Vec F S1x1x64x128 .f32 :=
  match h with
  | 0 => View.ld x3 (biasRect i u 0 n)
  | 1 => View.ld x3 (biasRect i u 1 n)
  | 2 => View.ld x3 (biasRect i u 2 n)
  | 3 => View.ld x3 (biasRect i u 3 n)

/-- Tile `u` of a block: where it is stored, and what is stored. -/
def tileAt (i : grid1.Coords) (x0 : Vec F S1x2048x256 .bf16) (x1 x2 : Vec F S1x8192x256 .bf16) (x3 : Vec F S4x14x64x128 .f32)
    (u : Fin 32) : View.Piece (Elt F) S1x2048x256 .bf16 :=
  ⟨tileRect u, tileOf (View.ld x0 (tileRect u)) (View.ld x1 (keyRect i u)) (View.ld x2 (keyRect i u))
    (tileBias i x3 u)⟩

set_option maxHeartbeats 4000000 in
/-- The body's stores are its 32 tiles, the last first. -/
theorem pieces_eq (c : Dev nD) (i : grid1.Coords) (arg3 : Memref sig .tc .vmem S1x2048x256 .bf16) (harg3 : arg3.IsWhole) (arg4 : Memref sig .tc .vmem S1x8192x256 .bf16) (harg4 : arg4.IsWhole) (arg5 : Memref sig .tc .vmem S1x8192x256 .bf16) (harg5 : arg5.IsWhole) (arg6 : Memref sig .tc .vmem S4x14x64x128 .f32) (harg6 : arg6.IsWhole) (arg7 : Memref sig .tc .vmem S1x2048x256 .bf16) (harg7 : arg7.IsWhole)
    (x0 : Vec F S1x2048x256 .bf16) (x1 : Vec F S1x8192x256 .bf16) (x2 : Vec F S1x8192x256 .bf16) (x3 : Vec F S4x14x64x128 .f32) :
    (kernelRun1_A c i arg3 harg3 arg4 harg4 arg5 harg5 arg6 harg6 arg7 harg7 x0 x1 x2 x3).1
      = (List.finRange 32).reverse.map (tileAt i x0 x1 x2 x3) := by
  have h0 := harg3.read_unread (Val := Elt F) x0
  have h1 := harg4.read_unread (Val := Elt F) x1
  have h2 := harg5.read_unread (Val := Elt F) x2
  have h3 := harg6.read_unread (Val := Elt F) x3
  have key : (kernelRun1_A c i arg3 harg3 arg4 harg4 arg5 harg5 arg6 harg6 arg7 harg7 x0 x1 x2 x3).1
      = (List.finRange 32).reverse.map (tileAt i (arg3.view.read (Elt F) (harg3.unread x0)) (arg4.view.read (Elt F) (harg4.unread x1))
          (arg5.view.read (Elt F) (harg5.unread x2)) (arg6.view.read (Elt F) (harg6.unread x3))) := by
    sl_kernel_rfl
  rw [key, h0, h1, h2, h3]

end Cert.KernelIdeal.Gen
-- ==== Proof.Window.lean ====
module

public import Idealize.ShloMosaic.PureOps.Ideal
public import Idealize.ShloMosaic.PureOps.Ideal.Laws
public import Idealize.ShloMosaic.Lib.Pointwise

@[expose] public section

set_option maxRecDepth 16384

noncomputable section

namespace Cert.Attention

open Idealize.ShloMosaic

/-! ## The window of rows and columns a query attends to -/

/-- The first of the eight key rows a query of row `r` attends to. -/
def firstRow (r : ℕ) : ℕ := min (r - 4) 120

theorem firstRow_le (r : ℕ) : firstRow r ≤ 120 := Nat.min_le_right _ _

/-- Whether key row `k` is in the window of row `r`. -/
def RowOk (r k : ℕ) : Prop := firstRow r ≤ k ∧ k < firstRow r + 8

instance (r k : ℕ) : Decidable (RowOk r k) := inferInstanceAs (Decidable (_ ∧ _))

/-- The first of the sixteen columns a query of column `c` attends to. -/
def firstCol (c : ℕ) : ℕ := min (c - 8) 48

/-- Whether column `k` is in the window of column `c`. -/
def ColOk (c k : ℕ) : Prop := firstCol c ≤ k ∧ k < firstCol c + 16

instance (c k : ℕ) : Decidable (ColOk c k) := inferInstanceAs (Decidable (_ ∧ _))

/-! ## The same in the machine's integers -/

/-- The first row or column of a window of `size` around `at`, kept between nought and `last`. -/
def startWord (half last : BitVec 32) (r : ℕ) : BitVec 32 :=
  IntOp.minsi (IntOp.maxsi (IntOp.subi (BitVec.ofNat 32 r) half) 0#32) last

/-- The window's test. -/
def insideWord (half last size : BitVec 32) (r k : ℕ) : BitVec 1 :=
  IntOp.andi (IntOp.cmpi .sge (BitVec.ofNat 32 k) (startWord half last r))
    (IntOp.cmpi .slt (BitVec.ofNat 32 k) (IntOp.addi (startWord half last r) size))

theorem rowInside_fin : ∀ r k : Fin 128, insideWord 4#32 120#32 8#32 r.val k.val = if RowOk r.val k.val then 1#1 else 0#1 := by
  decide +kernel
theorem colInside_fin : ∀ c k : Fin 64, insideWord 8#32 48#32 16#32 c.val k.val = if ColOk c.val k.val then 1#1 else 0#1 := by
  decide +kernel

theorem rowInside {r k : ℕ} (hr : r < 128) (hk : k < 128) :
    insideWord 4#32 120#32 8#32 r k = if RowOk r k then 1#1 else 0#1 := rowInside_fin ⟨r, hr⟩ ⟨k, hk⟩
theorem colInside {c k : ℕ} (hc : c < 64) (hk : k < 64) :
    insideWord 8#32 48#32 16#32 c k = if ColOk c k then 1#1 else 0#1 := colInside_fin ⟨c, hc⟩ ⟨k, hk⟩

theorem and_bit (a b : Prop) [Decidable a] [Decidable b] :
    IntOp.andi (if a then 1#1 else 0#1) (if b then 1#1 else 0#1) = if a ∧ b then 1#1 else 0#1 := by
  by_cases ha : a <;> by_cases hb : b <;> simp [ha, hb, IntOp.andi]

/-- The offset of a key from a query, shifted to start at nought and kept in the table. -/
def clippedWord (size last : BitVec 32) (r k : ℕ) : BitVec 32 :=
  IntOp.minsi (IntOp.maxsi (IntOp.subi (IntOp.addi (IntOp.subi (BitVec.ofNat 32 k) (BitVec.ofNat 32 r)) size) 1#32) 0#32) last

/-- The same with the turn to the end of the table that a negative index would take. -/
def offsetWord (size last count : BitVec 32) (r k : ℕ) : BitVec 32 :=
  Scalar.select (IntOp.cmpi .slt (clippedWord size last r k) 0#32) (IntOp.addi (clippedWord size last r k) count) (clippedWord size last r k)

theorem rowOffset_fin : ∀ (r : Fin 128) (a : Fin 8),
    min (offsetWord 8#32 14#32 15#32 r.val (firstRow r.val + a.val)).toInt.toNat 14 = firstRow r.val + a.val + 7 - r.val := by
  decide +kernel
theorem colOffset_fin : ∀ (c : Fin 64) (a : Fin 16),
    min (offsetWord 16#32 30#32 31#32 c.val (firstCol c.val + a.val)).toInt.toNat 30 = firstCol c.val + a.val + 15 - c.val := by
  decide +kernel

theorem rowOffset {r k : ℕ} (hr : r < 128) (h : RowOk r k) :
    min (offsetWord 8#32 14#32 15#32 r k).toInt.toNat 14 = k + 7 - r := by
  have := rowOffset_fin ⟨r, hr⟩ ⟨k - firstRow r, by have := h.1; have := h.2; omega⟩
  simpa only [Nat.add_sub_cancel' h.1] using this
theorem colOffset {c k : ℕ} (hc : c < 64) (h : ColOk c k) :
    min (offsetWord 16#32 30#32 31#32 c k).toInt.toNat 30 = k + 15 - c := by
  have := colOffset_fin ⟨c, hc⟩ ⟨k - firstCol c, by have := h.1; have := h.2; omega⟩
  simpa only [Nat.add_sub_cancel' h.1] using this

/-! ## The bias -/

/-- The relative position bias of head `h` at row offset `a` and column offset `b` (nought outside the table). -/
def biasEntry (X : (⟨3, ![16, 15, 31]⟩ : Shape).Idx → EReal) (h : Fin 16) (a b : ℕ) : EReal :=
  if hab : a < 15 ∧ b < 31 then X (ix3 h ⟨a, hab.1⟩ ⟨b, hab.2⟩) else 0

theorem biasEntry_eq (X : (⟨3, ![16, 15, 31]⟩ : Shape).Idx → EReal) (h : Fin 16) (a b : ℕ) (ha : a < 15) (hb : b < 31) :
    biasEntry X h a b = X (ix3 h ⟨a, ha⟩ ⟨b, hb⟩) := dif_pos ⟨ha, hb⟩

end Cert.Attention
-- ==== Proof.Offsets.lean ====
module

public import proofs.«01_k».proof.Proof.Gen.KernelIdeal
public import proofs.«01_k».proof.Proof.Gen.KernelIdeal.Frame
public import proofs.«01_k».proof.Proof.Window
public import Idealize.ShloMosaic.Lib.Pipeline.Value
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic
open Cert.Attention

/-! ## Which rows a tile reads -/

/-- The image row of the queries of tile `u` at grid point `t`. -/
abbrev rowOf (t : Fin grid1.N) (u : Fin 32) : ℕ := 32 * (grid1.coords t 2).val + u.val

theorem key_off : ∀ (t : Fin grid1.N) (u : Fin 32),
    k1_off1 (grid1.coords t) (BitVec.ofNat 32 u.val) = ![0, 64 * firstRow (rowOf t u), 0] := by decide +kernel

theorem bias_off0 : ∀ (t : Fin grid1.N) (u : Fin 32) (n : Fin 4),
    k1_off2 (grid1.coords t) (BitVec.ofNat 32 u.val) (BitVec.ofNat 32 (2 * n.val))
      = ![0, firstRow (rowOf t u) + 7 - rowOf t u + 2 * n.val, 0, 0] := by decide +kernel
theorem bias_off1 : ∀ (t : Fin grid1.N) (u : Fin 32) (n : Fin 4),
    k1_off3 (grid1.coords t) (BitVec.ofNat 32 u.val) (BitVec.ofNat 32 (2 * n.val))
      = ![1, firstRow (rowOf t u) + 7 - rowOf t u + 2 * n.val, 0, 0] := by decide +kernel
theorem bias_off2 : ∀ (t : Fin grid1.N) (u : Fin 32) (n : Fin 4),
    k1_off4 (grid1.coords t) (BitVec.ofNat 32 u.val) (BitVec.ofNat 32 (2 * n.val))
      = ![2, firstRow (rowOf t u) + 7 - rowOf t u + 2 * n.val, 0, 0] := by decide +kernel
theorem bias_off3 : ∀ (t : Fin grid1.N) (u : Fin 32) (n : Fin 4),
    k1_off5 (grid1.coords t) (BitVec.ofNat 32 u.val) (BitVec.ofNat 32 (2 * n.val))
      = ![3, firstRow (rowOf t u) + 7 - rowOf t u + 2 * n.val, 0, 0] := by decide +kernel

theorem index0 : ∀ t : Fin cfg1.N, win1_0.index t = ![(grid1.coords t 1).val, (grid1.coords t 0).val * 4 + (grid1.coords t 2).val, 0] :=
  (by decide +kernel : ∀ t : Fin grid1.N, _)
theorem index1 : ∀ t : Fin cfg1.N, win1_1.index t = ![4 + (grid1.coords t 1).val, (grid1.coords t 0).val, 0] :=
  (by decide +kernel : ∀ t : Fin grid1.N, _)
theorem index2 : ∀ t : Fin cfg1.N, win1_2.index t = ![8 + (grid1.coords t 1).val, (grid1.coords t 0).val, 0] :=
  (by decide +kernel : ∀ t : Fin grid1.N, _)
theorem index3 : ∀ t : Fin cfg1.N, win1_3.index t = ![(grid1.coords t 1).val, 0, 0, 0] :=
  (by decide +kernel : ∀ t : Fin grid1.N, _)
theorem index4 : ∀ t : Fin cfg1.N, win1_4.index t = ![(grid1.coords t 1).val, (grid1.coords t 0).val * 4 + (grid1.coords t 2).val, 0] :=
  (by decide +kernel : ∀ t : Fin grid1.N, _)

theorem coords_lt (t : Fin grid1.N) : (grid1.coords t 0).val < 2 ∧ (grid1.coords t 1).val < 4 ∧ (grid1.coords t 2).val < 4 :=
  ⟨(grid1.coords t 0).isLt, (grid1.coords t 1).isLt, (grid1.coords t 2).isLt⟩

end Cert.KernelIdeal.Gen
-- ==== Proof.Softmax.lean ====
/- The algebra of one query's attention at the ideal values: the kernel's base-2 softmax with its late division, and
   the reference's softmax over every key with a mask, are the same weighted mean of the values. Both are put on one
   real number, `mean`, by the fact that a softmax does not see a shift of its logits. -/
module

public import Idealize.ShloMosaic.PureOps.Ideal
public import Idealize.ShloMosaic.PureOps.Ideal.Laws

@[expose] public section

noncomputable section

namespace Cert.Attention

open Idealize.ShloMosaic

variable {ι κ : Type} [Fintype ι] [Fintype κ]

/-- A finite sum of reals, summed as extended reals. -/
theorem sum_coe (f : ι → ℝ) : ∑ i, ((f i : ℝ) : EReal) = ((∑ i, f i : ℝ) : EReal) := by
  classical
  induction (Finset.univ : Finset ι) using Finset.induction_on with
  | empty => simp
  | insert a s ha ih => rw [Finset.sum_insert ha, Finset.sum_insert ha, ih, EReal.coe_add]

/-- The greatest of finitely many logits, none of them `⊤` and one of them real, is real. -/
theorem fold_max_real (f : ι → EReal) (ht : ∀ i, f i ≠ ⊤) (hb : ∃ i, f i ≠ ⊥) :
    ∃ m : ℝ, (Finset.univ : Finset ι).fold max ⊥ f = (m : EReal) := by
  obtain ⟨i, hi⟩ := hb
  have h1 : (Finset.univ : Finset ι).fold max ⊥ f < ⊤ :=
    (Finset.fold_max_lt _).mpr ⟨bot_lt_top, fun x _ => lt_top_iff_ne_top.mpr (ht x)⟩
  have h2 : f i ≤ (Finset.univ : Finset ι).fold max ⊥ f :=
    (Finset.le_fold_max _).mpr (Or.inr ⟨i, Finset.mem_univ i, le_rfl⟩)
  have h3 : (Finset.univ : Finset ι).fold max ⊥ f ≠ ⊥ := fun h => hi (le_bot_iff.mp (h ▸ h2))
  exact ⟨_, (EReal.coe_toReal h1.ne h3).symm⟩

/-- A logit: a real number where the key may be attended to, and `⊥` elsewhere. -/
def logit (p : Prop) [Decidable p] (x : ℝ) : EReal := if p then (x : EReal) else ⊥

theorem logit_ne_top (p : Prop) [Decidable p] (x : ℝ) : logit p x ≠ ⊤ := by
  unfold logit; split <;> simp

/-- The weight of a key before the division: the exponential of its logit. -/
def weight (p : Prop) [Decidable p] (x : ℝ) : ℝ := if p then Real.exp x else 0

theorem weight_nonneg (p : Prop) [Decidable p] (x : ℝ) : 0 ≤ weight p x := by
  unfold weight; split
  · exact (Real.exp_pos x).le
  · exact le_rfl

theorem exp_logit_sub (p : Prop) [Decidable p] (x m : ℝ) :
    Ideal.exp (logit p x - (m : EReal)) = ((weight p x * Real.exp (-m) : ℝ) : EReal) := by
  unfold logit weight
  split
  · rw [← EReal.coe_sub, Ideal.exp_coe, ← Real.exp_add, sub_eq_add_neg]
  · rw [EReal.bot_sub, Ideal.exp_bot, zero_mul, EReal.coe_zero]

theorem exp2_logit_sub (p : Prop) [Decidable p] (x m : ℝ) :
    Ideal.exp2 (logit p ((Real.log 2)⁻¹ * x) - (m : EReal))
      = ((weight p x * Real.exp (-(Real.log 2 * m)) : ℝ) : EReal) := by
  have hl : Real.log 2 ≠ 0 := (Real.log_pos one_lt_two).ne'
  unfold logit weight
  split
  · rw [← EReal.coe_sub, Ideal.exp2_coe]
    congr 1
    show (2 : ℝ) ^ ((Real.log 2)⁻¹ * x - m) = _
    rw [Real.rpow_def_of_pos two_pos, ← Real.exp_add]
    congr 1
    field_simp
    ring
  · rw [EReal.bot_sub, Ideal.exp2_bot, zero_mul, EReal.coe_zero]

/-- The weighted mean of the values. -/
def mean (w v : ι → ℝ) : ℝ := (∑ j, w j * v j) / ∑ j, w j

/-- The kernel's attention over its block of keys: the sum of the weighted values, divided at the end. -/
def lateSoftmax (s v : ι → EReal) : EReal :=
  (∑ j, Ideal.exp2 (s j - Finset.univ.fold max ⊥ s) * v j)
    * Ideal.div 1 (∑ j, Ideal.exp2 (s j - Finset.univ.fold max ⊥ s))

/-- The reference's attention: each weight divided by their sum, then the weighted values added up. -/
def plainSoftmax (s v : κ → EReal) : EReal :=
  ∑ j, Ideal.div (Ideal.exp (s j - Finset.univ.fold max ⊥ s)) (∑ i, Ideal.exp (s i - Finset.univ.fold max ⊥ s)) * v j

variable (p : ι → Prop) [DecidablePred p]

theorem sum_weight_pos (x : ι → ℝ) (hp : ∃ j, p j) : 0 < ∑ j, weight (p j) (x j) := by
  obtain ⟨j, hj⟩ := hp
  refine Finset.sum_pos' (fun i _ => weight_nonneg _ _) ⟨j, Finset.mem_univ j, ?_⟩
  unfold weight; rw [if_pos hj]; exact Real.exp_pos _

theorem lateSoftmax_eq (x v : ι → ℝ) (hp : ∃ j, p j) :
    lateSoftmax (fun j => logit (p j) ((Real.log 2)⁻¹ * x j)) (fun j => (v j : EReal))
      = ((mean (fun j => weight (p j) (x j)) v : ℝ) : EReal) := by
  obtain ⟨m, hm⟩ := fold_max_real (fun j => logit (p j) ((Real.log 2)⁻¹ * x j)) (fun j => logit_ne_top _ _)
    (by obtain ⟨j, hj⟩ := hp; exact ⟨j, by unfold logit; rw [if_pos hj]; exact EReal.coe_ne_bot _⟩)
  unfold lateSoftmax
  simp only [hm, exp2_logit_sub, ← EReal.coe_mul, sum_coe]
  have hc := Real.exp_pos (-(Real.log 2 * m))
  have hw := sum_weight_pos p x hp
  generalize Real.exp (-(Real.log 2 * m)) = c at hc
  have hs : ∑ j, weight (p j) (x j) * c = (∑ j, weight (p j) (x j)) * c := (Finset.sum_mul ..).symm
  rw [hs, Ideal.div_coe (mul_pos hw hc).ne', one_mul, ← EReal.coe_mul]
  congr 1
  have h2 : ∑ j, weight (p j) (x j) * c * v j = (∑ j, weight (p j) (x j) * v j) * c := by
    rw [Finset.sum_mul]; exact Finset.sum_congr rfl fun j _ => by ring
  rw [h2]; unfold mean
  field_simp

theorem plainSoftmax_eq (x v : ι → ℝ) (hp : ∃ j, p j) :
    plainSoftmax (fun j => logit (p j) (x j)) (fun j => (v j : EReal))
      = ((mean (fun j => weight (p j) (x j)) v : ℝ) : EReal) := by
  obtain ⟨m, hm⟩ := fold_max_real (fun j => logit (p j) (x j)) (fun j => logit_ne_top _ _)
    (by obtain ⟨j, hj⟩ := hp; exact ⟨j, by unfold logit; rw [if_pos hj]; exact EReal.coe_ne_bot _⟩)
  unfold plainSoftmax
  have hc := Real.exp_pos (-m)
  have hw := sum_weight_pos p x hp
  simp only [hm, exp_logit_sub, sum_coe]
  generalize Real.exp (-m) = c at hc
  have hs : ∑ j, weight (p j) (x j) * c = (∑ j, weight (p j) (x j)) * c := (Finset.sum_mul ..).symm
  rw [hs]
  simp only [Ideal.div_coe (mul_pos hw hc).ne', ← EReal.coe_mul, sum_coe]
  congr 1
  unfold mean
  rw [Finset.sum_div]
  exact Finset.sum_congr rfl fun j _ => by field_simp

/-- A mean over all keys whose weights vanish off a block of keys is the mean over the block. -/
theorem mean_of_injective (e : ι → κ) (he : Function.Injective e) (w v : κ → ℝ) (hw : ∀ k, k ∉ Set.range e → w k = 0) :
    mean w v = mean (fun j => w (e j)) (fun j => v (e j)) := by
  unfold mean
  rw [← Fintype.sum_of_injective e he (fun j => w (e j) * v (e j)) (fun k => w k * v k)
      (fun k hk => by rw [hw k hk, zero_mul]) (fun _ => rfl),
    ← Fintype.sum_of_injective e he (fun j => w (e j)) w hw (fun _ => rfl)]

end Cert.Attention

end
-- ==== Proof.TileValue.lean ====
module

public import proofs.«01_k».proof.Proof.Tile
public import proofs.«01_k».proof.Proof.Softmax
public import Idealize.ShloMosaic.Lib.Pointwise

@[expose] public section

set_option maxRecDepth 16384

noncomputable section

namespace Cert.KernelIdeal.Gen

open Idealize.ShloMosaic Idealize.ShloMosaic.TcCoe Idealize.ShloMosaic.Tactic
open Cert.Attention

/-- The head a lane belongs to. -/
theorem lane_apply (r : Fin 64) (l : Fin 256) : k1_pay2 (ix2 r l) = BitVec.ofNat 32 (l.val / 64) := by
  pointwise [k1_pay2]
  revert l; decide +kernel

/-- Choosing by a lane's head. -/
theorem pick_lane {α : Type} (l : Fin 256) (n : Nat) (hn : n < 4) (x y : α) :
    Scalar.select (IntOp.cmpi CmpIPredicate.eq (BitVec.ofNat 32 (l.val / 64)) (BitVec.ofNat 32 n)) x y
      = if l.val / 64 = n then x else y := by
  have key : ∀ a b : Fin 4, Scalar.select (IntOp.cmpi CmpIPredicate.eq (BitVec.ofNat 32 a.val) (BitVec.ofNat 32 b.val)) x y
      = if a.val = b.val then x else y := by
    intro a b; fin_cases a <;> fin_cases b <;> rfl
  exact key ⟨l.val / 64, by omega⟩ ⟨n, hn⟩

/-- The tile's softmax and weighted values, from its logits. -/
def core (v124 : FVec Ideal S256x512 .f32) (v136 : Vec Ideal S1x512x256 .bf16) : FVec Ideal S256x256 .f32 :=
  have v125 : FVec Ideal S256 .f32 := multiReduction .maximumf [1] S256 v124 0xFF800000#32 reduces_S256x512_S256 (.inl rfl) rfl
  have v127 : FVec Ideal S256x512 .f32 := broadcastTo S256x512 (shapeCast S256x1 v125 shapeCasts_S256_S256x1) broadcasts_S256x1_S256x512
  have v129 : FVec Ideal S256x512 .f32 := exp2 (subf v124 v127)
  have v130 : FVec Ideal S256 .f32 := multiReduction .add [1] S256 v129 0x00000000#32 reduces_S256x512_S256 (.inl rfl) rfl
  have v133 : FVec Ideal S256x1 .f32 := divf (broadcast S256x1 (Scalar.ofBits .f32 0x3F800000#32)) (shapeCast S256x1 v130 shapeCasts_S256_S256x1)
  have v137 : FVec Ideal S512x256 .bf16 := shapeCast S512x256 v136 shapeCasts_S1x512x256_S512x256
  mulf (matmul dot_S256x512_S512x256_S256x256_1_0_0_1_n_n none (truncf .bf16 v129 bitsLt_bf16_f32) v137 (constant S256x256 .f32 0x00000000#32))
    (broadcastTo S256x256 v133 broadcasts_S256x1_S256x256)

theorem core_apply (X : FVec Ideal S256x512 .f32) (v : Vec Ideal S1x512x256 .bf16) (R l : Fin 256) :
    core X v (ix2 R l) = lateSoftmax (fun j : Fin 512 => X (ix2 R j)) (fun j => v (ix3 0 j l)) := by
  pointwise [core]
  rw [show Ideal.ofBits .f32 4286578688#32 = ⊥ by simp [Ideal.ofBits, Ideal.ieee]]
  rfl

/-- The bias of a tile's rows, head under head, from its sixteen pieces. -/
def biasOf (b : Fin 4 → Fin 4 → Vec Ideal S1x1x64x128 .f32) : FVec Ideal S256x512 .f32 :=
  concatenate S256x512 0 [⟨S64x512, k1_pay7 (b 0 0) (b 0 1) (b 0 2) (b 0 3)⟩, ⟨S64x512, k1_pay8 (b 1 0) (b 1 1) (b 1 2) (b 1 3)⟩,
    ⟨S64x512, k1_pay7 (b 2 0) (b 2 1) (b 2 2) (b 2 3)⟩, ⟨S64x512, k1_pay7 (b 3 0) (b 3 1) (b 3 2) (b 3 3)⟩]
    concatenates_S64x512_S64x512_S64x512_S64x512_S256x512_d0

theorem biasOf_apply (b : Fin 4 → Fin 4 → Vec Ideal S1x1x64x128 .f32) (R : Fin 256) (j : Fin 512) :
    biasOf b (ix2 R j) = b ⟨R.val / 64, by omega⟩ ⟨j.val / 128, by omega⟩ (ix4 0 0 ⟨R.val % 64, by omega⟩ ⟨j.val % 128, by omega⟩) := by
  have same : ∀ (x x' y y' : Fin 4) (r r' : Fin 64) (c c' : Fin 128), x.val = x'.val → y.val = y'.val → r.val = r'.val → c.val = c'.val →
      b x y (ix4 0 0 r c) = b x' y' (ix4 0 0 r' c') := by
    intro x x' y y' r r' c c' h₁ h₂ h₃ h₄
    rw [Fin.ext h₁, Fin.ext h₂, Fin.ext h₃, Fin.ext h₄]
  pointwise [biasOf, k1_pay7, k1_pay8]
  split_ifs <;> apply same <;> simp only [Fin.val_zero, Fin.val_one, Fin.val_two, Fin.isValue] <;>
    first | omega | (show 3 = _; omega)

/-- The queries of a tile, each head's lanes kept in its own rows, against the keys. -/
def qk (q : Vec Ideal S1x64x256 .bf16) (k : Vec Ideal S1x512x256 .bf16) : FVec Ideal S256x512 .f32 :=
  k1_pay6 k1_pay2 (k1_pay3 q) k1_pay4 (k1_pay5 q) 1#32 k

theorem qk_apply (q : Vec Ideal S1x64x256 .bf16) (k : Vec Ideal S1x512x256 .bf16) (R : Fin 256) (j : Fin 512) :
    qk q k (ix2 R j) = ∑ l : Fin 256, (if l.val / 64 = R.val / 64 then q (ix3 0 ⟨R.val % 64, by omega⟩ l) else 0) * k (ix3 0 j l) := by
  pointwise [qk, k1_pay6, k1_pay3, k1_pay4, k1_pay5, lane_apply]
  refine Finset.sum_congr rfl fun l _ => ?_
  congr 1
  have same : ∀ (r r' : Fin 64), r.val = r'.val → q (ix3 0 r l) = q (ix3 0 r' l) := fun r r' h => by rw [Fin.ext h]
  have fin : ∀ (n : Nat) (hn : n = R.val / 64) (hn4 : n < 4) (r : Fin 64), r.val = R.val % 64 →
      Scalar.select (IntOp.cmpi CmpIPredicate.eq (BitVec.ofNat 32 (l.val / 64)) (BitVec.ofNat 32 n)) (q (ix3 0 r l)) 0
        = if l.val / 64 = R.val / 64 then q (ix3 0 ⟨R.val % 64, by omega⟩ l) else 0 := by
    intro n hn hn4 r hr
    rw [pick_lane l n hn4, hn, same r ⟨R.val % 64, by omega⟩ hr]
  by_cases h₁ : R.val < 64
  · rw [dif_pos h₁]; exact fin 0 (by omega) (by omega) _ (by simp only; omega)
  rw [dif_neg h₁]
  by_cases h₂ : R.val - 64 < 64
  · rw [dif_pos h₂]; exact fin 1 (by omega) (by omega) _ (by simp only; omega)
  rw [dif_neg h₂]
  by_cases h₃ : R.val - 64 - 64 < 64
  · rw [dif_pos h₃]; exact fin 2 (by omega) (by omega) _ (by simp only; omega)
  rw [dif_neg h₃]; exact fin 3 (by omega) (by omega) _ (by simp only; omega)

theorem tileOf_eq (q : Vec Ideal S1x64x256 .bf16) (k v : Vec Ideal S1x512x256 .bf16) (b : Fin 4 → Fin 4 → Vec Ideal S1x1x64x128 .f32) :
    tileOf q k v b = k1_pay13 k1_pay2 (core (addf (qk q k) (biasOf b)) v) := rfl

theorem pick_apply (W : FVec Ideal S256x256 .f32) (r : Fin 64) (l : Fin 256) :
    k1_pay13 k1_pay2 W (ix3 0 r l) = W (ix2 ⟨64 * (l.val / 64) + r.val, by omega⟩ l) := by
  have same : ∀ (r r' : Fin 256), r.val = r'.val → W (ix2 r l) = W (ix2 r' l) := fun r r' h => by rw [Fin.ext h]
  pointwise [k1_pay13, lane_apply]
  rw [pick_lane l 3 (by omega), pick_lane l 2 (by omega), pick_lane l 1 (by omega)]
  split_ifs <;> exact same _ _ (by simp only; omega)

/-- One tile: late softmax attention over its 512 keys. -/
theorem tileOf_apply (q : Vec Ideal S1x64x256 .bf16) (k v : Vec Ideal S1x512x256 .bf16) (b : Fin 4 → Fin 4 → Vec Ideal S1x1x64x128 .f32)
    (r : Fin 64) (l : Fin 256) :
    tileOf q k v b (ix3 0 r l)
      = lateSoftmax (fun j : Fin 512 =>
          (∑ l' : Fin 256, (if l'.val / 64 = l.val / 64 then q (ix3 0 r l') else 0) * k (ix3 0 j l'))
            + b ⟨l.val / 64, by omega⟩ ⟨j.val / 128, by omega⟩ (ix4 0 0 r ⟨j.val % 128, by omega⟩))
          (fun j => v (ix3 0 j l)) := by
  have h₁ : (64 * (l.val / 64) + r.val) / 64 = l.val / 64 := by omega
  have h₂ : (64 * (l.val / 64) + r.val) % 64 = r.val := by omega
  rw [tileOf_eq, pick_apply, core_apply]
  congr 1
  funext j
  show qk q k _ + biasOf b _ = _
  rw [qk_apply, biasOf_apply]
  simp only [h₁, h₂]

end Cert.KernelIdeal.Gen
-- ==== Proof.Block.lean ====
module

public import proofs.«01_k».proof.Proof.Gen.KernelIdeal
public import proofs.«01_k».proof.Proof.Gen.KernelIdeal.Frame
public import proofs.«01_k».proof.Proof.Tile
public import proofs.«01_k».proof.Proof.Offsets
public import proofs.«01_k».proof.Proof.TileValue
public import Idealize.ShloMosaic.Lib.Pipeline.Value
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic
open Cert.Attention

/-! ## The result array -/

/-- The row of the key array that key `j` of a query at row `n` of the query array lies in. -/
def keyRow (n : Fin 16384) (j : Fin 512) : Fin 16384 :=
  ⟨8192 * (n.val / 8192) + 64 * firstRow (n.val % 8192 / 64) + j.val, by have := firstRow_le (n.val % 8192 / 64); omega⟩

/-- The row of the bias table for key `j` of a query at row `n`. -/
def biasRow (n : Fin 16384) (j : Fin 512) : Fin 14 :=
  ⟨firstRow (n.val % 8192 / 64) + 7 - n.val % 8192 / 64 + 2 * (j.val / 128), by unfold firstRow; omega⟩

/-- The attention's result for channel `l` of head group `g` at row `n`, over the 512 keys of the row's window, from
    the stacked queries, keys and values `A` and the bias table `T`. -/
def attended (A : Vec Ideal S16x16384x256 .bf16) (T : Vec Ideal S16x14x64x128 .f32) (g : Fin 4) (n : Fin 16384) (l : Fin 256) : EReal :=
  lateSoftmax (fun j : Fin 512 =>
      (∑ l' : Fin 256, (if l'.val / 64 = l.val / 64 then A (ix3 (⟨g.val, by omega⟩ : Fin 16) n l') else 0)
        * A (ix3 (⟨4 + g.val, by omega⟩ : Fin 16) (keyRow n j) l'))
      + T (ix4 (⟨4 * g.val + l.val / 64, by omega⟩ : Fin 16) (biasRow n j) (⟨n.val % 64, by omega⟩ : Fin 64) (⟨j.val % 128, by omega⟩ : Fin 128)))
    (fun j => A (ix3 (⟨8 + g.val, by omega⟩ : Fin 16) (keyRow n j) l))

/-- The whole result array. -/
def result (A : Vec Ideal S16x16384x256 .bf16) (T : Vec Ideal S16x14x64x128 .f32) : Vec Ideal S4x16384x256 .bf16 :=
  fun i => attended A T (i 0) (i 1) (i 2)

variable (V : (c : Dev nD) → (b : Ref sig .tc) → Buf (Elt Ideal) ((c : Thread nD τ).loc b))

/-- The row of the query array of row `r` of tile `u` at grid point `t`. -/
def queryRow (t : Fin cfg1.N) (u : Fin 32) (r : Fin 64) : Fin 16384 :=
  ⟨((grid1.coords t 0).val * 4 + (grid1.coords t 2).val) * 2048 + (64 * u.val + r.val), by
    obtain ⟨h0, h1, h2⟩ := coords_lt t; omega⟩

theorem queryRow_div (t : Fin cfg1.N) (u : Fin 32) (r : Fin 64) : (queryRow t u r).val / 8192 = (grid1.coords t 0).val := by
  obtain ⟨h0, h1, h2⟩ := coords_lt t; simp only [queryRow, rowOf]; omega
theorem queryRow_row (t : Fin cfg1.N) (u : Fin 32) (r : Fin 64) : (queryRow t u r).val % 8192 / 64 = rowOf t u := by
  obtain ⟨h0, h1, h2⟩ := coords_lt t; simp only [queryRow, rowOf]; omega
theorem queryRow_col (t : Fin cfg1.N) (u : Fin 32) (r : Fin 64) : (queryRow t u r).val % 64 = r.val := by
  obtain ⟨h0, h1, h2⟩ := coords_lt t; simp only [queryRow, rowOf]; omega

/-- The head group of a grid point. -/
abbrev group (t : Fin cfg1.N) : Fin 4 := ⟨(grid1.coords t 1).val, (coords_lt t).2.1⟩

theorem query_ld (c : Dev nD) (t : Fin cfg1.N) (u : Fin 32) (r : Fin 64) (l : Fin 256) :
    View.ld (iblk1 V c 0 t) (tileRect u) (ix3 0 r l)
      = V c main_arg0 (ix3 (⟨(group t).val, by omega⟩ : Fin 16) (queryRow t u r) l : S16x16384x256.Idx) := by
  rw [View.ld_apply]
  blk_simp [iblk1]
  congr 1
  blk_ext [index0, queryRow, tileRect, Rect.idx_unit_val]

theorem key_ld (c : Dev nD) (t : Fin cfg1.N) (u : Fin 32) (r : Fin 64) (j : Fin 512) (l : Fin 256) :
    View.ld (iblk1 V c 1 t) (keyRect (grid1.coords t) u) (ix3 0 j l)
      = V c main_arg0 (ix3 (⟨4 + (group t).val, by omega⟩ : Fin 16) (keyRow (queryRow t u r) j) l : S16x16384x256.Idx) := by
  rw [View.ld_apply]
  blk_simp [iblk1]
  congr 1
  blk_ext [index1, keyRow, queryRow_div, queryRow_row, key_off, keyRect, Rect.idx_unit_val]

theorem value_ld (c : Dev nD) (t : Fin cfg1.N) (u : Fin 32) (r : Fin 64) (j : Fin 512) (l : Fin 256) :
    View.ld (iblk1 V c 2 t) (keyRect (grid1.coords t) u) (ix3 0 j l)
      = V c main_arg0 (ix3 (⟨8 + (group t).val, by omega⟩ : Fin 16) (keyRow (queryRow t u r) j) l : S16x16384x256.Idx) := by
  rw [View.ld_apply]
  blk_simp [iblk1]
  congr 1
  blk_ext [index2, keyRow, queryRow_div, queryRow_row, key_off, keyRect, Rect.idx_unit_val]

theorem bias_ld_of (c : Dev nD) (t : Fin cfg1.N) (u : Fin 32) (r : Fin 64) (h : Fin 4) (j : Fin 512) (off : Fin 4 → ℕ)
    (inb : ∀ a, off a + S1x1x64x128.size a ≤ S4x14x64x128.size a)
    (hoff : off = ![h.val, firstRow (rowOf t u) + 7 - rowOf t u + 2 * (j.val / 128), 0, 0]) :
    View.ld (iblk1 V c 3 t) (Rect.unit (s := S4x14x64x128) off S1x1x64x128.size inb)
        (ix4 0 0 r (⟨j.val % 128, by omega⟩ : Fin 128))
      = V c main_v36 (ix4 (⟨4 * (group t).val + h.val, by omega⟩ : Fin 16) (biasRow (queryRow t u r) j)
          (⟨(queryRow t u r).val % 64, by omega⟩ : Fin 64) (⟨j.val % 128, by omega⟩ : Fin 128) : S16x14x64x128.Idx) := by
  subst hoff
  rw [View.ld_apply]
  blk_simp [iblk1]
  congr 1
  blk_ext [index3, biasRow, queryRow_col, queryRow_row, Rect.idx_unit_val]

/-- The logit of key `j` in tile `u`: the bias read for it. -/
theorem bias_piece (c : Dev nD) (t : Fin cfg1.N) (u : Fin 32) (r : Fin 64) (h : Fin 4) (j : Fin 512) :
    (tileBias (grid1.coords t) (iblk1 V c 3 t) u) h ⟨j.val / 128, by omega⟩ (ix4 0 0 r (⟨j.val % 128, by omega⟩ : Fin 128))
      = V c main_v36 (ix4 (⟨4 * (group t).val + h.val, by omega⟩ : Fin 16) (biasRow (queryRow t u r) j)
          (⟨(queryRow t u r).val % 64, by omega⟩ : Fin 64) (⟨j.val % 128, by omega⟩ : Fin 128) : S16x14x64x128.Idx) := by
  obtain ⟨h, hlt⟩ := h
  match h, hlt with
  | 0, _ => exact bias_ld_of V c t u r 0 j _ (k1_off2_inb _ u ⟨j.val / 128, by omega⟩) (bias_off0 t u ⟨j.val / 128, by omega⟩)
  | 1, _ => exact bias_ld_of V c t u r 1 j _ (k1_off3_inb _ u ⟨j.val / 128, by omega⟩) (bias_off1 t u ⟨j.val / 128, by omega⟩)
  | 2, _ => exact bias_ld_of V c t u r 2 j _ (k1_off4_inb _ u ⟨j.val / 128, by omega⟩) (bias_off2 t u ⟨j.val / 128, by omega⟩)
  | 3, _ => exact bias_ld_of V c t u r 3 j _ (k1_off5_inb _ u ⟨j.val / 128, by omega⟩) (bias_off3 t u ⟨j.val / 128, by omega⟩)

/-- Tile `u` of grid point `t` is its part of the result. -/
theorem tile_value (c : Dev nD) (t : Fin cfg1.N) (u : Fin 32) (r : Fin 64) (l : Fin 256) :
    tileOf (View.ld (iblk1 V c 0 t) (tileRect u)) (View.ld (iblk1 V c 1 t) (keyRect (grid1.coords t) u))
        (View.ld (iblk1 V c 2 t) (keyRect (grid1.coords t) u)) (tileBias (grid1.coords t) (iblk1 V c 3 t) u) (ix3 0 r l)
      = attended (V c main_arg0) (V c main_v36) (group t) (queryRow t u r) l := by
  rw [tileOf_apply]
  unfold attended
  refine congrArg₂ lateSoftmax (funext fun j => congrArg₂ (· + ·) (Finset.sum_congr rfl fun l' _ => ?_) ?_) (funext fun j => ?_)
  · rw [key_ld V c t u r, query_ld V c t u r]
  · exact bias_piece V c t u r ⟨l.val / 64, by omega⟩ j
  · exact value_ld V c t u r j l

/-- What grid point `t` leaves is its block of the result. -/
theorem block_value (c : Dev nD) (t : Fin cfg1.N) (y : S1x2048x256.Idx) :
    outsAt1 V c t y = result (V c main_arg0) (V c main_v36) ((win1_4.blk t).view.emb y) := by
  unfold outsAt1 out1_A_4
  refine View.read_writes_apply_of_pieces _ _ (fun y => result (V c main_arg0) (V c main_v36) ((win1_4.blk t).view.emb y)) _ ?_ y
    (cover1_A_4 ..)
  rw [pieces_eq]
  intro p hp x
  obtain ⟨u, -, rfl⟩ := List.mem_map.1 hp
  change S1x64x256.Idx at x
  idx_vars x
  obtain rfl : x0 = 0 := Subsingleton.elim _ _
  have e : (win1_4.blk t).view.emb ((tileRect u).emb (ix3 0 x1 x2)) = (ix3 (group t) (queryRow t u x1) x2 : S4x16384x256.Idx) := by
    blk_ext [index4, queryRow, tileRect]
  refine (tile_value V c t u x1 x2).trans ?_
  exact (congrArg (result (V c main_arg0) (V c main_v36)) e).symm

theorem array_value (c : Dev nD) :
    (dat1 V c).arrAt 4 cfg1.N = result (V c main_arg0) (V c main_v36) := by
  refine (dat1 V c).arrAt_eq_of_covers 4 _ (by decide +kernel) fun t hf y => ?_
  blk_simp
  rw [after1_4]
  exact block_value V c t y

end Cert.KernelIdeal.Gen
-- ==== Proof.Table.lean ====
module

public import proofs.«01_k».proof.Proof.Gen.KernelIdeal
public import proofs.«01_k».proof.Proof.Gen.KernelIdeal.Frame
public import proofs.«01_k».proof.Proof.Window
public import Idealize.ShloMosaic.Lib.Pipeline.Value
public import Idealize.ShloMosaic.Lib.Pipeline.ValueKit
public import Idealize.ShloMosaic.Lib.StableHlo.ReadAt
public import Idealize.ShloMosaic.Lib.Pointwise

@[expose] public section

set_option maxRecDepth 16384

noncomputable section

namespace Cert.KernelIdeal.Gen

open Idealize.ShloMosaic Idealize.ShloMosaic.TcCoe Idealize.ShloMosaic.Tactic

open Cert.Attention

/-! ## Words -/

theorem offset_word {k c e : ℕ} (hk : k < 64) (hc : c < 64) (he : e < 31) :
    IntOp.cmpi .eq (BitVec.ofNat 32 e) (IntOp.subi (IntOp.addi (IntOp.subi (BitVec.ofNat 32 k) (BitVec.ofNat 32 c)) 16#32) 1#32)
      = if e + c = k + 15 then 1#1 else 0#1 := by
  have h : (BitVec.ofNat 32 e = BitVec.ofNat 32 k - BitVec.ofNat 32 c + 16#32 - 1#32) ↔ e + c = k + 15 := by
    constructor <;> intro h <;> bv_omega
  show BitVec.ofBool (BitVec.ofNat 32 e == BitVec.ofNat 32 k - BitVec.ofNat 32 c + 16#32 - 1#32) = _
  by_cases he : e + c = k + 15
  · rw [if_pos he, beq_iff_eq.2 (h.2 he)]; rfl
  · rw [if_neg he, beq_eq_false_iff_ne.2 (fun hw => he (h.1 hw))]; rfl

theorem bit_float (a : Prop) [Decidable a] :
    FloatOps.uitofp (F := Ideal) .f32 (if a then 1#1 else 0#1) = if a then (1 : EReal) else (0 : EReal) := by
  by_cases ha : a
  · rw [if_pos ha, if_pos ha]; exact show ((((1#1 : BitVec 1).toNat : ℝ)) : EReal) = 1 by simp
  · rw [if_neg ha, if_neg ha]; exact show ((((0#1 : BitVec 1).toNat : ℝ)) : EReal) = 0 by simp

theorem half_word {a b : ℕ} (ha : a < 2) (hb : b < 2) :
    IntOp.cmpi .eq (BitVec.ofNat 32 a) (BitVec.ofNat 32 b) = if a = b then 1#1 else 0#1 := by
  interval_cases a <;> interval_cases b <;> rfl

variable (m : (ℓ : Loc nD τ sig) → Buf (Elt Ideal) ℓ) (ρ : Dev nD → PrngReg)

/-! ## What the host hands the table kernel -/

theorem pick_word (c : Dev nD) (k : Fin 62) (C : Fin 8192) :
    (W1 m ρ c (Proc.devRef .tc main_v26) : S62x8192.Idx → EReal) (ix2 k C)
      = if k.val / 31 = C.val / 64 % 2 ∧ k.val % 31 + C.val / 128 = C.val % 64 + 15 ∧ ColOk (C.val / 128) (C.val % 64) then (1 : EReal) else (0 : EReal) := by
  have e : (W1 m ρ c (Proc.devRef .tc main_v26) : S62x8192.Idx → EReal) (ix2 k C)
      = FloatOps.uitofp (F := Ideal) .f32 (IntOp.andi (IntOp.andi (IntOp.cmpi .eq (BitVec.ofNat 32 (k.val / 31)) (BitVec.ofNat 32 (C.val / 64 % 2)))
          (IntOp.cmpi .eq (BitVec.ofNat 32 (k.val % 31))
            (IntOp.subi (IntOp.addi (IntOp.subi (BitVec.ofNat 32 (C.val % 64)) (BitVec.ofNat 32 (C.val / 128))) 16#32) 1#32)))
        (insideWord 8#32 48#32 16#32 (C.val / 128) (C.val % 64))) := by
    unfold W1
    after_reads_at
    rfl
  have hk := k.isLt
  have hC := C.isLt
  rw [e, colInside (by omega) (by omega), offset_word (by omega) (by omega) (by omega), half_word (by omega) (by omega)]
  rw [and_bit, and_bit, bit_float]
  simp only [and_assoc]

theorem ok_word (c : Dev nD) (C : Fin 8192) :
    (W1 m ρ c (Proc.devRef .tc main_v30) : S1x8192.Idx → BitVec 32) (ix2 0 C)
      = if ColOk (C.val / 128) (C.val % 64) then 1#32 else 0#32 := by
  have e : (W1 m ρ c (Proc.devRef .tc main_v30) : S1x8192.Idx → BitVec 32) (ix2 0 C)
      = BitVec.setWidth 32 (insideWord 8#32 48#32 16#32 (C.val / 128) (C.val % 64)) := by
    unfold W1
    after_reads_at
    rfl
  have hC := C.isLt
  rw [e, colInside (by omega) (by omega)]
  split <;> rfl

theorem pair_apply (c : Dev nD) (R : Fin 224) (k : Fin 62) :
    (W1 m ρ c (Proc.devRef .tc main_v34) : S224x62.Idx → EReal) (ix2 R k)
      = biasEntry (m ((c : Thread nD τ).loc main_arg1)) ⟨R.val / 14, by omega⟩ (R.val % 14 + k.val / 31) (k.val % 31) := by
  have hR := R.isLt
  have hk := k.isLt
  unfold biasEntry
  rw [dif_pos (by omega)]
  unfold W1
  after_reads_at
  by_cases h : k.val < 31
  · rw [dif_pos h]
    after_reads_at
    rw [W0_args m ρ c main_arg1 (by decide)]
    congr 1
    blk_ext
  · rw [dif_neg h]
    after_reads_at
    rw [W0_args m ρ c main_arg1 (by decide)]
    congr 1
    blk_ext

/-! ## The table -/

theorem pay_apply (x : Vec Ideal S224x62 .f32) (y : Vec Ideal S62x8192 .f32) (z : Vec Ideal S1x8192 .i32) (R : Fin 224) (C : Fin 8192) :
    k0_pay1 x y z (ix2 R C) = Scalar.select (IntOp.cmpi .ne (z (ix2 0 C)) 0#32)
      ((∑ k, x (ix2 R k) * y (ix2 k C)) * Named.named (F := Ideal) κ "log2e" (φ := .f32) 0x3FB8AA3B#32)
      (Named.named (F := Ideal) κ "mask" (φ := .f32) 0xF149F2CA#32) := by
  pointwise [k0_pay1]

theorem pairs_index : ∀ t : Fin cfg0.N, win0_0.index t = ![0, 0] := (by decide +kernel : ∀ t : Fin cfg0.grid.N, _)
theorem picks_index : ∀ t : Fin cfg0.N, win0_1.index t = ![0, 0] := (by decide +kernel : ∀ t : Fin cfg0.grid.N, _)
theorem oks_index : ∀ t : Fin cfg0.N, win0_2.index t = ![0, 0] := (by decide +kernel : ∀ t : Fin cfg0.grid.N, _)
theorem table_index : ∀ t : Fin cfg0.N, win0_3.index t = ![0, 0] := (by decide +kernel : ∀ t : Fin cfg0.grid.N, _)

variable (V : (c : Dev nD) → (b : Ref sig .tc) → Buf (Elt Ideal) ((c : Thread nD τ).loc b))

theorem pairs_block (c : Dev nD) (t : Fin cfg0.N) : (iblk0 V c 0 t : S224x62.Idx → EReal) = V c main_v34 := by
  funext i
  blk_simp [iblk0]
  congr 1
  blk_ext [pairs_index]
theorem picks_block (c : Dev nD) (t : Fin cfg0.N) : (iblk0 V c 1 t : S62x8192.Idx → EReal) = V c main_v26 := by
  funext i
  blk_simp [iblk0]
  congr 1
  blk_ext [picks_index]
theorem oks_block (c : Dev nD) (t : Fin cfg0.N) : (iblk0 V c 2 t : S1x8192.Idx → BitVec 32) = V c main_v30 := by
  funext i
  blk_simp [iblk0]
  congr 1
  blk_ext [oks_index]

theorem table_array (c : Dev nD) :
    (W2 m ρ c (Proc.devRef .tc main_v35) : S224x8192.Idx → EReal)
      = k0_pay1 (F := Ideal) (W1 m ρ c (Proc.devRef .tc main_v34)) (W1 m ρ c (Proc.devRef .tc main_v26)) (W1 m ρ c (Proc.devRef .tc main_v30)) := by
  refine (W2_arr m ρ c 3).trans ?_
  refine (dat0 (V1 m ρ) c).arrAt_eq_of_covers 3 _ (by decide +kernel) fun t hf y => ?_
  blk_simp
  rw [after0_3]
  frame_out
  rw [pairs_block, picks_block, oks_block]
  congr 1
  blk_ext [table_index]

theorem table_reshape (c : Dev nD) (h : Fin 16) (n : Fin 14) (q : Fin 64) (x : Fin 128) :
    (W3 m ρ c (Proc.devRef .tc main_v36) : S16x14x64x128.Idx → EReal) (ix4 h n q x)
      = (W2 m ρ c (Proc.devRef .tc main_v35) : S224x8192.Idx → EReal) (ix2 (⟨h.val * 14 + n.val, by omega⟩ : Fin 224) (⟨q.val * 128 + x.val, by omega⟩ : Fin 8192)) := by
  unfold W3
  after_reads_at

theorem named_log2e : (Named.named (F := Ideal) κ "log2e" (φ := .f32) 0x3FB8AA3B#32 : EReal) = (((Real.log 2)⁻¹ : ℝ) : EReal) :=
  IdealRules.named_const.ideal_named_scalar _ _ _ _ rfl
theorem named_mask : (Named.named (F := Ideal) κ "mask" (φ := .f32) 0xF149F2CA#32 : EReal) = ⊥ :=
  IdealRules.named_const.ideal_named_scalar _ _ _ _ rfl

/-- The bias table: inside the column window the bias divided by the logarithm of two, outside it minus infinity. -/
theorem table_apply (c : Dev nD) (h : Fin 16) (n : Fin 14) (q : Fin 64) (x : Fin 128) :
    (W3 m ρ c (Proc.devRef .tc main_v36) : S16x14x64x128.Idx → EReal) (ix4 h n q x)
      = if ColOk q.val (x.val % 64) then
          biasEntry (m ((c : Thread nD τ).loc main_arg1)) h (n.val + x.val / 64) (x.val % 64 + 15 - q.val) * (((Real.log 2)⁻¹ : ℝ) : EReal)
        else ⊥ := by
  have hh := h.isLt
  have hn := n.isLt
  have hq := q.isLt
  have hx := x.isLt
  have d1 : (q.val * 128 + x.val) / 128 = q.val := by omega
  have d2 : (q.val * 128 + x.val) % 64 = x.val % 64 := by omega
  have d3 : (q.val * 128 + x.val) / 64 % 2 = x.val / 64 := by omega
  have d4 : (h.val * 14 + n.val) / 14 = h.val := by omega
  have d5 : (h.val * 14 + n.val) % 14 = n.val := by omega
  rw [table_reshape, table_array, pay_apply, ok_word, named_log2e, named_mask]
  simp only [d1, d2]
  by_cases hok : ColOk q.val (x.val % 64)
  · have hb : x.val % 64 + 15 - q.val < 31 ∧ q.val ≤ x.val % 64 + 15 := by
      simp only [ColOk, firstCol] at hok; omega
    rw [if_pos hok, if_pos hok,
      Finset.sum_eq_single (⟨x.val / 64 * 31 + (x.val % 64 + 15 - q.val), by omega⟩ : Fin 62)]
    · have e1 : (x.val / 64 * 31 + (x.val % 64 + 15 - q.val)) / 31 = x.val / 64 := by omega
      have e2 : (x.val / 64 * 31 + (x.val % 64 + 15 - q.val)) % 31 = x.val % 64 + 15 - q.val := by omega
      rw [pick_word, pair_apply, if_pos (by simp only [e1, e2, d1, d2, d3]; exact ⟨trivial, by omega, hok⟩), mul_one]
      simp only [e1, e2, d4, d5]
      rfl
    · intro k _ hk
      rw [pick_word, if_neg, mul_zero]
      rintro ⟨a1, a2, -⟩
      simp only [d1, d2, d3] at a1 a2
      exact hk (Fin.ext (by simp only; omega))
    · exact fun hno => absurd (Finset.mem_univ _) hno
  · rw [if_neg hok, if_neg hok]
    rfl

end Cert.KernelIdeal.Gen
-- ==== Proof.RefValue.lean ====
module

public import proofs.«01_k».proof.Proof.Gen.ReferenceIdeal
public import proofs.«01_k».proof.Proof.Gen.ReferenceIdeal.Read
public import proofs.«01_k».proof.Proof.Window
public import proofs.«01_k».proof.Proof.Softmax
public import Idealize.ShloMosaic.Lib.Pointwise

@[expose] public section

set_option maxRecDepth 16384

noncomputable section

namespace Cert.ReferenceIdeal.Read

open Idealize.ShloMosaic Idealize.ShloMosaic.TcCoe Idealize.ShloMosaic.Tactic
open Cert.Attention

variable (x0 : Vec Ideal S16x16384x256 .bf16) (x1 : Vec Ideal S16x15x31 .f32)

/-! ## The logits -/

theorem row_read (n k : Fin 8192) : val_main_v41 (F := Ideal) (ix2 n k) = insideWord 4#32 120#32 8#32 (n.val / 64) (k.val / 64) := by
  pointwise [val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_c, val_main_c_0, val_main_c_1, val_main_c_2, val_main_c_3, val_main_c_4, val_main_c_5, val_main_c_6]
  rfl
theorem col_read (n k : Fin 8192) : val_main_v70 (F := Ideal) (ix2 n k) = insideWord 8#32 48#32 16#32 (n.val % 64) (k.val % 64) := by
  pointwise [val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_c_7, val_main_c_8, val_main_c_9, val_main_c_10, val_main_c_11, val_main_c_12, val_main_c_13, val_main_c_14]
  rfl
theorem rowOffset_read (n k : Fin 8192) : val_main_v75 (F := Ideal) (ix2 n k) = offsetWord 8#32 14#32 15#32 (n.val / 64) (k.val / 64) := by
  pointwise [val_main_v71, val_main_v72, val_main_v73, val_main_v74, val_main_v75, val_main_c_15, val_main_c_16, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_c, val_main_c_0, val_main_c_1, val_main_c_2, val_main_c_3, val_main_c_4, val_main_c_5, val_main_c_6]
  rfl
theorem colOffset_read (n k : Fin 8192) : val_main_v80 (F := Ideal) (ix2 n k) = offsetWord 16#32 30#32 31#32 (n.val % 64) (k.val % 64) := by
  pointwise [val_main_v76, val_main_v77, val_main_v78, val_main_v79, val_main_v80, val_main_c_17, val_main_c_18, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_c_7, val_main_c_8, val_main_c_9, val_main_c_10, val_main_c_11, val_main_c_12, val_main_c_13, val_main_c_14]
  rfl

theorem mask_read (n k : Fin 8192) :
    val_main_v86 (F := Ideal) (ix2 n k) = if RowOk (n.val / 64) (k.val / 64) ∧ ColOk (n.val % 64) (k.val % 64) then 1#1 else 0#1 := by
  rw [val_main_v86_apply, row_read, col_read, rowInside (by omega) (by omega), colInside (by omega) (by omega), and_bit]

/-- A gather of single elements of every head at a row and a column. -/
theorem gather_read (x : Vec Ideal S16x15x31 .f32) (idx : IVec S8192x8192x2 32) (h : Fin 16) (n k : Fin 8192) :
    Host.gather gather_S16x15x31_S8192x8192x2_S16x8192x8192_0_12_n_n_12_2_1611 x idx (ix3 h n k)
      = x (ix3 h ⟨min (idx (ix3 n k 0)).toInt.toNat 14, by omega⟩ ⟨min (idx (ix3 n k 1)).toInt.toNat 30, by omega⟩) := by
  unfold Host.gather
  congr 1
  funext a
  refine Fin.ext ?_
  show GatherDims.start _ _ _ a + GatherDims.batchCoord _ _ a + GatherDims.offCoord _ _ a = _
  rw [GatherDims.batchCoord_eq_zero _ _ _ List.not_mem_nil, Nat.add_zero]
  match a with
  | ⟨0, _⟩ =>
    show GatherDims.start gather_S16x15x31_S8192x8192x2_S16x8192x8192_0_12_n_n_12_2_1611 _ _ (0 : Fin 3)
      + GatherDims.offCoord gather_S16x15x31_S8192x8192x2_S16x8192x8192_0_12_n_n_12_2_1611 _ (0 : Fin 3) = _
    unfold GatherDims.start GatherDims.offCoord
    rw [dif_neg (show (0 : Fin 3) ∉ (gather_S16x15x31_S8192x8192x2_S16x8192x8192_0_12_n_n_12_2_1611).startIndexMap by decide),
      dif_pos (show (0 : Fin 3) ∈ (gather_S16x15x31_S8192x8192x2_S16x8192x8192_0_12_n_n_12_2_1611).sKept by decide), Nat.zero_add]
    rfl
  | ⟨1, _⟩ =>
    show GatherDims.start gather_S16x15x31_S8192x8192x2_S16x8192x8192_0_12_n_n_12_2_1611 _ _ (1 : Fin 3)
      + GatherDims.offCoord gather_S16x15x31_S8192x8192x2_S16x8192x8192_0_12_n_n_12_2_1611 _ (1 : Fin 3) = _
    unfold GatherDims.start GatherDims.offCoord
    rw [dif_pos (show (1 : Fin 3) ∈ (gather_S16x15x31_S8192x8192x2_S16x8192x8192_0_12_n_n_12_2_1611).startIndexMap by decide),
      dif_neg (show (1 : Fin 3) ∉ (gather_S16x15x31_S8192x8192x2_S16x8192x8192_0_12_n_n_12_2_1611).sKept by decide), Nat.add_zero]
    refine congrArg₂ min (congrArg (fun i => (idx i).toInt.toNat) ?_) rfl
    funext b; refine Fin.ext ?_
    match b with
    | ⟨0, _⟩ => rfl
    | ⟨1, _⟩ => rfl
    | ⟨2, _⟩ => rfl
  | ⟨2, _⟩ =>
    show GatherDims.start gather_S16x15x31_S8192x8192x2_S16x8192x8192_0_12_n_n_12_2_1611 _ _ (2 : Fin 3)
      + GatherDims.offCoord gather_S16x15x31_S8192x8192x2_S16x8192x8192_0_12_n_n_12_2_1611 _ (2 : Fin 3) = _
    unfold GatherDims.start GatherDims.offCoord
    rw [dif_pos (show (2 : Fin 3) ∈ (gather_S16x15x31_S8192x8192x2_S16x8192x8192_0_12_n_n_12_2_1611).startIndexMap by decide),
      dif_neg (show (2 : Fin 3) ∉ (gather_S16x15x31_S8192x8192x2_S16x8192x8192_0_12_n_n_12_2_1611).sKept by decide), Nat.add_zero]
    refine congrArg₂ min (congrArg (fun i => (idx i).toInt.toNat) ?_) rfl
    funext b; refine Fin.ext ?_
    match b with
    | ⟨0, _⟩ => rfl
    | ⟨1, _⟩ => rfl
    | ⟨2, _⟩ => rfl

theorem index_read_row (n k : Fin 8192) : val_main_v83 (F := Ideal) (ix3 n k 0) = val_main_v75 (F := Ideal) (ix2 n k) := by
  pointwise [val_main_v83, val_main_v81, val_main_v82]
theorem index_read_col (n k : Fin 8192) : val_main_v83 (F := Ideal) (ix3 n k 1) = val_main_v80 (F := Ideal) (ix2 n k) := by
  pointwise [val_main_v83, val_main_v81, val_main_v82]

/-- The element picked by two index words is the bias at the offsets they stand for. -/
theorem picked (x : Vec Ideal S16x15x31 .f32) (h : Fin 16) (u v : BitVec 32) (a b : ℕ)
    (ea : min u.toInt.toNat 14 = a) (eb : min v.toInt.toNat 30 = b) :
    x (ix3 h ⟨min u.toInt.toNat 14, by omega⟩ ⟨min v.toInt.toNat 30, by omega⟩) = biasEntry x h a b := by
  subst ea eb
  exact (biasEntry_eq x h _ _ _ _).symm

theorem row_word (n k : Fin 8192) (hr : RowOk (n.val / 64) (k.val / 64)) :
    min (val_main_v83 (F := Ideal) (ix3 n k 0)).toInt.toNat 14 = k.val / 64 + 7 - n.val / 64 := by
  rw [index_read_row, rowOffset_read]
  exact rowOffset (by omega) hr
theorem col_word (n k : Fin 8192) (hc : ColOk (n.val % 64) (k.val % 64)) :
    min (val_main_v83 (F := Ideal) (ix3 n k 1)).toInt.toNat 30 = k.val % 64 + 15 - n.val % 64 := by
  rw [index_read_col, colOffset_read]
  exact colOffset (by omega) hc

theorem bias_read (h : Fin 16) (n k : Fin 8192) (hr : RowOk (n.val / 64) (k.val / 64)) (hc : ColOk (n.val % 64) (k.val % 64)) :
    val_main_v84 (F := Ideal) x1 (ix3 h n k) = biasEntry x1 h (k.val / 64 + 7 - n.val / 64) (k.val % 64 + 15 - n.val % 64) := by
  unfold val_main_v84
  have er := row_word n k hr
  have ec := col_word n k hc
  generalize val_main_v83 (F := Ideal) = idx at er ec ⊢
  exact (gather_read x1 idx h n k).trans (picked x1 h _ _ _ _ er ec)

theorem log_two : (Ideal.log (Ideal.ofBits .f32 1073741824#32) : EReal) = ((Real.log 2 : ℝ) : EReal) := by
  have h : (Ideal.ofBits .f32 1073741824#32 : EReal) = ((2 : ℝ) : EReal) := by
    simp [Ideal.ofBits, Ideal.ieee, -EReal.coe_mul]; norm_num
  rw [h, Ideal.log_coe]
  simp

theorem lowest : (Ideal.ofBits .f32 4286578688#32 : EReal) = ⊥ := by simp [Ideal.ofBits, Ideal.ieee]

/-- The logit of the key at row `k` for the query at row `n`, both in image `b`, under head `h` of group `g`. -/
def score (g : Fin 4) (b : Fin 2) (h : Fin 4) (n k : Fin 8192) : EReal :=
  if RowOk (n.val / 64) (k.val / 64) ∧ ColOk (n.val % 64) (k.val % 64) then
    (∑ d : Fin 64, x0 (ix3 (⟨g.val, by omega⟩ : Fin 16) (⟨b.val * 8192 + n.val, by omega⟩ : Fin 16384) (⟨h.val * 64 + d.val, by omega⟩ : Fin 256))
        * x0 (ix3 (⟨4 + g.val, by omega⟩ : Fin 16) (⟨b.val * 8192 + k.val, by omega⟩ : Fin 16384) (⟨h.val * 64 + d.val, by omega⟩ : Fin 256)))
        * ((Real.log 2 : ℝ) : EReal)
      + biasEntry x1 (⟨g.val * 4 + h.val, by omega⟩ : Fin 16) (k.val / 64 + 7 - n.val / 64) (k.val % 64 + 15 - n.val % 64)
  else ⊥

theorem score_read (g : Fin 4) (b : Fin 2) (h : Fin 4) (n k : Fin 8192) :
    val_main_v91 (F := Ideal) x0 x1 (ix5 g b h n k) = score x0 x1 g b h n k := by
  unfold score
  pointwise [val_main_v91, val_main_v89, val_main_v12, val_main_v11, val_main_v10, val_main_cst, val_main_v9, val_main_v0, val_main_v1, val_main_v2, val_main_v3, val_main_v4, val_main_v5, val_main_v90, val_main_v87, val_main_v88, val_main_v85, val_main_cst_19]
  rw [mask_read, log_two, lowest]
  by_cases hm : RowOk (n.val / 64) (k.val / 64) ∧ ColOk (n.val % 64) (k.val % 64)
  · rw [if_pos hm, if_pos hm, bias_read x1 _ n k hm.1 hm.2]
    rfl
  · rw [if_neg hm, if_neg hm]
    rfl

/-! ## The softmax and the weighted values -/

theorem out_read (g : Fin 4) (n : Fin 16384) (l : Fin 256) : val_main_v106 (F := Ideal) x0 x1 (ix3 g n l)
    = val_main_v103 (F := Ideal) x0 x1 (ix5 g (⟨n.val / 8192, by omega⟩ : Fin 2) (⟨l.val / 64, by omega⟩ : Fin 4) (⟨n.val % 8192, by omega⟩ : Fin 8192) (⟨l.val % 64, by omega⟩ : Fin 64)) := by
  pointwise [val_main_v106, val_main_v105, val_main_v104]

theorem value_read (g : Fin 4) (b : Fin 2) (k : Fin 8192) (h : Fin 4) (d : Fin 64) : val_main_v8 (F := Ideal) x0 (ix5 g b k h d)
    = x0 (ix3 (⟨8 + g.val, by omega⟩ : Fin 16) (⟨b.val * 8192 + k.val, by omega⟩ : Fin 16384) (⟨h.val * 64 + d.val, by omega⟩ : Fin 256)) := by
  pointwise [val_main_v8, val_main_v7, val_main_v6]

theorem mix_read (g : Fin 4) (b : Fin 2) (h : Fin 4) (n : Fin 8192) (d : Fin 64) :
    val_main_v103 (F := Ideal) x0 x1 (ix5 g b h n d) = ∑ k : Fin 8192, val_main_v102 (F := Ideal) x0 x1 (ix5 g b h n k) * val_main_v8 (F := Ideal) x0 (ix5 g b k h d) := by
  rw [val_main_v103_apply]
  refine Finset.sum_congr rfl fun k _ => congrArg₂ (· * ·) (congrArg _ ?_) (congrArg _ ?_)
  · funext a; match a with | ⟨0, _⟩ => rfl | ⟨1, _⟩ => rfl | ⟨2, _⟩ => rfl | ⟨3, _⟩ => rfl | ⟨4, _⟩ => rfl
  · funext a; match a with | ⟨0, _⟩ => rfl | ⟨1, _⟩ => rfl | ⟨2, _⟩ => rfl | ⟨3, _⟩ => rfl | ⟨4, _⟩ => rfl

theorem max_reduce (y : Vec Ideal S4x2x4x8192x8192 .f32) (z : Vec Ideal S_ .f32) (g : Fin 4) (b : Fin 2) (h : Fin 4) (n : Fin 8192) :
    Host.reduce (FloatOps.maximumf (F := Ideal) (φ := .f32)) y z Gen.reducesTo_S4x2x4x8192x8192_S4x2x4x8192_d4 Gen.h_S_ (ix4 g b h n)
      = Finset.univ.fold max (z ix0) (fun k : Fin 8192 => y (ix5 g b h n k)) := by
  pointwise
  rw [Subsingleton.elim (Shape.Idx.first Gen.h_S_) ix0]

theorem greatest_read (g : Fin 4) (b : Fin 2) (h : Fin 4) (n : Fin 8192) :
    val_main_v94 (F := Ideal) x0 x1 (ix4 g b h n) = Finset.univ.fold max ⊥ (fun k : Fin 8192 => score x0 x1 g b h n k) := by
  rw [val_main_v94_apply, val_main_v93_apply, val_main_cst_21_apply]
  unfold val_main_v92
  rw [max_reduce, val_main_cst_20_apply]
  simp only [score_read]
  show max (Ideal.ofBits .f32 4286578688#32) (Finset.univ.fold max (Ideal.ofBits .f32 4286578688#32) _) = _
  rw [lowest]
  exact max_eq_right bot_le

theorem exp_read (g : Fin 4) (b : Fin 2) (h : Fin 4) (n k : Fin 8192) :
    val_main_v98 (F := Ideal) x0 x1 (ix5 g b h n k)
      = Ideal.exp (score x0 x1 g b h n k - Finset.univ.fold max ⊥ (fun k : Fin 8192 => score x0 x1 g b h n k)) := by
  rw [val_main_v98_apply, val_main_v97_apply, val_main_v96_apply, val_main_v95_apply, score_read,
    show idx_main_v95 (idx_main_v96 (ix5 g b h n k)) = ix4 g b h n from by
      funext a; match a with | ⟨0, _⟩ => rfl | ⟨1, _⟩ => rfl | ⟨2, _⟩ => rfl | ⟨3, _⟩ => rfl,
    greatest_read]
  rfl

theorem sum_read (g : Fin 4) (b : Fin 2) (h : Fin 4) (n : Fin 8192) :
    val_main_v99 (F := Ideal) x0 x1 (ix4 g b h n) = ∑ k : Fin 8192, val_main_v98 (F := Ideal) x0 x1 (ix5 g b h n k) := by
  rw [val_main_v99_apply, val_main_cst_22_apply]
  rw [show (FloatOps.ofBits (F := Ideal) .f32 0x00000000#32 : EReal) = 0 by simp [Ideal.ofBits, Ideal.ieee], zero_add]
  refine Finset.sum_congr rfl fun k _ => congrArg _ ?_
  funext a; match a with | ⟨0, _⟩ => rfl | ⟨1, _⟩ => rfl | ⟨2, _⟩ => rfl | ⟨3, _⟩ => rfl | ⟨4, _⟩ => rfl

theorem weight_read (g : Fin 4) (b : Fin 2) (h : Fin 4) (n k : Fin 8192) :
    val_main_v102 (F := Ideal) x0 x1 (ix5 g b h n k)
      = Ideal.div (Ideal.exp (score x0 x1 g b h n k - Finset.univ.fold max ⊥ (fun k : Fin 8192 => score x0 x1 g b h n k)))
          (∑ i : Fin 8192, Ideal.exp (score x0 x1 g b h n i - Finset.univ.fold max ⊥ (fun k : Fin 8192 => score x0 x1 g b h n k))) := by
  rw [val_main_v102_apply, val_main_v101_apply, val_main_v100_apply,
    show idx_main_v100 (idx_main_v101 (ix5 g b h n k)) = ix4 g b h n from by
      funext a; match a with | ⟨0, _⟩ => rfl | ⟨1, _⟩ => rfl | ⟨2, _⟩ => rfl | ⟨3, _⟩ => rfl,
    sum_read]
  simp only [exp_read]
  rfl

/-- The reference's result for channel `l` of head group `g` at row `n`. -/
theorem reference_apply (g : Fin 4) (n : Fin 16384) (l : Fin 256) :
    val_main_v106 (F := Ideal) x0 x1 (ix3 g n l)
      = plainSoftmax (fun k : Fin 8192 => score x0 x1 g ⟨n.val / 8192, by omega⟩ ⟨l.val / 64, by omega⟩ ⟨n.val % 8192, by omega⟩ k)
          (fun k => x0 (ix3 (⟨8 + g.val, by omega⟩ : Fin 16) (⟨n.val / 8192 * 8192 + k.val, by omega⟩ : Fin 16384) l)) := by
  rw [out_read, mix_read]
  unfold plainSoftmax
  refine Finset.sum_congr rfl fun k _ => ?_
  rw [weight_read, value_read]
  congr 3
  refine Fin.ext ?_
  show l.val / 64 * 64 + l.val % 64 = l.val
  omega

end Cert.ReferenceIdeal.Read
-- ==== Proof.Meet.lean ====
module

public import proofs.«01_k».proof.Proof.Block
public import proofs.«01_k».proof.Proof.Table
public import proofs.«01_k».proof.Proof.RefValue
public import proofs.«01_k».proof.Proof.Softmax

@[expose] public section

set_option maxRecDepth 16384

noncomputable section

namespace Cert.Attention

open Idealize.ShloMosaic

/-- A product of all lanes against a vector kept on one head's lanes only is the product of that head's lanes. -/
theorem masked_sum (u v : Fin 256 → EReal) (h : Fin 4) :
    ∑ l : Fin 256, (if l.val / 64 = h.val then u l else 0) * v l
      = ∑ d : Fin 64, u ⟨h.val * 64 + d.val, by omega⟩ * v ⟨h.val * 64 + d.val, by omega⟩ := by
  refine (Fintype.sum_of_injective (fun d : Fin 64 => (⟨h.val * 64 + d.val, by omega⟩ : Fin 256)) ?_ _ _ ?_ ?_).symm
  · intro a b hab
    have := congrArg Fin.val hab
    simp only at this
    exact Fin.ext (by omega)
  · intro l hl
    rw [if_neg, zero_mul]
    intro hd
    exact hl ⟨⟨l.val % 64, by omega⟩, Fin.ext (by show h.val * 64 + l.val % 64 = l.val; omega)⟩
  · intro d
    rw [if_pos (by show (h.val * 64 + d.val) / 64 = h.val; omega)]

/-- A bias table of reals gives real biases. -/
theorem biasEntry_real (X : (⟨3, ![16, 15, 31]⟩ : Shape).Idx → EReal) (x : (⟨3, ![16, 15, 31]⟩ : Shape).Idx → ℝ)
    (hX : ∀ i, X i = ((x i : ℝ) : EReal)) (h : Fin 16) (a b : ℕ) :
    biasEntry X h a b = (((biasEntry X h a b).toReal : ℝ) : EReal) := by
  unfold biasEntry
  split
  · rw [hX, EReal.toReal_coe]
  · simp

section

variable (a : (⟨3, ![16, 16384, 256]⟩ : Shape).Idx → ℝ) (X : (⟨3, ![16, 15, 31]⟩ : Shape).Idx → EReal)
  (g : Fin 4) (n : Fin 16384) (l : Fin 256)

/-- The product of the query at row `n` and the key at row `k` of the same image, over the head of channel `l`. -/
def dot (k : Fin 8192) : ℝ :=
  ∑ d : Fin 64, a (ix3 (⟨g.val, by omega⟩ : Fin 16) n (⟨l.val / 64 * 64 + d.val, by omega⟩ : Fin 256))
    * a (ix3 (⟨4 + g.val, by omega⟩ : Fin 16) (⟨n.val / 8192 * 8192 + k.val, by omega⟩ : Fin 16384) (⟨l.val / 64 * 64 + d.val, by omega⟩ : Fin 256))

/-- Its bias. -/
def bias (k : Fin 8192) : ℝ :=
  (biasEntry X (⟨4 * g.val + l.val / 64, by omega⟩ : Fin 16) (k.val / 64 + 7 - n.val % 8192 / 64) (k.val % 64 + 15 - n.val % 64)).toReal

/-- The logit of key `k`, where it is in the window. -/
def content (k : Fin 8192) : ℝ := dot a g n l k * Real.log 2 + bias X g n l k

/-- The key of the image at place `j` of the row's window. -/
def windowKey (j : Fin 512) : Fin 8192 :=
  ⟨64 * firstRow (n.val % 8192 / 64) + j.val, by have := firstRow_le (n.val % 8192 / 64); omega⟩

theorem windowKey_injective : Function.Injective (windowKey n) := fun i j h => by
  have := congrArg Fin.val h
  simp only [windowKey] at this
  exact Fin.ext (by omega)

/-- The keys in reach of the query at row `n`. -/
abbrev InReach (k : Fin 8192) : Prop := RowOk (n.val % 8192 / 64) (k.val / 64) ∧ ColOk (n.val % 64) (k.val % 64)

theorem inReach_windowKey (j : Fin 512) : InReach n (windowKey n j) ↔ ColOk (n.val % 64) (j.val % 64) := by
  have h : (windowKey n j).val % 64 = j.val % 64 := by simp only [windowKey]; omega
  unfold InReach
  rw [h]
  refine and_iff_right ⟨?_, ?_⟩ <;> simp only [windowKey] <;> omega

theorem out_of_window (k : Fin 8192) (hk : k ∉ Set.range (windowKey n)) : ¬ InReach n k := by
  rintro ⟨⟨h0, h1⟩, -⟩
  exact hk ⟨⟨k.val - 64 * firstRow (n.val % 8192 / 64), by omega⟩, Fin.ext (by simp only [windowKey]; omega)⟩

theorem own_inReach : InReach n ⟨n.val % 8192, by omega⟩ := by
  refine ⟨⟨?_, ?_⟩, ?_, ?_⟩ <;> simp only [firstRow, firstCol] <;> omega

theorem own_in_window : ∃ j : Fin 512, ColOk (n.val % 64) (j.val % 64) := by
  by_contra h
  refine out_of_window n ⟨n.val % 8192, by omega⟩ ?_ (own_inReach n)
  rintro ⟨j, hj⟩
  exact h ⟨j, (inReach_windowKey n j).mp (hj ▸ own_inReach n)⟩

theorem window_mean (v : Fin 8192 → ℝ) :
    mean (fun k => weight (InReach n k) (content a X g n l k)) v
      = mean (fun j => weight (ColOk (n.val % 64) (j.val % 64)) (content a X g n l (windowKey n j))) (fun j => v (windowKey n j)) := by
  rw [mean_of_injective (windowKey n) (windowKey_injective n) _ v fun k hk => by
    unfold weight; exact if_neg (out_of_window n k hk)]
  congr 1
  funext j
  unfold weight
  exact if_congr (inReach_windowKey n j) rfl rfl

end

section

variable (A : (⟨3, ![16, 16384, 256]⟩ : Shape).Idx → EReal) (X : (⟨3, ![16, 15, 31]⟩ : Shape).Idx → EReal)
  (a : (⟨3, ![16, 16384, 256]⟩ : Shape).Idx → ℝ) (x : (⟨3, ![16, 15, 31]⟩ : Shape).Idx → ℝ)
  (hA : ∀ i, A i = ((a i : ℝ) : EReal)) (hX : ∀ i, X i = ((x i : ℝ) : EReal))
  (g : Fin 4) (n : Fin 16384) (l : Fin 256)

include hX in
theorem bias_eq (k : Fin 8192) :
    biasEntry X (⟨4 * g.val + l.val / 64, by omega⟩ : Fin 16) (k.val / 64 + 7 - n.val % 8192 / 64) (k.val % 64 + 15 - n.val % 64)
      = ((bias X g n l k : ℝ) : EReal) := biasEntry_real X x hX _ _ _

include hA hX in
theorem score_eq (k : Fin 8192) :
    Cert.ReferenceIdeal.Read.score A X g ⟨n.val / 8192, by omega⟩ ⟨l.val / 64, by omega⟩ ⟨n.val % 8192, by omega⟩ k
      = logit (InReach n k) (content a X g n l k) := by
  have hc : n.val % 8192 % 64 = n.val % 64 := by omega
  have hn : (⟨n.val / 8192 * 8192 + n.val % 8192, by omega⟩ : Fin 16384) = n := Fin.ext (by show n.val / 8192 * 8192 + n.val % 8192 = n.val; omega)
  have hg : (⟨g.val * 4 + l.val / 64, by omega⟩ : Fin 16) = ⟨4 * g.val + l.val / 64, by omega⟩ := Fin.ext (by show g.val * 4 + l.val / 64 = 4 * g.val + l.val / 64; omega)
  unfold Cert.ReferenceIdeal.Read.score logit InReach
  simp only [hc, hn, hg]
  refine if_congr Iff.rfl ?_ rfl
  rw [bias_eq X x hX g n l k]
  simp only [hA, ← EReal.coe_mul, sum_coe, ← EReal.coe_add]
  rfl

/-- The reference's result is the weighted mean of the values in reach. -/
theorem reference_mean (hA : ∀ i, A i = ((a i : ℝ) : EReal)) (hX : ∀ i, X i = ((x i : ℝ) : EReal)) :
    Cert.ReferenceIdeal.Read.val_main_v106 (F := Ideal) A X (ix3 g n l)
      = ((mean (fun k => weight (InReach n k) (content a X g n l k))
          (fun k => a (ix3 (⟨8 + g.val, by omega⟩ : Fin 16) (⟨n.val / 8192 * 8192 + k.val, by omega⟩ : Fin 16384) l)) : ℝ) : EReal) := by
  rw [Cert.ReferenceIdeal.Read.reference_apply]
  simp only [score_eq A X a x hA hX, hA]
  exact plainSoftmax_eq (InReach n) _ _ ⟨_, own_inReach n⟩

variable (T : (⟨4, ![16, 14, 64, 128]⟩ : Shape).Idx → EReal)
  (hT : ∀ (h : Fin 16) (r : Fin 14) (q : Fin 64) (y : Fin 128), T (ix4 h r q y)
    = if ColOk q.val (y.val % 64) then biasEntry X h (r.val + y.val / 64) (y.val % 64 + 15 - q.val) * (((Real.log 2)⁻¹ : ℝ) : EReal) else ⊥)

theorem keyRow_eq (j : Fin 512) :
    Cert.KernelIdeal.Gen.keyRow n j = ⟨n.val / 8192 * 8192 + (windowKey n j).val, by omega⟩ :=
  Fin.ext (by simp only [Cert.KernelIdeal.Gen.keyRow, windowKey]; omega)

include hA in
theorem product_eq (j : Fin 512) :
    (∑ l' : Fin 256, (if l'.val / 64 = l.val / 64 then A (ix3 (⟨g.val, by omega⟩ : Fin 16) n l') else 0)
        * A (ix3 (⟨4 + g.val, by omega⟩ : Fin 16) (Cert.KernelIdeal.Gen.keyRow n j) l')) = ((dot a g n l (windowKey n j) : ℝ) : EReal) := by
  rw [keyRow_eq]
  refine (masked_sum (fun l' => A (ix3 (⟨g.val, by omega⟩ : Fin 16) n l'))
    (fun l' => A (ix3 (⟨4 + g.val, by omega⟩ : Fin 16) (⟨n.val / 8192 * 8192 + (windowKey n j).val, by omega⟩ : Fin 16384) l')) ⟨l.val / 64, by omega⟩).trans ?_
  simp only [hA, ← EReal.coe_mul, sum_coe]
  rfl

/-- An entry of the table, at the offsets of key `k`. -/
theorem entry_eq (h : Fin 16) (r : Fin 14) (q : Fin 64) (y : Fin 128) (c u v : ℕ) (b : ℝ)
    (hT : T (ix4 h r q y) = if ColOk q.val (y.val % 64) then biasEntry X h (r.val + y.val / 64) (y.val % 64 + 15 - q.val) * (((Real.log 2)⁻¹ : ℝ) : EReal) else ⊥)
    (hc : y.val % 64 = c) (hu : r.val + y.val / 64 = u) (hv : c + 15 - q.val = v) (hb : biasEntry X h u v = (b : EReal)) :
    T (ix4 h r q y) = if ColOk q.val c then ((b * (Real.log 2)⁻¹ : ℝ) : EReal) else ⊥ := by
  rw [hT, hc, hu, hv, hb, EReal.coe_mul]

include hX hT in
theorem table_eq (j : Fin 512) :
    T (ix4 (⟨4 * g.val + l.val / 64, by omega⟩ : Fin 16) (Cert.KernelIdeal.Gen.biasRow n j) (⟨n.val % 64, by omega⟩ : Fin 64) (⟨j.val % 128, by omega⟩ : Fin 128))
      = if ColOk (n.val % 64) (j.val % 64) then ((bias X g n l (windowKey n j) * (Real.log 2)⁻¹ : ℝ) : EReal) else ⊥ :=
  entry_eq X T _ _ _ _ _ _ _ _ (hT _ _ _ _) (by show j.val % 128 % 64 = j.val % 64; omega)
    (by show firstRow (n.val % 8192 / 64) + 7 - n.val % 8192 / 64 + 2 * (j.val / 128) + j.val % 128 / 64
          = (64 * firstRow (n.val % 8192 / 64) + j.val) / 64 + 7 - n.val % 8192 / 64
        unfold firstRow; omega)
    (by show j.val % 64 + 15 - n.val % 64 = (64 * firstRow (n.val % 8192 / 64) + j.val) % 64 + 15 - n.val % 64; omega)
    (bias_eq X x hX g n l (windowKey n j))

theorem scaled_eq (p : Prop) [Decidable p] (s b : ℝ) :
    (s : EReal) + (if p then ((b * (Real.log 2)⁻¹ : ℝ) : EReal) else ⊥) = logit p ((Real.log 2)⁻¹ * (s * Real.log 2 + b)) := by
  have hl : Real.log 2 ≠ 0 := (Real.log_pos one_lt_two).ne'
  unfold logit
  split
  · rw [← EReal.coe_add]
    congr 1
    field_simp
  · exact EReal.add_bot _

include hA hX hT in
theorem logit_eq (j : Fin 512) :
    (∑ l' : Fin 256, (if l'.val / 64 = l.val / 64 then A (ix3 (⟨g.val, by omega⟩ : Fin 16) n l') else 0)
        * A (ix3 (⟨4 + g.val, by omega⟩ : Fin 16) (Cert.KernelIdeal.Gen.keyRow n j) l'))
      + T (ix4 (⟨4 * g.val + l.val / 64, by omega⟩ : Fin 16) (Cert.KernelIdeal.Gen.biasRow n j) (⟨n.val % 64, by omega⟩ : Fin 64) (⟨j.val % 128, by omega⟩ : Fin 128))
      = logit (ColOk (n.val % 64) (j.val % 64)) ((Real.log 2)⁻¹ * content a X g n l (windowKey n j)) := by
  rw [product_eq A a hA g n l, table_eq X x hX g n l T hT, scaled_eq]
  rfl

include hA hX hT in
/-- The kernel's attention and the reference's meet on real inputs. -/
theorem attended_eq :
    Cert.KernelIdeal.Gen.attended A T g n l = Cert.ReferenceIdeal.Read.val_main_v106 (F := Ideal) A X (ix3 g n l) := by
  have hs := lateSoftmax_eq (fun j : Fin 512 => ColOk (n.val % 64) (j.val % 64)) (fun j => content a X g n l (windowKey n j))
    (fun j => a (ix3 (⟨8 + g.val, by omega⟩ : Fin 16) (⟨n.val / 8192 * 8192 + (windowKey n j).val, by omega⟩ : Fin 16384) l)) (own_in_window n)
  have hr := reference_mean A X a x g n l hA hX
  rw [window_mean, ← hs] at hr
  rw [hr]
  refine congrArg₂ lateSoftmax (funext fun j => logit_eq A X a x hA hX g n l T hT j) (funext fun j => ?_)
  rw [keyRow_eq, hA]

end

end Cert.Attention
-- ==== Proof.Finite.lean ====
module

public import proofs.«01_k».proof.Defs
public import proofs.«01_k».proof.Proof.Gen.Pre_finite
public import Idealize.ShloMosaic.Lib.ReduceAll
public import Idealize.ShloMosaic.Lib.Pointwise

@[expose] public section

set_option maxRecDepth 16384

noncomputable section

namespace Cert.Pre_finite.Gen

open Idealize.ShloMosaic Idealize.ShloMosaic.Tactic

/-- A number smaller than infinity in absolute value is real. -/
theorem real_of_abs (x : EReal) (h : FloatOps.cmpf (F := Ideal) (φ := .f32) .olt (FloatOps.absf (F := Ideal) (φ := .f32) x) (FloatOps.ofBits (F := Ideal) .f32 0x7F800000#32) = 1#1) :
    x = ((x.toReal : ℝ) : EReal) := by
  have hi : (FloatOps.ofBits (F := Ideal) .f32 0x7F800000#32 : EReal) = ⊤ := by simp [Ideal.ofBits, Ideal.ieee]
  rw [hi] at h
  induction x with
  | bot => simp [FloatOps.cmpf, FloatOps.absf, Ideal.cmp] at h
  | top => simp [FloatOps.cmpf, FloatOps.absf, Ideal.cmp] at h
  | coe r => simp

theorem real_args (A : FVec Ideal S16x16384x256 .bf16) (X : FVec Ideal S16x15x31 .f32) (h : fn (F := Ideal) A X = fun _ => 1#1) :
    (∀ i, A i = ((EReal.toReal (A i) : ℝ) : EReal)) ∧ (∀ i, X i = ((EReal.toReal (X i) : ℝ) : EReal)) := by
  have h0 := congrFun h ix0
  dsimp only [fn] at h0
  obtain ⟨hA, hX⟩ := IntOp.andi_eq_one.mp h0
  refine ⟨fun i => ?_, fun i => ?_⟩
  · exact real_of_abs _ (Host.reduce_andi_all _ _ _ _ _ hA i)
  · exact real_of_abs _ (Host.reduce_andi_all _ _ _ _ _ hX i)

end Cert.Pre_finite.Gen
-- ==== Proof.NormFrame.lean ====
module

public import proofs.«01_k».proof.Proof.Gen.NormProj
public import proofs.«01_k».proof.Proof.Gen.NormProj.Frame
public import proofs.«01_k».proof.Proof.Gen.NormProj.Skeleton
public import Idealize.ShloMosaic.Lib.Pipeline.FrameBody
public import Idealize.ShloMosaic.Lib.Claim

@[expose] public section

set_option maxRecDepth 16384

noncomputable section

namespace Cert.NormProj.Norm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.NormProj.Gen

variable {F : FTy → Type} [FloatOps F]

local notation "𝕄" => MT nD τ sig Unit (Elt F) ℕ (UR sig nD τ) ℕ

/-- A point of the grid either only normalises, or projects and normalises. -/
theorem cond_cases : ∀ i : grid0.Coords, (k0_cond1 i = 1#1 ∧ ¬ k0_cond2 i = 1#1) ∨ (¬ k0_cond1 i = 1#1 ∧ k0_cond2 i = 1#1) := by
  decide +kernel

set_option maxHeartbeats 800000 in
/-- The body at any point, from any contents of the output's block and of the scratch to some contents of both. -/
theorem body_run (c : Dev nD) (i : grid0.Coords)
    (arg2 : Memref sig .tc .vmem S512x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S4x2048x256 .bf16) (harg5 : arg5.IsWhole) (arg6 : Memref sig .tc .vmem S2x2048x1024 .bf16) (harg6 : arg6.IsWhole)
    (x : Vec F S512x1024 .f32) (g : Vec F S1x1024 .f32) (w : Vec F S1024x1024 .f32) (E : Set ℕ) (K : PUnit → sProp 𝕄) :
    iprop(owns (c : Thread nD τ) arg2 fullShare x ∗ owns (c : Thread nD τ) arg3 fullShare g ∗ owns (c : Thread nD τ) arg4 fullShare w
        ∗ (∃ d, owns (c : Thread nD τ) arg5 fullShare d) ∗ (∃ s, owns (c : Thread nD τ) arg6 fullShare s)
        ∗ (iprop(owns (c : Thread nD τ) arg2 fullShare x ∗ owns (c : Thread nD τ) arg3 fullShare g ∗ owns (c : Thread nD τ) arg4 fullShare w
            ∗ (∃ d, owns (c : Thread nD τ) arg5 fullShare d) ∗ (∃ s, owns (c : Thread nD τ) arg6 fullShare s)) -∗ K ⟨⟩))
      ⊢ wp frame (wpE (defs₀ (F := F)) Variants.none c none) E
          (cc0_norm_proj i arg2 harg2 arg3 harg3 arg4 harg4 arg5 harg5 arg6 harg6) K := by
  simp only [cc0_norm_proj_eq_skeleton]; unfold cc0_norm_proj_skel
  simp only [k0_part1_eq_skeleton]
  unfold owns
  iintro ⟨⟨%f0, %hf0, H0⟩, ⟨%f1, %hf1, H1⟩, ⟨%f2, %hf2, H2⟩, ⟨%d3, %f3, -, H3⟩, ⟨%s, %fs, -, HS⟩, Hk⟩
  obtain rfl := harg2.eq_unread hf0; obtain rfl := harg3.eq_unread hf1; obtain rfl := harg4.eq_unread hf2
  rcases cond_cases i with ⟨h1, h2⟩ | ⟨h1, h2⟩
  on_goal 1 => rw [dif_pos h1, dif_neg h2]
  on_goal 2 => rw [dif_neg h1, dif_pos h2]
  all_goals
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexists _; isplitr; swap; · iexact H3
      ipureintro; exact rfl
    iexists _; iexists _; isplitr; swap; · iexact HS
    ipureintro; exact rfl

variable (m : (ℓ : Loc nD τ sig) → Buf (Elt F) ℓ) (ρ : Dev nD → PrngReg)

/-! ## The pipeline's proof data: the output's window is forgotten -/

/-- Only the output's window is forgotten. -/
def forgotten : Fin 4 → Bool := fun w => w.val == 3

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]

theorem scratch_class (c : Dev nD) :
    (Pipeline.ΦA spec0 c : sProp 𝕄) = iprop((∃ d, owns (c : Thread nD τ) (Memref.whole cc0_scratch0) fullShare d) ∗ (∃ r, prngReg c r)) := by
  unfold Pipeline.ΦA; rw [scopedRest0_eq]; simp only [owns_whole]; try rfl

/-- What the body is handed at point `t`, -/
def bodyPre (c : Dev nD) (t : Fin cfg0.N) : sProp 𝕄 :=
  iprop(Pipeline.ΦA spec0 c ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare d))

/-- and what it hands back. -/
def bodyPost (c : Dev nD) (t : Fin cfg0.N) : sProp 𝕄 :=
  iprop(Pipeline.ΦA spec0 c ∗ (dats m 0 c).owesAt () t.castSucc
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ (∃ d, owns (c : Thread nD τ) (win0_3.stage (cfg0.slots t 3)) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (after_0 m c), before0_1_of m (dats m 0 c) (A_eq m c 1) (after_1 m c),
    before0_2_of m (dats m 0 c) (A_eq m c 2) (after_2 m c)]
  rw [after_0, after_1, after_2, scratch_class]
  iintro ⟨⟨HS, Hg⟩, Ho, ⟨%d0, H0⟩, ⟨%d1, H1⟩, ⟨%d2, H2⟩, H3⟩
  iapply (body_run c (grid0.coords t) _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexact H3
  isplitl [HS]; · iexact HS
  iintro ⟨H0, H1, H2, H3, HS⟩
  isplitl [HS Hg]
  · isplitl [HS]; · iexact HS
    iexact Hg
  isplitl [Ho]; · iexact Ho
  isplitl [H0]; · iexact H0
  isplitl [H1]; · iexact H1
  isplitl [H2]; · iexact H2
  iexact H3

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgotten := fun t => by
  rw [bigSep_W0, bigSep_W0, body_row]
  exact triple_restated (sound_body m c t) rfl .rfl fun _ => .rfl

set_option backward.isDefEq.respectTransparency.types false in
/-- The whole run ends with every input array as it was and every counter zero. -/
theorem ends : θ_run defs (onTc (τ := τ) (main (F := F))) (s₀ m ρ)
    (fun r => Pipeline.RDat.FramePost (cfgs 0) (fun c => (dats m 0 c).toRForget forgotten) (V m) r ∧ r.2.sem = fun _ => 0) :=
  Pipeline.θ_run_frame_forget (Q' := _) cfgs (dats m) (0 : Fin 1) launch0 defs₀ Variants.none forgotten m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
      ⟨(Pipeline.RDat.FramePost.arr_in h.1 c 0 rfl).trans ((A_eq m c 0).trans (V_main_arg0 m c)),
        ((h.1 c).2 main_arg1 (Pipeline.mem_restRefs_of main_arg1 (by decide) (by decide))).trans (V_main_arg1 m c),
        (Pipeline.RDat.FramePost.arr_in h.1 c 2 rfl).trans ((A_eq m c 2).trans (V_main_arg2 m c))⟩, h.2⟩) (ends m ρ)

end Cert.NormProj.Norm

end
-- ==== Proof.NormRun.lean ====
module

public import proofs.«01_k».proof.Proof.Gen.NormProjIdeal
public import proofs.«01_k».proof.Proof.Gen.NormProjIdeal.Frame
public import proofs.«01_k».proof.Proof.Gen.NormProjIdeal.Skeleton
public import Idealize.ShloMosaic.Lib.VecWindow
public import Idealize.ShloMosaic.Lib.Pointwise

@[expose] public section

set_option maxRecDepth 16384

noncomputable section

namespace Cert.NormProjIdeal.Norm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.NormProjIdeal.Gen

variable {F : FTy → Type} [FloatOps F] [Named F]

local notation "𝕄" => MT nD τ sig Unit (Elt F) ℕ (UR sig nD τ) ℕ

/-- The projected rows, cut into slabs of 256 columns. -/
def slabs (v : FVec F S2048x1024 .bf16) : Vec F S4x2048x256 .bf16 :=
  fun y => v (ix2 (y 1) (⟨256 * (y 0).val + (y 2).val, by have := (y 0).isLt; have := (y 2).isLt; simp [S4x2048x256] at *; omega⟩ : Fin 1024))

theorem slab0 (a : BitVec 32) (p : Vec F S1x2048x1024 .bf16) (w : Vec F S1024x1024 .f32) (r : Fin 2048) (l : Fin 256) :
    k0_pay5 a p w (ix3 0 r l) = slabs (k0_pay4 a p w) (ix3 0 r l) := by
  pointwise [k0_pay5, slabs]
theorem slab1 (a : BitVec 32) (p : Vec F S1x2048x1024 .bf16) (w : Vec F S1024x1024 .f32) (r : Fin 2048) (l : Fin 256) :
    k0_pay6 a p w (ix3 0 r l) = slabs (k0_pay4 a p w) (ix3 1 r l) := by
  pointwise [k0_pay6, slabs]
theorem slab2 (a : BitVec 32) (p : Vec F S1x2048x1024 .bf16) (w : Vec F S1024x1024 .f32) (r : Fin 2048) (l : Fin 256) :
    k0_pay7 a p w (ix3 0 r l) = slabs (k0_pay4 a p w) (ix3 2 r l) := by
  pointwise [k0_pay7, slabs]
theorem slab3 (v : FVec F S2048x1024 .bf16) (r : Fin 2048) (l : Fin 256) :
    k0_pay2 v (ix3 0 r l) = slabs v (ix3 3 r l) := by
  pointwise [k0_pay2, slabs]

/-- A slab stored at its own place in the block is the block's slab. -/
theorem slab_piece (k : Fin 4) (inb : ∀ a, ![k.val, 0, 0] a + ![1, 2048, 256] a ≤ S4x2048x256.size a)
    (v : FVec F S2048x1024 .bf16) (q : Vec F S1x2048x256 .bf16)
    (h : ∀ (r : Fin 2048) (l : Fin 256), q (ix3 0 r l) = slabs v (ix3 k r l)) (x : S1x2048x256.Idx) :
    q x = slabs v ((Rect.unit (s := S4x2048x256) ![k.val, 0, 0] ![1, 2048, 256] inb).emb x) := by
  have h0 : x 0 = (0 : Fin 1) := Subsingleton.elim (α := Fin 1) _ _
  have e : (Rect.unit (s := S4x2048x256) ![k.val, 0, 0] ![1, 2048, 256] inb).emb x = ix3 k (x 1) (x 2) := by
    funext a; fin_cases a <;> apply Fin.ext <;> simp [Rect.emb, Rect.unit, h0, ix3]
  have ex : x = ix3 (0 : Fin 1) (x 1) (x 2) := by
    funext a; fin_cases a
    · exact h0
    · rfl
    · rfl
  exact (congrArg q ex).trans ((h (x 1) (x 2)).trans (congrArg (slabs v) e.symm))

set_option maxHeartbeats 3476000 in
/-- The body at a point of the first row of the grid: one more chunk of rows is normalised. -/
theorem first_run (c : Dev nD) (i : grid0.Coords)
    (arg2 : Memref sig .tc .vmem S512x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S4x2048x256 .bf16) (harg5 : arg5.IsWhole) (arg6 : Memref sig .tc .vmem S2x2048x1024 .bf16) (harg6 : arg6.IsWhole)
    (x : Vec F S512x1024 .f32) (g : Vec F S1x1024 .f32) (w : Vec F S1024x1024 .f32) (s : Vec F S2x2048x1024 .bf16) (E : Set ℕ) (K : PUnit → sProp 𝕄)
    (h1 : k0_cond1 i = 1#1) (h2 : ¬ k0_cond2 i = 1#1) :
    iprop(owns (c : Thread nD τ) arg2 fullShare x ∗ owns (c : Thread nD τ) arg3 fullShare g ∗ owns (c : Thread nD τ) arg6 fullShare s
        ∗ (iprop(owns (c : Thread nD τ) arg2 fullShare x ∗ owns (c : Thread nD τ) arg3 fullShare g
            ∗ owns (c : Thread nD τ) arg6 fullShare (VecWindow.put s (k0_off1 i) S1x512x1024.size (k0_pay1 x g))) -∗ K ⟨⟩))
      ⊢ wp frame (wpE (defs₀ (F := F)) Variants.none c none) E
          (cc0_norm_proj i arg2 harg2 arg3 harg3 arg4 harg4 arg5 harg5 arg6 harg6) K := by
  simp only [cc0_norm_proj_eq_skeleton]; unfold cc0_norm_proj_skel
  unfold owns
  iintro ⟨⟨%f0, %hf0, H0⟩, ⟨%f1, %hf1, H1⟩, ⟨%fs, %hfs, HS⟩, Hk⟩
  obtain rfl := harg2.eq_unread hf0; obtain rfl := harg3.eq_unread hf1
  rw [dif_pos h1, dif_neg h2]
  sl_exec
  sl_step
  iapply Hk
  isplitl [H0]
  · iexists _; isplitr; · ipureintro; exact harg2.read_unread _
    iexact H0
  isplitl [H1]
  · iexists _; isplitr; · ipureintro; exact harg3.read_unread _
    iexact H1
  iexists _; isplitr; swap; · iexact HS
  ipureintro
  rw [View.read_writes_cons_put _ _ _ _ _ rfl, View.writes_nil, hfs]
  refine congrArg (VecWindow.put s _ _) ?_
  rw [View.readAt_full, View.readAt_full, hf0, hf1]

set_option maxHeartbeats 3476000 in
/-- The body at a later point: a block of the previous rows is projected, and one more chunk of rows is normalised. -/
theorem later_run (c : Dev nD) (i : grid0.Coords)
    (arg2 : Memref sig .tc .vmem S512x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S4x2048x256 .bf16) (harg5 : arg5.IsWhole) (arg6 : Memref sig .tc .vmem S2x2048x1024 .bf16) (harg6 : arg6.IsWhole)
    (x : Vec F S512x1024 .f32) (g : Vec F S1x1024 .f32) (w : Vec F S1024x1024 .f32) (s : Vec F S2x2048x1024 .bf16) (E : Set ℕ) (K : PUnit → sProp 𝕄)
    (h1 : ¬ k0_cond1 i = 1#1) (h2 : k0_cond2 i = 1#1) :
    iprop(owns (c : Thread nD τ) arg2 fullShare x ∗ owns (c : Thread nD τ) arg3 fullShare g ∗ owns (c : Thread nD τ) arg4 fullShare w
        ∗ (∃ d, owns (c : Thread nD τ) arg5 fullShare d) ∗ owns (c : Thread nD τ) arg6 fullShare s
        ∗ (iprop(owns (c : Thread nD τ) arg2 fullShare x ∗ owns (c : Thread nD τ) arg3 fullShare g ∗ owns (c : Thread nD τ) arg4 fullShare w
            ∗ owns (c : Thread nD τ) arg5 fullShare (slabs (k0_pay4 (BitVec.ofNat 32 (i 1).val)
                (VecWindow.window s (k0_off2 i) S1x2048x1024.size (k0_off2_inb i h2)) w))
            ∗ owns (c : Thread nD τ) arg6 fullShare (VecWindow.put s (k0_off3 i) S1x512x1024.size (k0_pay1 x g))) -∗ K ⟨⟩))
      ⊢ wp frame (wpE (defs₀ (F := F)) Variants.none c none) E
          (cc0_norm_proj i arg2 harg2 arg3 harg3 arg4 harg4 arg5 harg5 arg6 harg6) K := by
  simp only [cc0_norm_proj_eq_skeleton]; unfold cc0_norm_proj_skel
  simp only [k0_part1_eq_skeleton]
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2
  rw [dif_neg h1, dif_pos h2]
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    sl_unfold_run_names
    rw [View.readAt_unit _ _ _ rfl (k0_off2_inb i h2), hfs, View.readAt_full, hf2]
    generalize VecWindow.window s (k0_off2 i) _ (k0_off2_inb i h2) = p
    funext y
    refine View.read_writes_apply_of_pieces _ _ (slabs (k0_pay4 (BitVec.ofNat 32 (i 1).val) p w)) _ ?_ y ?_
    · simp only [List.forall_mem_cons]
      exact ⟨slab_piece 3 _ _ _ (slab3 _), slab_piece 2 _ _ _ (slab2 _ p w), slab_piece 1 _ _ _ (slab1 _ p w),
        slab_piece 0 _ _ _ (slab0 _ p w), fun _ h => absurd h List.not_mem_nil⟩
    exact View.cover_of_tiled _ ![1, 2048, 256] rfl y
  iexists _; isplitr; swap; · iexact HS
  ipureintro
  rw [View.read_writes_cons_put _ _ _ _ _ rfl, View.writes_nil, hfs]
  refine congrArg (VecWindow.put s _ _) ?_
  rw [View.readAt_full, View.readAt_full, hf0, hf1]
  rfl
end Cert.NormProjIdeal.Norm

end
-- ==== Proof.NormDat.lean ====
module

public import proofs.«01_k».proof.Proof.NormRun
public import Idealize.ShloMosaic.Lib.Claim

@[expose] public section

set_option maxRecDepth 16384

noncomputable section

namespace Cert.NormProjIdeal.Norm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.NormProjIdeal.Gen

variable {F : FTy → Type} [FloatOps F] [Named F]

local notation "𝕄" => MT nD τ sig Unit (Elt F) ℕ (UR sig nD τ) ℕ

/-! ## The points of the grid -/

theorem coord1 : ∀ t : Fin cfg0.N, (cfg0.grid.coords t 1).val = t.val % 4 :=
  (by decide +kernel : ∀ t : Fin grid0.N, (grid0.coords t 1).val = t.val % 4)
theorem cond1_iff : ∀ t : Fin cfg0.N, k0_cond1 (cfg0.grid.coords t) = 1#1 ↔ t.val < 4 :=
  (by decide +kernel : ∀ t : Fin grid0.N, k0_cond1 (grid0.coords t) = 1#1 ↔ t.val < 4)
theorem cond2_iff : ∀ t : Fin cfg0.N, k0_cond2 (cfg0.grid.coords t) = 1#1 ↔ ¬ t.val < 4 :=
  (by decide +kernel : ∀ t : Fin grid0.N, k0_cond2 (grid0.coords t) = 1#1 ↔ ¬ t.val < 4)
theorem off1_eq (t : Fin cfg0.N) (h : t.val < 4) : k0_off1 (cfg0.grid.coords t) = ![t.val / 4 % 2, 512 * (t.val % 4), 0] :=
  funext fun a => (by decide +kernel : ∀ t : Fin grid0.N, t.val < 4 → ∀ a, k0_off1 (grid0.coords t) a = ![t.val / 4 % 2, 512 * (t.val % 4), 0] a) t h a
theorem off3_eq (t : Fin cfg0.N) (h : ¬ t.val < 4) : k0_off3 (cfg0.grid.coords t) = ![t.val / 4 % 2, 512 * (t.val % 4), 0] :=
  funext fun a => (by decide +kernel : ∀ t : Fin grid0.N, ¬ t.val < 4 → ∀ a, k0_off3 (grid0.coords t) a = ![t.val / 4 % 2, 512 * (t.val % 4), 0] a) t h a
theorem off2_eq (t : Fin cfg0.N) (h : ¬ t.val < 4) : k0_off2 (cfg0.grid.coords t) = ![(t.val / 4 - 1) % 2, 0, 0] :=
  funext fun a => (by decide +kernel : ∀ t : Fin grid0.N, ¬ t.val < 4 → ∀ a, k0_off2 (grid0.coords t) a = ![(t.val / 4 - 1) % 2, 0, 0] a) t h a
theorem idle_first : ∀ t : Fin cfg0.N, t.val < 4 → cfg0.idle 3 (cfg0.grid.coords t) = true ∧ (cfg0.win 3).flush t = false :=
  (by decide +kernel : ∀ t : Fin grid0.N, t.val < 4 → idle0 3 (grid0.coords t) = true ∧ win0_3.flush t = false)
theorem idle_later : ∀ t : Fin cfg0.N, ¬ t.val < 4 → cfg0.idle 3 (cfg0.grid.coords t) = false ∧ (cfg0.win 3).flush t = true :=
  (by decide +kernel : ∀ t : Fin grid0.N, ¬ t.val < 4 → idle0 3 (grid0.coords t) = false ∧ win0_3.flush t = true)

variable (m : (ℓ : Loc nD τ sig) → Buf (Elt F) ℓ) (ρ : Dev nD → PrngReg)

/-! ## What the scratch holds -/

/-- Row `n` of the normalised input. -/
def H (c : Dev nD) (n : Fin 16384) (k : Fin 1024) : F .bf16 :=
  k0_pay1 (iblk m c 0 ⟨n.val / 512, by have := n.isLt; have : cfg0.N = 36 := N_0; omega⟩) (iblk m c 1 ⟨n.val / 512, by have := n.isLt; have : cfg0.N = 36 := N_0; omega⟩)
    (ix3 (0 : Fin 1) (⟨n.val % 512, Nat.mod_lt _ (by norm_num)⟩ : Fin 512) k)

/-- Before point `p` the two planes of the scratch hold the rows normalised so far that are still to be read. -/
def Good (c : Dev nD) (p : ℕ) (f : Vec F S2x2048x1024 .bf16) : Prop :=
  ∀ (n : Fin 16384) (k : Fin 1024), n.val < 512 * p → 2048 * (p / 4) ≤ n.val + 2048 →
    f (ix3 (⟨n.val / 2048 % 2, Nat.mod_lt _ (by norm_num)⟩ : Fin 2) (⟨n.val % 2048, Nat.mod_lt _ (by norm_num)⟩ : Fin 2048) k) = H m c n k

theorem good_zero (c : Dev nD) (f : Vec F S2x2048x1024 .bf16) : Good m c 0 f := fun n k h => absurd h (by omega)

theorem good_succ (c : Dev nD) (t : Fin cfg0.N) (f : Vec F S2x2048x1024 .bf16) (hf : Good m c t.val f)
    (off : Fin 3 → ℕ) (ho : off = ![t.val / 4 % 2, 512 * (t.val % 4), 0]) :
    Good m c (t.val + 1) (VecWindow.put f off S1x512x1024.size (k0_pay1 (iblk m c 0 t) (iblk m c 1 t))) := by
  intro n k h1 h2
  have hn := n.isLt
  subst ho
  by_cases hlt : n.val < 512 * t.val
  · rw [← hf n k hlt (by omega)]
    unfold VecWindow.put
    rw [dif_neg]
    intro h
    have a0 := h 0; have a1 := h 1
    simp [S1x512x1024, ix3] at a0 a1
    omega
  · have ht : t = ⟨n.val / 512, by have := n.isLt; have : cfg0.N = 36 := N_0; omega⟩ := Fin.ext (show t.val = n.val / 512 by omega)
    have hin : ∀ a, ![t.val / 4 % 2, 512 * (t.val % 4), 0] a ≤ (ix3 (⟨n.val / 2048 % 2, Nat.mod_lt _ (by norm_num)⟩ : Fin 2) (⟨n.val % 2048, Nat.mod_lt _ (by norm_num)⟩ : Fin 2048) k a).val
        ∧ (ix3 (⟨n.val / 2048 % 2, Nat.mod_lt _ (by norm_num)⟩ : Fin 2) (⟨n.val % 2048, Nat.mod_lt _ (by norm_num)⟩ : Fin 2048) k a).val < ![t.val / 4 % 2, 512 * (t.val % 4), 0] a + S1x512x1024.size a := by
      intro a
      have := k.isLt
      fin_cases a <;> simp [S1x512x1024, ix3] <;> omega
    unfold VecWindow.put
    rw [dif_pos hin]
    unfold H
    have e : Rect.unitLocal (ix3 (⟨n.val / 2048 % 2, Nat.mod_lt _ (by norm_num)⟩ : Fin 2) (⟨n.val % 2048, Nat.mod_lt _ (by norm_num)⟩ : Fin 2048) k) hin
        = ix3 (0 : Fin 1) (⟨n.val % 512, Nat.mod_lt _ (by norm_num)⟩ : Fin 512) k := by
      funext a; fin_cases a <;> apply Fin.ext <;> simp [Rect.unitLocal, ix3] <;> omega
    rw [← ht]
    exact congrArg _ e

/-- The rows the body projects at point `t`. -/
def plane (c : Dev nD) (t : Fin cfg0.N) : Vec F S1x2048x1024 .bf16 := fun y =>
  H m c ⟨2048 * ((t.val - 4) / 4) + (y 1).val, by
    have h : t.val < 36 := lt_of_lt_of_eq t.isLt N_0
    have hy : (y 1).val < 2048 := (y 1).isLt
    omega⟩ (y 2)

theorem window_plane (c : Dev nD) (t : Fin cfg0.N) (h4 : ¬ t.val < 4) (f : Vec F S2x2048x1024 .bf16) (hf : Good m c t.val f)
    (inb) : VecWindow.window f (k0_off2 (cfg0.grid.coords t)) S1x2048x1024.size inb = plane m c t := by
  have h36 : t.val < 36 := lt_of_lt_of_eq t.isLt N_0
  funext y
  have hy : (y 1).val < 2048 := (y 1).isLt
  have h0 : (y 0).val = 0 := by have : (y 0).val < 1 := (y 0).isLt; omega
  unfold plane
  rw [← hf _ (y 2) (by simp only; omega) (by simp only; omega)]
  unfold VecWindow.window
  refine congrArg f ?_
  have e := off2_eq t h4
  funext a
  have ea := congrFun e a
  fin_cases a <;> apply Fin.ext <;> simp [Rect.emb, Rect.unit, ix3, h0] at ea ⊢ <;> omega

/-! ## The pipeline's proof data -/

/-- What the body carries from point to point: the scratch, its rows named, and the generator register. -/
def carried (c : Dev nD) (p : ℕ) : sProp 𝕄 :=
  iprop((∃ f, ⌜Good m c p f⌝ ∗ owns (c : Thread nD τ) (Memref.whole cc0_scratch0) fullShare f) ∗ (∃ r, prngReg c r))

/-- The arrays as launched, each input's block left in place, the projected rows in the output's block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => slabs (k0_pay4 (BitVec.ofNat 32 (cfg0.grid.coords t 1).val) (plane m c t) (iblk m c 2 t))
  Φ p := carried m c p.val
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t
    = slabs (k0_pay4 (BitVec.ofNat 32 (cfg0.grid.coords t 1).val) (plane m c t) (iblk m c 2 t)) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-! ## The body at a point -/

/-- Each window's buffer at point `t`. -/
abbrev st0 (t : Fin cfg0.N) : Memref sig .tc .vmem S512x1024 .f32 := win0_0.stage (cfg0.slots t 0)
abbrev st1 (t : Fin cfg0.N) : Memref sig .tc .vmem S1x1024 .f32 := win0_1.stage (cfg0.slots t 1)
abbrev st2 (t : Fin cfg0.N) : Memref sig .tc .vmem S1024x1024 .f32 := win0_2.stage (cfg0.slots t 2)
abbrev st3 (t : Fin cfg0.N) : Memref sig .tc .vmem S4x2048x256 .bf16 := win0_3.stage (cfg0.slots t 3)

theorem carried_class (c : Dev nD) :
    (Pipeline.ΦA spec0 c : sProp 𝕄) = iprop((∃ d, owns (c : Thread nD τ) (Memref.whole cc0_scratch0) fullShare d) ∗ (∃ r, prngReg c r)) := by
  unfold Pipeline.ΦA; rw [scopedRest0_eq]; simp only [owns_whole]; try rfl

/-- What the body is handed at point `t`, -/
def bodyPre (c : Dev nD) (t : Fin cfg0.N) : sProp 𝕄 :=
  iprop(carried m c t.val ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d)))

/-- and what it hands back. -/
def bodyPost (c : Dev nD) (t : Fin cfg0.N) : sProp 𝕄 :=
  iprop(carried m c (t.val + 1) ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ (dats m 0 c).leavesExact 3 t)

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0 carried
  simp only [before_0, before_1, before_2]
  rw [show (dats m 0 c).owesAt () t.succ = (dats m 0 c).owesAt () t.castSucc from rfl, after_0, after_1, after_2]
  by_cases h4 : t.val < 4
  · rw [Dat.leavesExact_idle _ 3 t (idle_first t h4).1 (idle_first t h4).2]
    iintro ⟨⟨⟨%f, %hf, HS⟩, Hg⟩, Ho, ⟨%d0, H0⟩, ⟨%d1, H1⟩, ⟨%d2, H2⟩, H3⟩
    iapply (first_run c (grid0.coords t) _ _ _ _ _ _ _ _ _ _ (iblk m c 0 t) (iblk m c 1 t) (iblk m c 2 t) f Set.univ _ ((cond1_iff t).2 h4) (fun h => (cond2_iff t).1 h h4))
    isplitl [H0]; · iexact H0
    isplitl [H1]; · iexact H1
    isplitl [HS]; · iexact HS
    iintro ⟨H0, H1, HS⟩
    isplitl [HS Hg]
    · isplitl [HS]
      · iexists _; isplitr; swap; · iexact HS
        ipureintro
        exact good_succ m c t f hf _ (off1_eq t h4)
      iexact Hg
    isplitl [Ho]; · iexact Ho
    isplitl [H0]; · iexact H0
    isplitl [H1]; · iexact H1
    isplitl [H2]; · iexact H2
    iexact H3
  · have hl : (dats m 0 c).leavesExact 3 t = owns (c : Thread nD τ) (st3 t) fullShare
        (slabs (k0_pay4 (BitVec.ofNat 32 (cfg0.grid.coords t 1).val) (plane m c t) (iblk m c 2 t))) := by
      unfold Dat.leavesExact; rw [(idle_later t h4).1, after_3]
    rw [hl]
    iintro ⟨⟨⟨%f, %hf, HS⟩, Hg⟩, Ho, ⟨%d0, H0⟩, ⟨%d1, H1⟩, ⟨%d2, H2⟩, ⟨%d3, H3⟩⟩
    rw [← window_plane m c t h4 f hf (k0_off2_inb (grid0.coords t) ((cond2_iff t).2 h4))]
    iapply (later_run c (grid0.coords t) _ _ _ _ _ _ _ _ _ _ (iblk m c 0 t) (iblk m c 1 t) (iblk m c 2 t) f Set.univ _ (fun h => h4 ((cond1_iff t).1 h)) ((cond2_iff t).2 h4))
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hg]
    · isplitl [HS]
      · iexists _; isplitr; swap; · iexact HS
        ipureintro
        exact good_succ m c t f hf _ (off3_eq t h4)
      iexact Hg
    isplitl [Ho]; · iexact Ho
    isplitl [H0]; · iexact H0
    isplitl [H1]; · iexact H1
    isplitl [H2]; · iexact H2
    iexact H3

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The run -/

theorem carried_start (c : Dev nD) : (Pipeline.ΦA spec0 c : sProp 𝕄) ⊢ carried m c 0 := by
  rw [carried_class]; unfold carried
  iintro ⟨⟨%d, HS⟩, Hg⟩
  isplitl [HS]
  · iexists d; isplitr; · ipureintro; exact good_zero m c d
    iexact HS
  iexact Hg

theorem carried_end (c : Dev nD) (p : ℕ) : carried m c p ⊢ (Pipeline.ΦA spec0 c : sProp 𝕄) := by
  rw [carried_class]; unfold carried
  iintro ⟨⟨%d, -, HS⟩, Hg⟩
  isplitl [HS]
  · iexists d; iexact HS
  iexact Hg

set_option backward.isDefEq.respectTransparency.types false in
/-- The whole run: it ends, every array holds what the proof data names, and every counter is zero. -/
theorem ends : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => carried_start m c) (hout := fun c => carried_end m c _)

/-- The arguments end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (ends m ρ)))
    ((θ_run defs _ _).mono (fun _ h => h.2) (ends m ρ))

end Cert.NormProjIdeal.Norm

end
-- ==== Proof.NormValue.lean ====
module

public import proofs.«01_k».proof.Proof.NormDat
public import proofs.«01_k».proof.Proof.Gen.NormProjRefIdeal
public import proofs.«01_k».proof.Proof.Gen.NormProjRefIdeal.Read
public import Idealize.ShloMosaic.Lib.Pipeline.Value
public import Idealize.ShloMosaic.Lib.Pipeline.ValueKit
public import Idealize.ShloMosaic.Lib.StableHlo.ReadAt
public import Idealize.ShloMosaic.Lib.Pointwise

@[expose] public section

set_option maxRecDepth 16384

noncomputable section

namespace Cert.NormMath

open Idealize.ShloMosaic Idealize.ShloMosaic.TcCoe Idealize.ShloMosaic.Tactic

/-- A row scaled by the reciprocal root of its mean square, times the gain. -/
def normed (x : Fin 1024 → EReal) (g : Fin 1024 → EReal) (k : Fin 1024) : EReal :=
  x k * Ideal.rsqrt (Ideal.div (∑ j, x j * x j) (Ideal.ofBits FTy.f32 1149239296#32) + Ideal.ofBits FTy.f32 897988541#32) * g k

/-- A nonnegative real factor may be taken out of a sum. -/
theorem sum_scale (s : EReal) (h0 : 0 ≤ s) (ht : s ≠ ⊤) (p w : Fin 1024 → EReal) :
    ∑ k, p k * (w k * s) = (∑ k, p k * w k) * s := by
  have key : ∀ S : Finset (Fin 1024), ∑ k ∈ S, p k * (w k * s) = (∑ k ∈ S, p k * w k) * s := by
    intro S
    induction S using Finset.induction_on with
    | empty => simp
    | insert a S ha ih => rw [Finset.sum_insert ha, Finset.sum_insert ha, ih, EReal.right_distrib_of_nonneg_of_ne_top h0 ht, mul_assoc]
  exact key _

theorem log256_pos : 0 < Real.log 256 := Real.log_pos (by norm_num)

/-- Dividing by eight logarithms of two is scaling by the reciprocal of the logarithm of 256. -/
theorem div_log (y : EReal) :
    Ideal.div y (Ideal.ofBits FTy.f32 1090519040#32 * Ideal.log (Ideal.ofBits FTy.f32 1073741824#32)) = y * (((Real.log 256)⁻¹ : ℝ) : EReal) := by
  have e8 : Ideal.ofBits FTy.f32 1090519040#32 = ((8 : ℝ) : EReal) := by simp [Ideal.ofBits, Ideal.ieee, -EReal.coe_mul]; norm_num
  have e2 : Ideal.ofBits FTy.f32 1073741824#32 = ((2 : ℝ) : EReal) := by simp [Ideal.ofBits, Ideal.ieee, -EReal.coe_mul]; norm_num
  have el : Ideal.log ((2 : ℝ) : EReal) = ((Real.log 2 : ℝ) : EReal) :=
    if_neg (not_le.2 (by norm_num : (0 : ℝ) < 2))
  have e : Real.log 256 = 8 * Real.log 2 := by
    rw [show (256 : ℝ) = 2 ^ 8 by norm_num, Real.log_pow]; norm_num
  have hne : ((Real.log 256 : ℝ) : EReal) ≠ 0 := by
    exact_mod_cast log256_pos.ne'
  rw [e8, e2, el, ← EReal.coe_mul, ← e]
  unfold Ideal.div
  rw [if_neg hne, EReal.coe_inv]

/-- The factor of a slab's columns: the queries' are scaled. -/
def factor (s : ℕ) : EReal := if s < 4 then (((Real.log 256)⁻¹ : ℝ) : EReal) else 1

theorem factor_nonneg (s : ℕ) : 0 ≤ factor s := by
  unfold factor
  split
  · exact_mod_cast inv_nonneg.2 log256_pos.le
  · exact zero_le_one

theorem factor_ne_top (s : ℕ) : factor s ≠ ⊤ := by
  unfold factor
  split
  · exact EReal.coe_ne_top _
  · exact EReal.coe_ne_top 1

end Cert.NormMath

namespace Cert.NormProjIdeal.Norm

open Idealize.ShloMosaic Idealize.ShloMosaic.TcCoe Idealize.ShloMosaic.Tactic
open Idealize.ShloMosaic.Rounds
open Cert.NormProjIdeal.Gen Cert.NormMath

variable (m : (ℓ : Loc nD τ sig) → Buf (Elt Ideal) ℓ)

/-! ## The blocks the body reads -/

theorem x_index : ∀ t : Fin cfg0.N, win0_0.index t = ![min t.val 31, 0] := (by decide +kernel : ∀ t : Fin grid0.N, _)
theorem g_index : ∀ t : Fin cfg0.N, win0_1.index t = ![0, 0] := (by decide +kernel : ∀ t : Fin grid0.N, _)
theorem w_index : ∀ t : Fin cfg0.N, win0_2.index t = ![0, t.val % 4] := (by decide +kernel : ∀ t : Fin grid0.N, _)
theorem out_index : ∀ t : Fin cfg0.N, ¬ t.val < 4 → win0_3.index t = ![t.val % 4, t.val / 4 - 1, 0] := (by decide +kernel : ∀ t : Fin grid0.N, _)

theorem x_block (c : Dev nD) (t : Fin cfg0.N) (r : Fin 512) (k : Fin 1024) :
    (iblk m c 0 t : S512x1024.Idx → EReal) (ix2 r k)
      = (m ((c : Thread nD τ).loc main_arg0) : S16384x1024.Idx → EReal) (ix2 (⟨512 * min t.val 31 + r.val, by omega⟩ : Fin 16384) k) := by
  rw [← V_main_arg0 m c]
  blk_simp [iblk]
  congr 1
  blk_ext [x_index]

theorem g_block (c : Dev nD) (t : Fin cfg0.N) (k : Fin 1024) :
    (iblk m c 1 t : S1x1024.Idx → EReal) (ix2 0 k) = (m ((c : Thread nD τ).loc main_arg1) : S1024.Idx → EReal) (ix1 k) := by
  have e : (V m c main_v0 : S1x1024.Idx → EReal) (ix2 0 k) = (m ((c : Thread nD τ).loc main_arg1) : S1024.Idx → EReal) (ix1 k) := by
    unfold V
    after_reads_at
  rw [← e]
  blk_simp [iblk]
  congr 1
  blk_ext [g_index]

theorem w_block (c : Dev nD) (t : Fin cfg0.N) (k l : Fin 1024) :
    (iblk m c 2 t : S1024x1024.Idx → EReal) (ix2 k l)
      = (m ((c : Thread nD τ).loc main_arg2) : S1024x4096.Idx → EReal) (ix2 k (⟨1024 * (t.val % 4) + l.val, by omega⟩ : Fin 4096)) := by
  rw [← V_main_arg2 m c]
  blk_simp [iblk]
  congr 1
  blk_ext [w_index]

/-! ## The body's two formulas -/

theorem pay1_apply (x : Vec Ideal S512x1024 .f32) (g : Vec Ideal S1x1024 .f32) (r : Fin 512) (k : Fin 1024) :
    k0_pay1 x g (ix3 0 r k) = normed (fun j => x (ix2 r j)) (fun j => g (ix2 0 j)) k := by
  pointwise [k0_pay1]
  rfl

theorem pay4_apply (a : BitVec 32) (p : Vec Ideal S1x2048x1024 .bf16) (w : Vec Ideal S1024x1024 .f32) (r : Fin 2048) (l : Fin 1024) :
    k0_pay4 a p w (ix2 r l) = ∑ k, p (ix3 0 r k) *
      (w (ix2 k l) * Scalar.select (Scalar.cmpi CmpIPredicate.slt a 1#32) (Named.named (F := Ideal) κ "q_scale" (φ := .f32) 0x3E38AA3B#32) 1) := by
  pointwise [k0_pay4]

theorem named_scale : (Named.named (F := Ideal) κ "q_scale" (φ := .f32) 0x3E38AA3B#32 : EReal) = (((Real.log 256)⁻¹ : ℝ) : EReal) :=
  IdealRules.named_const.ideal_named_scalar _ _ _ _ rfl

/-- The factor the body picks at block `j` of the columns is that of each of the block's slabs. -/
theorem pick_factor (j : Fin 4) (u : Fin 4) :
    (Scalar.select (Scalar.cmpi CmpIPredicate.slt (BitVec.ofNat 32 j.val) 1#32) (Named.named (F := Ideal) κ "q_scale" (φ := .f32) 0x3E38AA3B#32) 1 : EReal)
      = factor (4 * j.val + u.val) := by
  rw [named_scale]
  unfold factor
  by_cases h : j.val = 0
  · rw [if_pos (by omega), h]; rfl
  · rw [if_neg (by omega), show Scalar.cmpi CmpIPredicate.slt (BitVec.ofNat 32 j.val) 1#32 = 0#1 from
      (by decide : ∀ j : Fin 4, j.val ≠ 0 → Scalar.cmpi CmpIPredicate.slt (BitVec.ofNat 32 j.val) 1#32 = 0#1) j h]
    rfl

/-! ## The result array -/

/-- Row `n` of the normalised input, from the arguments. -/
theorem H_eq (c : Dev nD) (n : Fin 16384) (k : Fin 1024) :
    (H m c n k : EReal) = normed (fun j => (m ((c : Thread nD τ).loc main_arg0) : S16384x1024.Idx → EReal) (ix2 n j))
      (fun j => (m ((c : Thread nD τ).loc main_arg1) : S1024.Idx → EReal) (ix1 j)) k := by
  have hn := n.isLt
  unfold H
  rw [pay1_apply]
  refine congrArg₂ (fun a b => normed a b k) (funext fun j => ?_) (funext fun j => g_block m c _ j)
  rw [x_block]
  refine congrArg (fun n' => (m ((c : Thread nD τ).loc main_arg0) : S16384x1024.Idx → EReal) (ix2 n' j)) (Fin.ext ?_)
  show 512 * min (n.val / 512) 31 + n.val % 512 = n.val
  omega

/-- The projection's result, from the arguments. -/
def projected (x : Vec Ideal S16384x1024 .f32) (g : Vec Ideal S1024 .f32) (w : Vec Ideal S1024x4096 .f32) : Vec Ideal S16x16384x256 .bf16 :=
  fun i => (∑ k, normed (fun j => x (ix2 (i 1) j)) (fun j => g (ix1 j)) k
      * w (ix2 k (⟨256 * (i 0).val + (i 2).val, by have h0 : (i 0).val < 16 := (i 0).isLt; have h2 : (i 2).val < 256 := (i 2).isLt; omega⟩ : Fin 4096)))
    * factor (i 0).val

theorem block_value (c : Dev nD) (t : Fin cfg0.N) (h4 : ¬ t.val < 4) (u : Fin 4) (r : Fin 2048) (l : Fin 256) :
    slabs (k0_pay4 (BitVec.ofNat 32 (cfg0.grid.coords t 1).val) (plane m c t) (iblk m c 2 t)) (ix3 u r l)
      = projected (m ((c : Thread nD τ).loc main_arg0)) (m ((c : Thread nD τ).loc main_arg1)) (m ((c : Thread nD τ).loc main_arg2))
          (ix3 (⟨4 * (t.val % 4) + u.val, by omega⟩ : Fin 16) (⟨2048 * (t.val / 4 - 1) + r.val, by have : t.val < 36 := lt_of_lt_of_eq t.isLt N_0; omega⟩ : Fin 16384) l) := by
  have h36 : t.val < 36 := lt_of_lt_of_eq t.isLt N_0
  unfold slabs projected
  refine (pay4_apply ..).trans ?_
  rw [coord1, pick_factor ⟨t.val % 4, by omega⟩ u, sum_scale _ (factor_nonneg _) (factor_ne_top _)]
  refine congrArg (· * _) (Finset.sum_congr rfl fun k _ => congrArg₂ (· * ·) ?_ ?_)
  · unfold plane
    refine (H_eq ..).trans ?_
    refine congrArg (fun n' => normed (fun j => (m ((c : Thread nD τ).loc main_arg0) : S16384x1024.Idx → EReal) (ix2 n' j)) _ k) (Fin.ext ?_)
    show 2048 * ((t.val - 4) / 4) + r.val = 2048 * (t.val / 4 - 1) + r.val
    omega
  · refine (w_block ..).trans ?_
    refine congrArg (fun n' => (m ((c : Thread nD τ).loc main_arg2) : S1024x4096.Idx → EReal) (ix2 k n')) (Fin.ext ?_)
    show 1024 * (t.val % 4) + (256 * u.val + l.val) = 256 * (4 * (t.val % 4) + u.val) + l.val
    omega

theorem array_value (c : Dev nD) :
    (dats m 0 c).arrAt 3 cfg0.N
      = projected (m ((c : Thread nD τ).loc main_arg0)) (m ((c : Thread nD τ).loc main_arg1)) (m ((c : Thread nD τ).loc main_arg2)) := by
  refine (dats m 0 c).arrAt_eq_of_covers 3 _ (by decide +kernel) fun t hf y => ?_
  have h4 : ¬ t.val < 4 := fun h => by rw [(idle_first t h).2] at hf; exact absurd hf (by decide)
  blk_simp
  rw [after_3]
  change S4x2048x256.Idx at y
  idx_vars y
  refine (block_value m c t h4 y0 y1 y2).trans ?_
  congr 1
  blk_ext [out_index t h4]

end Cert.NormProjIdeal.Norm

namespace Cert.NormProjRefIdeal.Read

open Idealize.ShloMosaic Idealize.ShloMosaic.TcCoe Idealize.ShloMosaic.Tactic
open Cert.NormMath

variable (x : Vec Ideal S16384x1024 .f32) (g : Vec Ideal S1024 .f32) (w : Vec Ideal S1024x4096 .f32)

theorem normed_read (n : Fin 16384) (k : Fin 1024) :
    val_main_v12 (F := Ideal) x g (ix2 n k) = normed (fun j => x (ix2 n j)) (fun j => g (ix1 j)) k := by
  pointwise [val_main_v0, val_main_v1, val_main_v2, val_main_v3, val_main_v4, val_main_v5, val_main_v6, val_main_v7, val_main_v8, val_main_v9, val_main_v10, val_main_v11, val_main_v12, val_main_cst, val_main_cst_0, val_main_cst_1]
  rfl

/-- The reference's comparison of a column with the number of query columns. -/
theorem query_word {a : ℕ} (h : a < 4096) : IntOp.cmpi CmpIPredicate.slt (BitVec.ofNat 32 a) 1024#32 = if a < 1024 then 1#1 else 0#1 := by
  have e : (BitVec.ofNat 32 a).slt 1024#32 = decide (a < 1024) := by
    have e1 : (BitVec.ofNat 32 a).toInt = (a : ℤ) := by
      have en : (BitVec.ofNat 32 a).toNat = a := by rw [BitVec.toNat_ofNat]; omega
      rw [BitVec.toInt_eq_toNat_of_lt (by omega), en]
    have e2 : (1024#32).toInt = (1024 : ℤ) := by decide
    rw [BitVec.slt_eq_decide, e1, e2]
    exact decide_eq_decide.2 (by omega)
  show BitVec.ofBool _ = _
  by_cases ha : a < 1024
  · rw [if_pos ha, e, decide_eq_true ha]; rfl
  · rw [if_neg ha, e, decide_eq_false ha]; rfl

theorem result_read (i : S16x16384x256.Idx) : val_main_v24 (F := Ideal) x g w i = Cert.NormProjIdeal.Norm.projected x g w i := by
  obtain ⟨s, n, l, rfl⟩ : ∃ (s : Fin 16) (n : Fin 16384) (l : Fin 256), i = ix3 s n l := ⟨i 0, i 1, i 2, eq_ix3 i⟩
  have hs := s.isLt
  have hl := l.isLt
  pointwise [val_main_v13, val_main_v14, val_main_v15, val_main_v16, val_main_v17, val_main_v18, val_main_v19, val_main_v20, val_main_v21, val_main_v22, val_main_v23, val_main_v24, val_main_c, val_main_cst_2, val_main_cst_3]
  rw [query_word (by omega), div_log]
  have e : ∑ k, val_main_v12 (F := Ideal) x g (ix2 n k) * w (ix2 k (⟨s.val * 256 + l.val, by omega⟩ : Fin 4096))
      = ∑ k, normed (fun j => x (ix2 n j)) (fun j => g (ix1 j)) k * w (ix2 k (⟨256 * s.val + l.val, by omega⟩ : Fin 4096)) :=
    Finset.sum_congr rfl fun k _ => congrArg₂ (· * ·) (normed_read x g n k)
      (congrArg (fun q => w (ix2 k q)) (Fin.ext (show s.val * 256 + l.val = 256 * s.val + l.val by omega)))
  rw [e]
  unfold Cert.NormProjIdeal.Norm.projected factor
  by_cases h : s.val < 4
  · rw [if_pos (by omega)]
    show _ = _ * (if s.val < 4 then _ else _)
    rw [if_pos h]; rfl
  · rw [if_neg (by omega)]
    show _ = _ * (if s.val < 4 then _ else _)
    rw [if_neg h, mul_one]; rfl

end Cert.NormProjRefIdeal.Read

end
-- ==== Proof.OutTile.lean ====
module

public import proofs.«01_k».proof.Proof.Gen.OutProjIdeal
public import proofs.«01_k».proof.Proof.Gen.OutProjIdeal.Frame
public import Idealize.ShloMosaic.Lib.Pipeline.Value
public import Idealize.ShloMosaic.Lib.Pointwise

@[expose] public section

set_option maxRecDepth 16384

noncomputable section

namespace Cert.OutProjIdeal.Gen

open Idealize.ShloMosaic Idealize.ShloMosaic.TcCoe Idealize.ShloMosaic.Tactic

variable {F : FTy → Type} [FloatOps F]

/-! ## What the body computes for one block of 1024 rows -/

/-- One of the four slabs of 256 columns of a block. -/
theorem slab_inb (k : Fin 4) : ∀ a, (![k.val, 0, 0] : Fin 3 → Nat) a + S1x1024x256.size a ≤ S4x1024x256.size a := by
  revert k; decide +kernel
abbrev slab (x : Vec F S4x1024x256 .bf16) (k : Fin 4) : Vec F S1x1024x256 .bf16 :=
  View.ld x (Rect.unit (s := S4x1024x256) ![k.val, 0, 0] S1x1024x256.size (slab_inb k))

/-- The gated rows, as the matmul reads them. -/
def gated (o gate : Vec F S4x1024x256 .bf16) : FVec F S1024x1024 .bf16 :=
  k0_pay4 (slab o 0) (slab o 1) (slab o 2) (slab o 3) (slab gate 0) (slab gate 1) (slab gate 2) (slab gate 3)
/-- The rows of the residual. -/
def residual (x : Vec F S1x1024x1024 .f32) : FVec F S1024x1024 .f32 :=
  k0_pay5 (View.ld x (Rect.unit (s := S1x1024x1024) ![0, 0, 0] S1x1024x1024.size inb_S1x1024x1024_S1x1024x1024_0_0_0))
/-- The whole matrix of weights. -/
def weights (w : Vec F S1024x1024 .bf16) : Vec F S1024x1024 .bf16 :=
  View.ld w (Rect.unit (s := S1024x1024) ![0, 0] S1024x1024.size inb_S1024x1024_S1024x1024_0_0)
/-- The normalised rows. -/
def normed (o gate : Vec F S4x1024x256 .bf16) (x : Vec F S1x1024x1024 .f32) (w : Vec F S1024x1024 .bf16) (g : Vec F S1x1024 .f32) :
    FVec F S1024x1024 .f32 :=
  k0_pay8 (gated o gate) (residual x) (weights w) (View.ld g (Rect.unit (s := S1x1024) ![0, 0] S1x1024.size inb_S1x1024_S1x1024_0_0))

/-! ## The scratch buffers -/

theorem lanes_slice (s : Fin 8) : S1024x1024.Slices ![0, 128 * s.val] S1024x128 := by
  revert s; decide +kernel
theorem lanes_inb (s : Fin 8) : ∀ a, (![s.val, 0, 0] : Fin 3 → Nat) a + S1x1024x128.size a ≤ S8x1024x128.size a := by
  revert s; decide +kernel
/-- The first scratch buffer's stores: columns 128 s to 128 (s + 1) of the rows, one slab each. -/
def lanesAt (hn : FVec F S1024x1024 .f32) (s : Fin 8) : View.Piece (Elt F) S8x1024x128 .f32 :=
  ⟨Rect.unit (s := S8x1024x128) ![s.val, 0, 0] S1x1024x128.size (lanes_inb s),
    shapeCast S1x1024x128 (extractStridedSlice S1024x128 ![0, 128 * s.val] hn (lanes_slice s)) shapeCasts_S1024x128_S1x1024x128⟩
abbrev lanePieces (hn : FVec F S1024x1024 .f32) : List (View.Piece (Elt F) S8x1024x128 .f32) :=
  (List.finRange 8).reverse.map (lanesAt hn)

/-- Every fourth row of slab `u % 8`, from row `u / 8`. -/
theorem fourth_inb (u : Fin 32) : ∀ a, S1x256x128.size a = 0 ∨
    (![u.val % 8, u.val / 8, 0] : Fin 3 → Nat) a + (![1, 4, 1] : Fin 3 → Nat) a * (S1x256x128.size a - 1) < S8x1024x128.size a := by
  revert u; decide +kernel
abbrev fourth (u : Fin 32) : LoadRect S8x1024x128 := ⟨![u.val % 8, u.val / 8, 0], S1x256x128.size, ![1, 4, 1], fourth_inb u⟩

theorem sorted_inb (u : Fin 32) : ∀ a, (![u.val % 8, 256 * (u.val / 8), 0] : Fin 3 → Nat) a + S1x256x128.size a ≤ S8x1024x128.size a := by
  revert u; decide +kernel
/-- The second scratch buffer's stores: the rows of a slab sorted by their remainder by four. -/
def sortedAt (v : View sig .tc .vmem S8x1024x128 .f32) (hn : FVec F S1024x1024 .f32) (u : Fin 32) : View.Piece (Elt F) S8x1024x128 .f32 :=
  ⟨Rect.unit (s := S8x1024x128) ![u.val % 8, 256 * (u.val / 8), 0] S1x256x128.size (sorted_inb u),
    shapeCast S1x256x128 (shapeCast S256x128 (v.readCov (lanePieces hn) (fourth u)) shapeCasts_S1x256x128_S256x128)
      shapeCasts_S256x128_S1x256x128⟩
abbrev sortedPieces (v : View sig .tc .vmem S8x1024x128 .f32) (hn : FVec F S1024x1024 .f32) : List (View.Piece (Elt F) S8x1024x128 .f32) :=
  (List.finRange 32).reverse.map (sortedAt v hn)

/-- Of slab `u % 8` of the second scratch buffer, every fourth row: the rows with remainder `u / 8` by sixteen. -/
theorem sixteenth_inb (u : Fin 128) : ∀ a, S1x64x128.size a = 0 ∨
    (![u.val % 8, 256 * (u.val / 8 % 4) + u.val / 8 / 4, 0] : Fin 3 → Nat) a + (![1, 4, 1] : Fin 3 → Nat) a * (S1x64x128.size a - 1)
      < S8x1024x128.size a := by
  revert u; decide +kernel
abbrev sixteenth (u : Fin 128) : LoadRect S8x1024x128 :=
  ⟨![u.val % 8, 256 * (u.val / 8 % 4) + u.val / 8 / 4, 0], S1x64x128.size, ![1, 4, 1], sixteenth_inb u⟩

/-! ## The outputs' stores -/

theorem four_inb (u : Fin 32) : ∀ a, (![0, u.val / 8, 0, 128 * (u.val % 8)] : Fin 4 → Nat) a + S1x1x256x128.size a ≤ S1x4x256x1024.size a := by
  revert u; decide +kernel
def fourAt (v : View sig .tc .vmem S8x1024x128 .f32) (hn : FVec F S1024x1024 .f32) (u : Fin 32) : View.Piece (Elt F) S1x4x256x1024 .bf16 :=
  ⟨Rect.unit (s := S1x4x256x1024) ![0, u.val / 8, 0, 128 * (u.val % 8)] S1x1x256x128.size (four_inb u),
    shapeCast S1x1x256x128 (truncf .bf16 (shapeCast S256x128 (v.readCov (lanePieces hn) (fourth u)) shapeCasts_S1x256x128_S256x128)
      bitsLt_bf16_f32) shapeCasts_S256x128_S1x1x256x128⟩

theorem sixteen_inb (u : Fin 128) : ∀ a, (![0, u.val / 8, 0, 128 * (u.val % 8)] : Fin 4 → Nat) a + S1x1x64x128.size a ≤ S1x16x64x1024.size a := by
  revert u; decide +kernel
def sixteenAt (v v' : View sig .tc .vmem S8x1024x128 .f32) (hn : FVec F S1024x1024 .f32) (u : Fin 128) : View.Piece (Elt F) S1x16x64x1024 .bf16 :=
  ⟨Rect.unit (s := S1x16x64x1024) ![0, u.val / 8, 0, 128 * (u.val % 8)] S1x1x64x128.size (sixteen_inb u),
    shapeCast S1x1x64x128 (truncf .bf16 (shapeCast S64x128 (v'.readCov (sortedPieces v hn) (sixteenth u)) shapeCasts_S1x64x128_S64x128)
      bitsLt_bf16_f32) shapeCasts_S64x128_S1x1x64x128⟩

section Pieces

set_option maxHeartbeats 4000000

variable  (c : Dev nD) (i : grid0.Coords) (arg2 : Memref sig .tc .vmem S4x1024x256 .bf16) (harg2 : arg2.IsWhole) (arg3 : Memref sig .tc .vmem S4x1024x256 .bf16) (harg3 : arg3.IsWhole) (arg4 : Memref sig .tc .vmem S1x1024x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024x1024 .f32) (harg7 : arg7.IsWhole) (arg8 : Memref sig .tc .vmem S1x1x1024x1024 .bf16) (harg8 : arg8.IsWhole) (arg9 : Memref sig .tc .vmem S1x4x256x1024 .bf16) (harg9 : arg9.IsWhole) (arg10 : Memref sig .tc .vmem S1x16x64x1024 .bf16) (harg10 : arg10.IsWhole) (arg11 : Memref sig .tc .vmem S8x1024x128 .f32) (harg11 : arg11.IsWhole) (arg12 : Memref sig .tc .vmem S8x1024x128 .f32) (harg12 : arg12.IsWhole)
    (x0 : Vec F S4x1024x256 .bf16) (x1 : Vec F S4x1024x256 .bf16) (x2 : Vec F S1x1024x1024 .f32) (x3 : Vec F S1024x1024 .bf16) (x4 : Vec F S1x1024 .f32)

/-- The body's one store of the sum. -/
theorem sum_pieces : (kernelRun0_A c i arg2 harg2 arg3 harg3 arg4 harg4 arg5 harg5 arg6 harg6 arg7 harg7 arg8 harg8 arg9 harg9 arg10 harg10 arg11 harg11 arg12 harg12 x0 x1 x2 x3 x4).1
    = [⟨Rect.unit (s := S1x1024x1024) ![0, 0, 0] S1x1024x1024.size inb_S1x1024x1024_S1x1024x1024_0_0_0,
        k0_pay7 (gated x0 x1) (residual x2) (weights x3)⟩] := by
  have h0 := harg2.read_unread (Val := Elt F) x0
  have h1 := harg3.read_unread (Val := Elt F) x1
  have h2 := harg4.read_unread (Val := Elt F) x2
  have h3 := harg5.read_unread (Val := Elt F) x3
  have key : (kernelRun0_A c i arg2 harg2 arg3 harg3 arg4 harg4 arg5 harg5 arg6 harg6 arg7 harg7 arg8 harg8 arg9 harg9 arg10 harg10 arg11 harg11 arg12 harg12 x0 x1 x2 x3 x4).1
      = [⟨Rect.unit (s := S1x1024x1024) ![0, 0, 0] S1x1024x1024.size inb_S1x1024x1024_S1x1024x1024_0_0_0,
          k0_pay7 (gated (arg2.view.read (Elt F) (harg2.unread x0)) (arg3.view.read (Elt F) (harg3.unread x1)))
            (residual (arg4.view.read (Elt F) (harg4.unread x2))) (weights (arg5.view.read (Elt F) (harg5.unread x3)))⟩] := by
    sl_kernel_rfl
  rw [key, h0, h1, h2, h3]

/-- The other outputs' stores, from the normalised rows. -/
theorem dilated_pieces :
    (kernelRun0_A c i arg2 harg2 arg3 harg3 arg4 harg4 arg5 harg5 arg6 harg6 arg7 harg7 arg8 harg8 arg9 harg9 arg10 harg10 arg11 harg11 arg12 harg12 x0 x1 x2 x3 x4).2.1
      = [⟨Rect.unit (s := S1x1x1024x1024) ![0, 0, 0, 0] S1x1x1024x1024.size inb_S1x1x1024x1024_S1x1x1024x1024_0_0_0_0, k0_pay18 (normed x0 x1 x2 x3 x4)⟩]
    ∧ (kernelRun0_A c i arg2 harg2 arg3 harg3 arg4 harg4 arg5 harg5 arg6 harg6 arg7 harg7 arg8 harg8 arg9 harg9 arg10 harg10 arg11 harg11 arg12 harg12 x0 x1 x2 x3 x4).2.2.1
      = (List.finRange 32).reverse.map (fourAt arg11.view (normed x0 x1 x2 x3 x4))
    ∧ (kernelRun0_A c i arg2 harg2 arg3 harg3 arg4 harg4 arg5 harg5 arg6 harg6 arg7 harg7 arg8 harg8 arg9 harg9 arg10 harg10 arg11 harg11 arg12 harg12 x0 x1 x2 x3 x4).2.2.2.1
      = (List.finRange 128).reverse.map (sixteenAt arg11.view arg12.view (normed x0 x1 x2 x3 x4)) := by
  have h0 := harg2.read_unread (Val := Elt F) x0
  have h1 := harg3.read_unread (Val := Elt F) x1
  have h2 := harg4.read_unread (Val := Elt F) x2
  have h3 := harg5.read_unread (Val := Elt F) x3
  have h4 := harg6.read_unread (Val := Elt F) x4
  have hn : normed (arg2.view.read (Elt F) (harg2.unread x0)) (arg3.view.read (Elt F) (harg3.unread x1)) (arg4.view.read (Elt F) (harg4.unread x2))
      (arg5.view.read (Elt F) (harg5.unread x3)) (arg6.view.read (Elt F) (harg6.unread x4)) = normed x0 x1 x2 x3 x4 := by
    rw [h0, h1, h2, h3, h4]
  rw [← hn]
  refine ⟨?_, ?_, ?_⟩
  · sl_kernel_rfl
  · sl_kernel_rfl
  · sl_kernel_rfl

end Pieces

end Cert.OutProjIdeal.Gen
-- ==== Proof.OutBlock.lean ====
module

public import proofs.«01_k».proof.Proof.OutTile
public import Idealize.ShloMosaic.Lib.Pipeline.ValueKit
public import Idealize.ShloMosaic.Lib.VecWindow

@[expose] public section

set_option maxRecDepth 16384

noncomputable section

namespace Cert.OutProjIdeal.Gen

open Idealize.ShloMosaic Idealize.ShloMosaic.TcCoe Idealize.ShloMosaic.Tactic

variable {F : FTy → Type} [FloatOps F]

/-! ## The scratch buffers read back -/

/-- A load from a buffer whose stores are pieces of one array and cover it reads that array. -/
theorem readCov_of_pieces {s : Shape} {e : EltTy} (v : View sig .tc .vmem s e) (G : s.Idx → Elt F e) (L : List (View.Piece (Elt F) s e))
    (hL : ∀ p ∈ L, ∀ x : p.1.shape.Idx, p.2 x = G (p.1.emb x)) (hc : ∀ y : s.Idx, ∃ p ∈ L, y ∈ p.1.set) (B : LoadRect s) (j : B.shape.Idx) :
    v.readCov L B j = G (B.idx j) := by
  unfold View.readCov
  rw [View.readAt_apply]
  exact View.read_writes_apply_of_pieces v v.junk G L hL _ (hc _)

/-- The first scratch buffer: the rows, in slabs of 128 columns. -/
def lanes (hn : FVec F S1024x1024 .f32) : Vec F S8x1024x128 .f32 := fun y =>
  hn (ix2 (y 1) (⟨128 * (y 0).val + (y 2).val, by have h0 : (y 0).val < 8 := (y 0).isLt; have h2 : (y 2).val < 128 := (y 2).isLt; omega⟩ : Fin 1024))

/-- The second scratch buffer: the rows sorted by their remainder by four, in slabs of 128 columns. -/
def sorted (hn : FVec F S1024x1024 .f32) : Vec F S8x1024x128 .f32 := fun y =>
  hn (ix2 (⟨4 * ((y 1).val % 256) + (y 1).val / 256, by have h1 : (y 1).val < 1024 := (y 1).isLt; omega⟩ : Fin 1024)
    (⟨128 * (y 0).val + (y 2).val, by have h0 : (y 0).val < 8 := (y 0).isLt; have h2 : (y 2).val < 128 := (y 2).isLt; omega⟩ : Fin 1024))

/-- Equal rows and columns are equal places. -/
theorem place_eq {a b c d : Fin 1024} (h : a.val = c.val) (h' : b.val = d.val) : (ix2 a b : S1024x1024.Idx) = ix2 c d := by
  rw [Fin.ext h, Fin.ext h']

theorem lane_store (hn : FVec F S1024x1024 .f32) (s : Fin 8) (x : (lanesAt hn s).1.shape.Idx) :
    (lanesAt hn s).2 x = lanes hn ((lanesAt hn s).1.emb x) := by
  change S1x1024x128.Idx at x
  idx_vars x
  have h0 : x0.val = 0 := by omega
  unfold lanesAt
  pointwise []
  unfold lanes
  exact congrArg hn (place_eq (by simp [Rect.emb, Rect.unit, ix3]) (by simp [Rect.emb, Rect.unit, ix3, h0]))

theorem lane_cover (hn : FVec F S1024x1024 .f32) (y : S8x1024x128.Idx) : ∃ p ∈ lanePieces hn, y ∈ p.1.set := by
  refine ⟨lanesAt hn (y 0), List.mem_map_of_mem (List.mem_reverse.2 (List.mem_finRange _)), ?_⟩
  refine (LoadRect.mem_set _).2 fun a => ?_
  fin_cases a
  · exact ⟨0, Nat.one_pos, by simp [lanesAt, Rect.unit]⟩
  · exact ⟨(y 1).val, (y 1).isLt, by simp [lanesAt, Rect.unit]⟩
  · exact ⟨(y 2).val, (y 2).isLt, by simp [lanesAt, Rect.unit]⟩

theorem fourth_read (v : View sig .tc .vmem S8x1024x128 .f32) (hn : FVec F S1024x1024 .f32) (u : Fin 32) (a : Fin 256) (l : Fin 128) :
    v.readCov (lanePieces hn) (fourth u) (ix3 0 a l)
      = hn (ix2 (⟨u.val / 8 + 4 * a.val, by omega⟩ : Fin 1024) (⟨128 * (u.val % 8) + l.val, by omega⟩ : Fin 1024)) := by
  refine (readCov_of_pieces v (lanes hn) _ (fun p hp => ?_) (lane_cover hn) _ _).trans ?_
  · obtain ⟨s, -, rfl⟩ := List.mem_map.1 hp
    exact lane_store hn s
  · unfold lanes
    exact congrArg hn (place_eq (by simp [LoadRect.idx, ix3]) (by simp [LoadRect.idx, ix3]))

theorem sorted_cast (q : Vec F S1x256x128 .f32) (a : Fin 256) (l : Fin 128) :
    shapeCast S1x256x128 (shapeCast S256x128 q shapeCasts_S1x256x128_S256x128) shapeCasts_S256x128_S1x256x128 (ix3 0 a l) = q (ix3 0 a l) := by
  pointwise []

theorem sorted_emb (u : Fin 32) (a : Fin 256) (l : Fin 128) :
    (Rect.unit (s := S8x1024x128) ![u.val % 8, 256 * (u.val / 8), 0] S1x256x128.size (sorted_inb u)).emb (ix3 0 a l)
      = ix3 (⟨u.val % 8, by omega⟩ : Fin 8) (⟨256 * (u.val / 8) + a.val, by omega⟩ : Fin 1024) l := by
  funext b; fin_cases b <;> apply Fin.ext <;> simp [Rect.emb, Rect.unit, ix3]

theorem sorted_store (v : View sig .tc .vmem S8x1024x128 .f32) (hn : FVec F S1024x1024 .f32) (u : Fin 32) (x : S1x256x128.Idx) :
    (sortedAt v hn u).2 x = sorted hn ((sortedAt v hn u).1.emb x) := by
  obtain ⟨a, l, rfl⟩ : ∃ (a : Fin 256) (l : Fin 128), x = ix3 0 a l :=
    ⟨x 1, x 2, (eq_ix3 x).trans (congrArg (fun z : Fin 1 => ix3 z (x 1) (x 2)) (Subsingleton.elim (α := Fin 1) (x 0) 0))⟩
  refine (sorted_cast _ a l).trans ((fourth_read v hn u a l).trans (Eq.trans ?_ (congrArg (sorted hn) (sorted_emb u a l).symm)))
  exact congrArg hn (place_eq (by show _ = 4 * ((256 * (u.val / 8) + a.val) % 256) + (256 * (u.val / 8) + a.val) / 256; dsimp only; omega) rfl)

theorem sorted_cover (v : View sig .tc .vmem S8x1024x128 .f32) (hn : FVec F S1024x1024 .f32) (y : S8x1024x128.Idx) :
    ∃ p ∈ sortedPieces v hn, y ∈ p.1.set := by
  have h0 : (y 0).val < 8 := (y 0).isLt
  have h1 : (y 1).val < 1024 := (y 1).isLt
  refine ⟨sortedAt v hn ⟨8 * ((y 1).val / 256) + (y 0).val, by omega⟩, List.mem_map_of_mem (List.mem_reverse.2 (List.mem_finRange _)), ?_⟩
  refine (LoadRect.mem_set _).2 fun a => ?_
  fin_cases a
  · exact ⟨0, Nat.one_pos, by simp [sortedAt, Rect.unit]; omega⟩
  · exact ⟨(y 1).val % 256, Nat.mod_lt _ (by decide), by simp [sortedAt, Rect.unit]; omega⟩
  · exact ⟨(y 2).val, (y 2).isLt, by simp [sortedAt, Rect.unit]⟩

theorem sixteenth_read (v v' : View sig .tc .vmem S8x1024x128 .f32) (hn : FVec F S1024x1024 .f32) (u : Fin 128) (a : Fin 64) (l : Fin 128) :
    v'.readCov (sortedPieces v hn) (sixteenth u) (ix3 0 a l)
      = hn (ix2 (⟨u.val / 8 + 16 * a.val, by omega⟩ : Fin 1024) (⟨128 * (u.val % 8) + l.val, by omega⟩ : Fin 1024)) := by
  refine (readCov_of_pieces v' (sorted hn) _ (fun p hp => ?_) (sorted_cover v hn) _ _).trans ?_
  · obtain ⟨s, -, rfl⟩ := List.mem_map.1 hp
    exact sorted_store v hn s
  · unfold sorted
    exact congrArg hn (place_eq (by simp [LoadRect.idx, ix3]; omega) (by simp [LoadRect.idx, ix3]))

/-! ## The outputs' blocks -/

/-- The rows with their remainders by four kept apart, -/
def four (hn : FVec F S1024x1024 .f32) : Vec F S1x4x256x1024 .bf16 := fun y =>
  FloatOps.truncf .bf16 bitsLt_bf16_f32 (hn (ix2 (⟨(y 1).val + 4 * (y 2).val, by have h1 : (y 1).val < 4 := (y 1).isLt; have h2 : (y 2).val < 256 := (y 2).isLt; omega⟩ : Fin 1024) (y 3)))
/-- and with their remainders by sixteen kept apart. -/
def sixteen (hn : FVec F S1024x1024 .f32) : Vec F S1x16x64x1024 .bf16 := fun y =>
  FloatOps.truncf .bf16 bitsLt_bf16_f32 (hn (ix2 (⟨(y 1).val + 16 * (y 2).val, by have h1 : (y 1).val < 16 := (y 1).isLt; have h2 : (y 2).val < 64 := (y 2).isLt; omega⟩ : Fin 1024) (y 3)))

theorem four_cast (q : Vec F S1x256x128 .f32) (a : Fin 256) (l : Fin 128) :
    shapeCast S1x1x256x128 (truncf .bf16 (shapeCast S256x128 q shapeCasts_S1x256x128_S256x128) bitsLt_bf16_f32) shapeCasts_S256x128_S1x1x256x128 (ix4 0 0 a l)
      = FloatOps.truncf .bf16 bitsLt_bf16_f32 (q (ix3 0 a l)) := by
  pointwise []

theorem four_emb (u : Fin 32) (a : Fin 256) (l : Fin 128) :
    (Rect.unit (s := S1x4x256x1024) ![0, u.val / 8, 0, 128 * (u.val % 8)] S1x1x256x128.size (four_inb u)).emb (ix4 0 0 a l)
      = ix4 (0 : Fin 1) (⟨u.val / 8, by omega⟩ : Fin 4) a (⟨128 * (u.val % 8) + l.val, by omega⟩ : Fin 1024) := by
  funext b; fin_cases b <;> apply Fin.ext <;> simp [Rect.emb, Rect.unit, ix4]

theorem four_store (v : View sig .tc .vmem S8x1024x128 .f32) (hn : FVec F S1024x1024 .f32) (u : Fin 32) (x : S1x1x256x128.Idx) :
    (fourAt v hn u).2 x = four hn ((fourAt v hn u).1.emb x) := by
  obtain ⟨a, l, rfl⟩ : ∃ (a : Fin 256) (l : Fin 128), x = ix4 0 0 a l :=
    ⟨x 2, x 3, (eq_ix4 x).trans (congrArg₂ (fun z z' : Fin 1 => ix4 z z' (x 2) (x 3)) (Subsingleton.elim (α := Fin 1) (x 0) 0)
      (Subsingleton.elim (α := Fin 1) (x 1) 0))⟩
  refine (four_cast _ a l).trans ((congrArg (FloatOps.truncf .bf16 bitsLt_bf16_f32) (fourth_read v hn u a l)).trans ?_)
  exact congrArg (four hn) (four_emb u a l).symm

theorem four_cover (v : View sig .tc .vmem S8x1024x128 .f32) (hn : FVec F S1024x1024 .f32) (y : S1x4x256x1024.Idx) :
    ∃ p ∈ (List.finRange 32).reverse.map (fourAt v hn), y ∈ p.1.set := by
  have h0 : (y 0).val < 1 := (y 0).isLt
  have h1 : (y 1).val < 4 := (y 1).isLt
  have h3 : (y 3).val < 1024 := (y 3).isLt
  refine ⟨fourAt v hn ⟨8 * (y 1).val + (y 3).val / 128, by omega⟩, List.mem_map_of_mem (List.mem_reverse.2 (List.mem_finRange _)), ?_⟩
  refine (LoadRect.mem_set _).2 fun a => ?_
  fin_cases a
  · exact ⟨0, Nat.one_pos, by simp [fourAt, Rect.unit]⟩
  · exact ⟨0, Nat.one_pos, by simp [fourAt, Rect.unit]; omega⟩
  · exact ⟨(y 2).val, (y 2).isLt, by simp [fourAt, Rect.unit]⟩
  · exact ⟨(y 3).val % 128, Nat.mod_lt _ (by decide), by simp [fourAt, Rect.unit]; omega⟩

theorem sixteen_cast (q : Vec F S1x64x128 .f32) (a : Fin 64) (l : Fin 128) :
    shapeCast S1x1x64x128 (truncf .bf16 (shapeCast S64x128 q shapeCasts_S1x64x128_S64x128) bitsLt_bf16_f32) shapeCasts_S64x128_S1x1x64x128 (ix4 0 0 a l)
      = FloatOps.truncf .bf16 bitsLt_bf16_f32 (q (ix3 0 a l)) := by
  pointwise []

theorem sixteen_emb (u : Fin 128) (a : Fin 64) (l : Fin 128) :
    (Rect.unit (s := S1x16x64x1024) ![0, u.val / 8, 0, 128 * (u.val % 8)] S1x1x64x128.size (sixteen_inb u)).emb (ix4 0 0 a l)
      = ix4 (0 : Fin 1) (⟨u.val / 8, by omega⟩ : Fin 16) a (⟨128 * (u.val % 8) + l.val, by omega⟩ : Fin 1024) := by
  funext b; fin_cases b <;> apply Fin.ext <;> simp [Rect.emb, Rect.unit, ix4]

theorem sixteen_store (v v' : View sig .tc .vmem S8x1024x128 .f32) (hn : FVec F S1024x1024 .f32) (u : Fin 128) (x : S1x1x64x128.Idx) :
    (sixteenAt v v' hn u).2 x = sixteen hn ((sixteenAt v v' hn u).1.emb x) := by
  obtain ⟨a, l, rfl⟩ : ∃ (a : Fin 64) (l : Fin 128), x = ix4 0 0 a l :=
    ⟨x 2, x 3, (eq_ix4 x).trans (congrArg₂ (fun z z' : Fin 1 => ix4 z z' (x 2) (x 3)) (Subsingleton.elim (α := Fin 1) (x 0) 0)
      (Subsingleton.elim (α := Fin 1) (x 1) 0))⟩
  refine (sixteen_cast _ a l).trans ((congrArg (FloatOps.truncf .bf16 bitsLt_bf16_f32) (sixteenth_read v v' hn u a l)).trans ?_)
  exact congrArg (sixteen hn) (sixteen_emb u a l).symm

theorem sixteen_cover (v v' : View sig .tc .vmem S8x1024x128 .f32) (hn : FVec F S1024x1024 .f32) (y : S1x16x64x1024.Idx) :
    ∃ p ∈ (List.finRange 128).reverse.map (sixteenAt v v' hn), y ∈ p.1.set := by
  have h0 : (y 0).val < 1 := (y 0).isLt
  have h1 : (y 1).val < 16 := (y 1).isLt
  have h3 : (y 3).val < 1024 := (y 3).isLt
  refine ⟨sixteenAt v v' hn ⟨8 * (y 1).val + (y 3).val / 128, by omega⟩, List.mem_map_of_mem (List.mem_reverse.2 (List.mem_finRange _)), ?_⟩
  refine (LoadRect.mem_set _).2 fun a => ?_
  fin_cases a
  · exact ⟨0, Nat.one_pos, by simp [sixteenAt, Rect.unit]⟩
  · exact ⟨0, Nat.one_pos, by simp [sixteenAt, Rect.unit]; omega⟩
  · exact ⟨(y 2).val, (y 2).isLt, by simp [sixteenAt, Rect.unit]⟩
  · exact ⟨(y 3).val % 128, Nat.mod_lt _ (by decide), by simp [sixteenAt, Rect.unit]; omega⟩

variable (m : (ℓ : Loc nD τ sig) → Buf (Elt F) ℓ)

/-- The normalised rows of point `t`. -/
abbrev normedAt (c : Dev nD) (t : Fin cfg0.N) : FVec F S1024x1024 .f32 :=
  normed (iblk m c 0 t) (iblk m c 1 t) (iblk m c 2 t) (iblk m c 3 t) (iblk m c 4 t)

/-- What point `t` leaves in the four outputs' blocks. -/
theorem sum_left (c : Dev nD) (t : Fin cfg0.N) :
    (outsAt0 m c t).1 = k0_pay7 (gated (iblk m c 0 t) (iblk m c 1 t)) (residual (iblk m c 2 t)) (weights (iblk m c 3 t)) := by
  unfold outsAt0 out0_A_5
  dsimp only
  rw [sum_pieces]
  funext y
  refine View.read_writes_apply_of_pieces _ _ _ _ ?_ y (View.cover_of_tiled _ ![1, 1024, 1024] rfl y)
  simp only [List.forall_mem_cons]
  refine ⟨fun x => congrArg _ (by rw [Rect.emb_unit_full]), fun _ h => absurd h List.not_mem_nil⟩

theorem one_left (c : Dev nD) (t : Fin cfg0.N) : (outsAt0 m c t).2.1 = k0_pay18 (normedAt m c t) := by
  unfold outsAt0 out0_A_6
  dsimp only
  rw [(dilated_pieces ..).1]
  funext y
  refine View.read_writes_apply_of_pieces _ _ _ _ ?_ y (View.cover_of_tiled _ ![1, 1, 1024, 1024] rfl y)
  simp only [List.forall_mem_cons]
  refine ⟨fun x => congrArg _ (by rw [Rect.emb_unit_full]), fun _ h => absurd h List.not_mem_nil⟩

theorem four_left (c : Dev nD) (t : Fin cfg0.N) : (outsAt0 m c t).2.2.1 = four (normedAt m c t) := by
  unfold outsAt0 out0_A_7
  dsimp only
  rw [(dilated_pieces ..).2.1]
  funext y
  refine View.read_writes_apply_of_pieces _ _ _ _ (fun p hp => ?_) y (four_cover _ _ y)
  obtain ⟨u, -, rfl⟩ := List.mem_map.1 hp
  exact four_store _ _ u

theorem sixteen_left (c : Dev nD) (t : Fin cfg0.N) : (outsAt0 m c t).2.2.2 = sixteen (normedAt m c t) := by
  unfold outsAt0 out0_A_8
  dsimp only
  rw [(dilated_pieces ..).2.2]
  funext y
  refine View.read_writes_apply_of_pieces _ _ _ _ (fun p hp => ?_) y (sixteen_cover _ _ _ y)
  obtain ⟨u, -, rfl⟩ := List.mem_map.1 hp
  exact sixteen_store _ _ _ u

end Cert.OutProjIdeal.Gen
-- ==== Proof.OutValue.lean ====
module

public import proofs.«01_k».proof.Proof.OutBlock
public import proofs.«01_k».proof.Proof.NormValue
public import Idealize.ShloMosaic.Lib.StableHlo.ReadAt

@[expose] public section

set_option maxRecDepth 16384

noncomputable section

namespace Cert.OutMath

open Idealize.ShloMosaic

/-- The gate as the kernel computes it, by a hyperbolic tangent. -/
def act (x : EReal) : EReal :=
  Ideal.ofBits FTy.f32 1056964608#32 * x + Ideal.ofBits FTy.f32 1056964608#32 * x * Ideal.tanh (Ideal.ofBits FTy.f32 1056964608#32 * x)

/-- At a real number it is the number times its logistic function. -/
theorem silu_eq (x : EReal) (h : x = ((x.toReal : ℝ) : EReal)) :
    x * Ideal.div (Ideal.ofBits FTy.f32 1065353216#32) (Ideal.ofBits FTy.f32 1065353216#32 + Ideal.exp (-x)) = act x := by
  have e1 : Ideal.ofBits FTy.f32 1065353216#32 = ((1 : ℝ) : EReal) := by simp [Ideal.ofBits, Ideal.ieee, -EReal.coe_mul]; norm_num
  have eh : Ideal.ofBits FTy.f32 1056964608#32 = ((1 / 2 : ℝ) : EReal) := by simp [Ideal.ofBits, Ideal.ieee, -EReal.coe_mul]; norm_num
  generalize x.toReal = r at h
  subst h
  have ee : Ideal.exp (-(r : EReal)) = ((Real.exp (-r) : ℝ) : EReal) := by rw [← EReal.coe_neg]; rfl
  have hp : 0 < Real.exp (-r) := Real.exp_pos _
  have hne : ((1 + Real.exp (-r) : ℝ) : EReal) ≠ 0 := by
    have : (1 + Real.exp (-r) : ℝ) ≠ 0 := by positivity
    exact_mod_cast this
  have et : Ideal.tanh (((1 / 2 * r : ℝ)) : EReal) = ((Real.tanh (1 / 2 * r) : ℝ) : EReal) := rfl
  unfold act
  rw [e1, eh, ee, ← EReal.coe_add]
  unfold Ideal.div
  rw [if_neg hne, ← EReal.coe_inv, ← EReal.coe_mul, ← EReal.coe_mul, ← EReal.coe_mul, et, ← EReal.coe_mul, ← EReal.coe_add]
  refine congrArg _ ?_
  have ht : Real.tanh (1 / 2 * r) = (1 - Real.exp (-r)) / (1 + Real.exp (-r)) := by
    rw [Real.tanh_eq_sinh_div_cosh, Real.sinh_eq, Real.cosh_eq]
    have ha : Real.exp (-(1 / 2 * r)) = Real.exp (1 / 2 * r) * Real.exp (-r) := by rw [← Real.exp_add]; ring_nf
    have hq : 0 < Real.exp (1 / 2 * r) := Real.exp_pos _
    rw [ha]
    field_simp
  rw [ht]
  field_simp
  ring

end Cert.OutMath

namespace Cert.OutProjIdeal.Gen

open Idealize.ShloMosaic Idealize.ShloMosaic.TcCoe Idealize.ShloMosaic.Tactic
open Cert.OutMath

/-! ## The body's formulas -/

theorem four_slabs (q : Fin 4 → FVec Ideal S1024x256 .bf16) (r : Fin 1024) (j : Fin 4) (l : Fin 256) :
    concatenate S1024x1024 1 [⟨S1024x256, q 0⟩, ⟨S1024x256, q 1⟩, ⟨S1024x256, q 2⟩, ⟨S1024x256, q 3⟩]
        concatenates_S1024x256_S1024x256_S1024x256_S1024x256_S1024x1024_d1 (ix2 r (⟨256 * j.val + l.val, by omega⟩ : Fin 1024))
      = q j (ix2 r l) := by
  have hl := l.isLt
  fin_cases j
  · pointwise []
  · pointwise []
  · pointwise []
    rw [dif_neg (by omega), dif_neg (by omega), dif_pos (by omega)]
    exact congrArg (fun z => q 2 (ix2 r z)) (Fin.ext (by show 512 + l.val - 256 - 256 = l.val; omega))
  · pointwise []
    rw [dif_neg (by omega), dif_neg (by omega), dif_neg (by omega)]
    exact congrArg (fun z => q 3 (ix2 r z)) (Fin.ext (by show 768 + l.val - 256 - 256 - 256 = l.val; omega))

theorem gated_slabs (o g : Fin 4 → Vec Ideal S1x1024x256 .bf16) (r : Fin 1024) (j : Fin 4) (l : Fin 256) :
    k0_pay4 (o 0) (o 1) (o 2) (o 3) (g 0) (g 1) (g 2) (g 3) (ix2 r (⟨256 * j.val + l.val, by omega⟩ : Fin 1024))
      = o j (ix3 0 r l) * act (g j (ix3 0 r l)) := by
  have eo := four_slabs (fun s => shapeCast S1024x256 (o s) shapeCasts_S1x1024x256_S1024x256) r j l
  have eg := four_slabs (fun s => shapeCast S1024x256 (g s) shapeCasts_S1x1024x256_S1024x256) r j l
  have ec : ∀ q : Vec Ideal S1x1024x256 .bf16, shapeCast S1024x256 q shapeCasts_S1x1024x256_S1024x256 (ix2 r l) = q (ix3 0 r l) := fun q => by
    pointwise []
  rw [ec] at eo eg
  refine Eq.trans ?_ (congrArg₂ (fun a b => a * act b) eo eg)
  rfl

theorem slab_apply (x : Vec Ideal S4x1024x256 .bf16) (k : Fin 4) (r : Fin 1024) (l : Fin 256) : slab x k (ix3 0 r l) = x (ix3 k r l) :=
  View.ld_unit_apply_of x _ _ _ _ (ix3 k r l) fun a => by
    fin_cases a
    · rfl
    · exact (Nat.zero_add _).symm
    · exact (Nat.zero_add _).symm

theorem gated_apply (o g : Vec Ideal S4x1024x256 .bf16) (r k : Fin 1024) :
    gated o g (ix2 r k) = o (ix3 (⟨k.val / 256, by omega⟩ : Fin 4) r (⟨k.val % 256, by omega⟩ : Fin 256))
      * act (g (ix3 (⟨k.val / 256, by omega⟩ : Fin 4) r (⟨k.val % 256, by omega⟩ : Fin 256))) := by
  have h := gated_slabs (slab o) (slab g) r ⟨k.val / 256, by omega⟩ ⟨k.val % 256, by omega⟩
  rw [slab_apply, slab_apply] at h
  refine Eq.trans (congrArg (fun q => gated o g (ix2 r q)) (Fin.ext ?_)) h
  show k.val = 256 * (k.val / 256) + k.val % 256
  omega

theorem sum_apply (a : FVec Ideal S1024x1024 .bf16) (x : FVec Ideal S1024x1024 .f32) (w : Vec Ideal S1024x1024 .bf16) (r d : Fin 1024) :
    k0_pay6 a x w (ix2 r d) = x (ix2 r d) + ∑ k, a (ix2 r k) * w (ix2 k d) := by
  pointwise [k0_pay6]

theorem normed_apply (a : FVec Ideal S1024x1024 .bf16) (x : FVec Ideal S1024x1024 .f32) (w : Vec Ideal S1024x1024 .bf16) (g : Vec Ideal S1x1024 .f32)
    (r d : Fin 1024) :
    k0_pay8 a x w g (ix2 r d) = Cert.NormMath.normed (fun j => k0_pay6 a x w (ix2 r j)) (fun j => g (ix2 0 j)) d := by
  unfold k0_pay8
  generalize k0_pay6 a x w = y
  pointwise []
  rfl

theorem residual_apply (x : Vec Ideal S1x1024x1024 .f32) (r d : Fin 1024) : residual x (ix2 r d) = x (ix3 0 r d) := by
  unfold residual
  rw [View.ld_unit_lit _ _ (by decide)]
  pointwise [k0_pay5]

/-! ## The whole arrays -/

variable (o : Vec Ideal S4x16384x256 .bf16) (p : Vec Ideal S16x16384x256 .bf16) (x : Vec Ideal S2x8192x1024 .f32)
  (w : Vec Ideal S1024x1024 .bf16) (g : Vec Ideal S1024 .f32)

/-- Token `t` of batch entry `b`: the residual plus the projection of the gated attention. -/
def token (b : Fin 2) (t : Fin 8192) (d : Fin 1024) : EReal :=
  x (ix3 b t d) + ∑ k : Fin 1024,
    (o (ix3 (⟨k.val / 256, by omega⟩ : Fin 4) (⟨8192 * b.val + t.val, by omega⟩ : Fin 16384) (⟨k.val % 256, by omega⟩ : Fin 256))
      * act (p (ix3 (⟨12 + k.val / 256, by omega⟩ : Fin 16) (⟨8192 * b.val + t.val, by omega⟩ : Fin 16384) (⟨k.val % 256, by omega⟩ : Fin 256))))
      * w (ix2 k d)

/-- The same token normalised. -/
def normal (b : Fin 2) (t : Fin 8192) (d : Fin 1024) : EReal := Cert.NormMath.normed (token o p x w b t) (fun j => g (ix1 j)) d

/-- The four results. -/
def summed : Vec Ideal S2x8192x1024 .f32 := fun i => token o p x w (i 0) (i 1) (i 2)
def every : Vec Ideal S2x1x8192x1024 .bf16 := fun i => normal o p x w g (i 0) (i 2) (i 3)
def everyFourth : Vec Ideal S2x4x2048x1024 .bf16 := fun i =>
  normal o p x w g (i 0) (⟨(i 1).val + 4 * (i 2).val, by have h1 : (i 1).val < 4 := (i 1).isLt; have h2 : (i 2).val < 2048 := (i 2).isLt; omega⟩ : Fin 8192) (i 3)
def everySixteenth : Vec Ideal S2x16x512x1024 .bf16 := fun i =>
  normal o p x w g (i 0) (⟨(i 1).val + 16 * (i 2).val, by have h1 : (i 1).val < 16 := (i 1).isLt; have h2 : (i 2).val < 512 := (i 2).isLt; omega⟩ : Fin 8192) (i 3)

/-! ## The blocks the body reads -/

variable (m : (ℓ : Loc nD τ sig) → Buf (Elt Ideal) ℓ)

theorem o_index : ∀ t : Fin cfg0.N, win0_0.index t = ![0, t.val, 0] := (by decide +kernel : ∀ t : Fin grid0.N, _)
theorem p_index : ∀ t : Fin cfg0.N, win0_1.index t = ![3, t.val, 0] := (by decide +kernel : ∀ t : Fin grid0.N, _)
theorem x_index : ∀ t : Fin cfg0.N, win0_2.index t = ![t.val / 8, t.val % 8, 0] := (by decide +kernel : ∀ t : Fin grid0.N, _)
theorem w_index : ∀ t : Fin cfg0.N, win0_3.index t = ![0, 0] := (by decide +kernel : ∀ t : Fin grid0.N, _)
theorem g_index : ∀ t : Fin cfg0.N, win0_4.index t = ![0, 0] := (by decide +kernel : ∀ t : Fin grid0.N, _)
theorem y_index : ∀ t : Fin cfg0.N, win0_5.index t = ![t.val / 8, t.val % 8, 0] := (by decide +kernel : ∀ t : Fin grid0.N, _)
theorem h1_index : ∀ t : Fin cfg0.N, win0_6.index t = ![t.val / 8, 0, t.val % 8, 0] := (by decide +kernel : ∀ t : Fin grid0.N, _)
theorem h4_index : ∀ t : Fin cfg0.N, win0_7.index t = ![t.val / 8, 0, t.val % 8, 0] := (by decide +kernel : ∀ t : Fin grid0.N, _)
theorem h16_index : ∀ t : Fin cfg0.N, win0_8.index t = ![t.val / 8, 0, t.val % 8, 0] := (by decide +kernel : ∀ t : Fin grid0.N, _)

theorem lt16 (t : Fin cfg0.N) : t.val < 16 := lt_of_lt_of_eq t.isLt N_0

theorem o_block (c : Dev nD) (t : Fin cfg0.N) (j : Fin 4) (r : Fin 1024) (l : Fin 256) :
    (iblk m c 0 t : S4x1024x256.Idx → EReal) (ix3 j r l)
      = (m ((c : Thread nD τ).loc main_arg0) : S4x16384x256.Idx → EReal) (ix3 j (⟨1024 * t.val + r.val, by have := lt16 t; omega⟩ : Fin 16384) l) := by
  rw [← V_main_arg0 m c]
  blk_simp [iblk]
  congr 1
  blk_ext [o_index]

theorem p_block (c : Dev nD) (t : Fin cfg0.N) (j : Fin 4) (r : Fin 1024) (l : Fin 256) :
    (iblk m c 1 t : S4x1024x256.Idx → EReal) (ix3 j r l)
      = (m ((c : Thread nD τ).loc main_arg1) : S16x16384x256.Idx → EReal)
          (ix3 (⟨12 + j.val, by omega⟩ : Fin 16) (⟨1024 * t.val + r.val, by have := lt16 t; omega⟩ : Fin 16384) l) := by
  rw [← V_main_arg1 m c]
  blk_simp [iblk]
  congr 1
  blk_ext [p_index]

theorem x_block (c : Dev nD) (t : Fin cfg0.N) (r d : Fin 1024) :
    (iblk m c 2 t : S1x1024x1024.Idx → EReal) (ix3 0 r d)
      = (m ((c : Thread nD τ).loc main_arg2) : S2x8192x1024.Idx → EReal)
          (ix3 (⟨t.val / 8, by have := lt16 t; omega⟩ : Fin 2) (⟨1024 * (t.val % 8) + r.val, by omega⟩ : Fin 8192) d) := by
  rw [← V_main_arg2 m c]
  blk_simp [iblk]
  congr 1
  blk_ext [x_index]

theorem w_block (c : Dev nD) (t : Fin cfg0.N) (k d : Fin 1024) :
    (iblk m c 3 t : S1024x1024.Idx → EReal) (ix2 k d) = (m ((c : Thread nD τ).loc main_arg3) : S1024x1024.Idx → EReal) (ix2 k d) := by
  rw [← V_main_arg3 m c]
  blk_simp [iblk]
  congr 1
  blk_ext [w_index]

theorem g_block (c : Dev nD) (t : Fin cfg0.N) (k : Fin 1024) :
    (iblk m c 4 t : S1x1024.Idx → EReal) (ix2 0 k) = (m ((c : Thread nD τ).loc main_arg4) : S1024.Idx → EReal) (ix1 k) := by
  have e : (V m c main_v0 : S1x1024.Idx → EReal) (ix2 0 k) = (m ((c : Thread nD τ).loc main_arg4) : S1024.Idx → EReal) (ix1 k) := by
    unfold V
    after_reads_at
  rw [← e]
  blk_simp [iblk]
  congr 1
  blk_ext [g_index]

/-! ## What a point computes -/

/-- The arguments of @main. -/
abbrev A0 (c : Dev nD) : Vec Ideal S4x16384x256 .bf16 := m ((c : Thread nD τ).loc main_arg0)
abbrev A1 (c : Dev nD) : Vec Ideal S16x16384x256 .bf16 := m ((c : Thread nD τ).loc main_arg1)
abbrev A2 (c : Dev nD) : Vec Ideal S2x8192x1024 .f32 := m ((c : Thread nD τ).loc main_arg2)
abbrev A3 (c : Dev nD) : Vec Ideal S1024x1024 .bf16 := m ((c : Thread nD τ).loc main_arg3)
abbrev A4 (c : Dev nD) : Vec Ideal S1024 .f32 := m ((c : Thread nD τ).loc main_arg4)

/-- Row `r` of point `t` is a token. -/
theorem row_value (c : Dev nD) (t : Fin cfg0.N) (r d : Fin 1024) :
    k0_pay6 (gated (iblk m c 0 t) (iblk m c 1 t)) (residual (iblk m c 2 t)) (weights (iblk m c 3 t)) (ix2 r d)
      = token (A0 m c) (A1 m c) (A2 m c) (A3 m c)
          (⟨t.val / 8, by have := lt16 t; omega⟩ : Fin 2) (⟨1024 * (t.val % 8) + r.val, by omega⟩ : Fin 8192) d := by
  have h16 := lt16 t
  have et : (⟨1024 * t.val + r.val, by omega⟩ : Fin 16384) = ⟨8192 * (t.val / 8) + (1024 * (t.val % 8) + r.val), by omega⟩ :=
    Fin.ext (by show 1024 * t.val + r.val = 8192 * (t.val / 8) + (1024 * (t.val % 8) + r.val); omega)
  have ew : weights (iblk m c 3 t) = iblk m c 3 t := View.ld_unit_lit (S := S1024x1024) (off := ![0, 0]) _ _ (by decide)
  rw [sum_apply, residual_apply, x_block, ew]
  unfold token
  refine congrArg₂ (· + ·) rfl (Finset.sum_congr rfl fun k _ => ?_)
  rw [gated_apply, o_block, p_block, w_block, et]

/-- The normalised row `r` of point `t` is a normalised token. -/
theorem normal_value (c : Dev nD) (t : Fin cfg0.N) (r d : Fin 1024) :
    normedAt m c t (ix2 r d)
      = normal (A0 m c) (A1 m c) (A2 m c) (A3 m c) (A4 m c)
          (⟨t.val / 8, by have := lt16 t; omega⟩ : Fin 2) (⟨1024 * (t.val % 8) + r.val, by omega⟩ : Fin 8192) d := by
  refine (normed_apply ..).trans ?_
  unfold normal
  refine congrArg₂ (fun a b => Cert.NormMath.normed a b d) (funext fun j => row_value m c t r j) (funext fun j => ?_)
  rw [View.ld_unit_lit (S := S1x1024) (off := ![0, 0]) _ _ (by decide)]
  exact g_block m c t j

/-! ## The result arrays -/

theorem summed_value (c : Dev nD) : (dats m 0 c).arrAt 5 cfg0.N = summed (A0 m c) (A1 m c) (A2 m c) (A3 m c) := by
  refine (dats m 0 c).arrAt_eq_of_covers 5 _ (by decide +kernel) fun t hf y => ?_
  blk_simp
  rw [after0_5, sum_left]
  change S1x1024x1024.Idx at y
  idx_vars y
  have e : ∀ (q : FVec Ideal S1024x1024 .f32), shapeCast S1x1024x1024 q shapeCasts_S1024x1024_S1x1024x1024 (ix3 y0 y1 y2) = q (ix2 y1 y2) := fun q => by
    pointwise []
  refine (e _).trans ((row_value m c t y1 y2).trans ?_)
  refine Eq.trans (b := summed (A0 m c) (A1 m c) (A2 m c) (A3 m c) (ix3 (⟨t.val / 8, by have := lt16 t; omega⟩ : Fin 2) (⟨1024 * (t.val % 8) + y1.val, by omega⟩ : Fin 8192) y2)) rfl ?_
  congr 1
  blk_ext [y_index]

theorem every_value (c : Dev nD) : (dats m 0 c).arrAt 6 cfg0.N = every (A0 m c) (A1 m c) (A2 m c) (A3 m c) (A4 m c) := by
  refine (dats m 0 c).arrAt_eq_of_covers 6 _ (by decide +kernel) fun t hf y => ?_
  blk_simp
  rw [after0_6, one_left]
  change S1x1x1024x1024.Idx at y
  idx_vars y
  have e : ∀ (q : FVec Ideal S1024x1024 .f32), k0_pay18 q (ix4 y0 y1 y2 y3) = q (ix2 y2 y3) := fun q => by
    pointwise [k0_pay18]
  refine (e _).trans ((normal_value m c t y2 y3).trans ?_)
  refine Eq.trans (b := every (A0 m c) (A1 m c) (A2 m c) (A3 m c) (A4 m c)
    (ix4 (⟨t.val / 8, by have := lt16 t; omega⟩ : Fin 2) 0 (⟨1024 * (t.val % 8) + y2.val, by omega⟩ : Fin 8192) y3)) rfl ?_
  congr 1
  blk_ext [h1_index]

theorem fourth_value (c : Dev nD) : (dats m 0 c).arrAt 7 cfg0.N = everyFourth (A0 m c) (A1 m c) (A2 m c) (A3 m c) (A4 m c) := by
  refine (dats m 0 c).arrAt_eq_of_covers 7 _ (by decide +kernel) fun t hf y => ?_
  blk_simp
  rw [after0_7, four_left]
  change S1x4x256x1024.Idx at y
  idx_vars y
  refine (normal_value m c t (⟨y1.val + 4 * y2.val, by omega⟩ : Fin 1024) y3).trans ?_
  refine Eq.trans (b := everyFourth (A0 m c) (A1 m c) (A2 m c) (A3 m c) (A4 m c)
    (ix4 (⟨t.val / 8, by have := lt16 t; omega⟩ : Fin 2) y1 (⟨256 * (t.val % 8) + y2.val, by omega⟩ : Fin 2048) y3)) ?_ ?_
  · exact congrArg (fun q => normal (A0 m c) (A1 m c) (A2 m c) (A3 m c) (A4 m c) (⟨t.val / 8, by have := lt16 t; omega⟩ : Fin 2) q y3)
      (Fin.ext (by show 1024 * (t.val % 8) + (y1.val + 4 * y2.val) = y1.val + 4 * (256 * (t.val % 8) + y2.val); omega))
  congr 1
  blk_ext [h4_index]

theorem sixteenth_value (c : Dev nD) : (dats m 0 c).arrAt 8 cfg0.N = everySixteenth (A0 m c) (A1 m c) (A2 m c) (A3 m c) (A4 m c) := by
  refine (dats m 0 c).arrAt_eq_of_covers 8 _ (by decide +kernel) fun t hf y => ?_
  blk_simp
  rw [after0_8, sixteen_left]
  change S1x16x64x1024.Idx at y
  idx_vars y
  refine (normal_value m c t (⟨y1.val + 16 * y2.val, by omega⟩ : Fin 1024) y3).trans ?_
  refine Eq.trans (b := everySixteenth (A0 m c) (A1 m c) (A2 m c) (A3 m c) (A4 m c)
    (ix4 (⟨t.val / 8, by have := lt16 t; omega⟩ : Fin 2) y1 (⟨64 * (t.val % 8) + y2.val, by omega⟩ : Fin 512) y3)) ?_ ?_
  · exact congrArg (fun q => normal (A0 m c) (A1 m c) (A2 m c) (A3 m c) (A4 m c) (⟨t.val / 8, by have := lt16 t; omega⟩ : Fin 2) q y3)
      (Fin.ext (by show 1024 * (t.val % 8) + (y1.val + 16 * y2.val) = y1.val + 16 * (64 * (t.val % 8) + y2.val); omega))
  congr 1
  blk_ext [h16_index]

end Cert.OutProjIdeal.Gen

end
-- ==== Proof.OutRef.lean ====
module

public import proofs.«01_k».proof.Proof.OutValue
public import proofs.«01_k».proof.Proof.Finite
public import proofs.«01_k».proof.Proof.Gen.Pre_finite_gate
public import proofs.«01_k».proof.Proof.Gen.OutProjRefIdeal
public import proofs.«01_k».proof.Proof.Gen.OutProjRefIdeal.Read

@[expose] public section

set_option maxRecDepth 16384

noncomputable section

namespace Cert.Pre_finite_gate.Gen

open Idealize.ShloMosaic Idealize.ShloMosaic.Tactic

/-- The gates' slabs hold real numbers. -/
theorem real_gates (o : FVec Ideal S4x16384x256 .bf16) (p : FVec Ideal S16x16384x256 .bf16) (x : FVec Ideal S2x8192x1024 .f32)
    (w : FVec Ideal S1024x1024 .bf16) (g : FVec Ideal S1024 .f32) (h : fn (F := Ideal) o p x w g = fun _ => 1#1)
    (j : Fin 4) (n : Fin 16384) (l : Fin 256) :
    p (ix3 (⟨12 + j.val, by omega⟩ : Fin 16) n l) = ((EReal.toReal (p (ix3 (⟨12 + j.val, by omega⟩ : Fin 16) n l)) : ℝ) : EReal) := by
  have h0 := congrFun h ix0
  dsimp only [fn] at h0
  have e : extractStridedSlice S4x16384x256 ![12, 0, 0] p slices_S16x16384x256_S4x16384x256_12_0_0 (ix3 j n l) = p (ix3 (⟨12 + j.val, by omega⟩ : Fin 16) n l) := by
    pointwise []
  generalize extractStridedSlice S4x16384x256 ![12, 0, 0] p slices_S16x16384x256_S4x16384x256_12_0_0 = q at h0 e
  rw [← e]
  exact Cert.Pre_finite.Gen.real_of_abs _ (Host.reduce_andi_all _ _ _ _ _ h0 (ix3 j n l))

end Cert.Pre_finite_gate.Gen

namespace Cert.OutProjRefIdeal.Read

open Idealize.ShloMosaic Idealize.ShloMosaic.TcCoe Idealize.ShloMosaic.Tactic
open Cert.NormMath Cert.OutMath

variable (o : Vec Ideal S4x16384x256 .bf16) (p : Vec Ideal S16x16384x256 .bf16) (x : Vec Ideal S2x8192x1024 .f32)
  (w : Vec Ideal S1024x1024 .bf16) (g : Vec Ideal S1024 .f32)

/-- The attention's result, token by token. -/
theorem tokens_read (b : Fin 2) (t : Fin 8192) (k : Fin 1024) :
    val_main_v2 (F := Ideal) o (ix3 b t k)
      = o (ix3 (⟨k.val / 256, by omega⟩ : Fin 4) (⟨8192 * b.val + t.val, by omega⟩ : Fin 16384) (⟨k.val % 256, by omega⟩ : Fin 256)) := by
  rw [val_main_v2_apply, val_main_v1_apply, val_main_v0_apply]
  refine congrArg o (funext fun a => ?_)
  have hb := b.isLt
  have ht := t.isLt
  have hk := k.isLt
  fin_cases a <;> apply Fin.ext
  · show ((b.val * 8192 + t.val) * 1024 + k.val) / 256 % 4 = k.val / 256; omega
  · show ((b.val * 8192 + t.val) * 1024 + k.val) / 1024 = 8192 * b.val + t.val; omega
  · show ((b.val * 8192 + t.val) * 1024 + k.val) % 256 = k.val % 256; omega

/-- The gates, token by token. -/
theorem gates_read (b : Fin 2) (t : Fin 8192) (k : Fin 1024) :
    val_main_v6 (F := Ideal) p (ix3 b t k)
      = p (ix3 (⟨12 + k.val / 256, by omega⟩ : Fin 16) (⟨8192 * b.val + t.val, by omega⟩ : Fin 16384) (⟨k.val % 256, by omega⟩ : Fin 256)) := by
  rw [val_main_v6_apply, val_main_v5_apply, val_main_v4_apply, val_main_v3_apply]
  refine congrArg p (funext fun a => ?_)
  have hb := b.isLt
  have ht := t.isLt
  have hk := k.isLt
  fin_cases a <;> apply Fin.ext
  · show 12 + ((b.val * 8192 + t.val) * 1024 + k.val) / 256 % 4 = 12 + k.val / 256; omega
  · show ((b.val * 8192 + t.val) * 1024 + k.val) / 1024 = 8192 * b.val + t.val; omega
  · show ((b.val * 8192 + t.val) * 1024 + k.val) % 256 = k.val % 256; omega

/-- A gate times its logistic function. -/
theorem silu_read (i : S2x8192x1024.Idx) :
    val_main_v7 (F := Ideal) p i = val_main_v6 (F := Ideal) p i
      * Ideal.div (Ideal.ofBits FTy.f32 1065353216#32) (Ideal.ofBits FTy.f32 1065353216#32 + Ideal.exp (-val_main_v6 (F := Ideal) p i)) := by
  simp only [val_main_v7_apply, val_main_call0_v5_apply, val_main_call0_v4_apply, val_main_call0_v3_apply, val_main_call0_v2_apply, val_main_call0_v1_apply,
    val_main_call0_v0_apply, val_main_call0_cst_apply, val_main_call0_cst_0_apply]
  rfl

variable (hp : ∀ (j : Fin 4) (n : Fin 16384) (l : Fin 256),
  p (ix3 (⟨12 + j.val, by omega⟩ : Fin 16) n l) = ((EReal.toReal (p (ix3 (⟨12 + j.val, by omega⟩ : Fin 16) n l)) : ℝ) : EReal))

include hp in
theorem token_read (b : Fin 2) (t : Fin 8192) (d : Fin 1024) :
    val_main_v11 (F := Ideal) o p x w (ix3 b t d) = Cert.OutProjIdeal.Gen.token o p x w b t d := by
  rw [val_main_v11_apply, val_main_v10_apply]
  unfold Cert.OutProjIdeal.Gen.token
  refine congrArg₂ (· + ·) rfl (Finset.sum_congr rfl fun k _ => ?_)
  have el : lidx_main_v10 (ix3 b t d) k = ix3 b t k := funext fun a => by fin_cases a <;> rfl
  have er : ridx_main_v10 (ix3 b t d) k = ix2 k d := funext fun a => by fin_cases a <;> rfl
  rw [el, er, val_main_v8_apply, val_main_v9_apply, silu_read, tokens_read, gates_read,
    silu_eq _ (hp ⟨k.val / 256, by omega⟩ ⟨8192 * b.val + t.val, by omega⟩ ⟨k.val % 256, by omega⟩)]
  rfl

theorem normed_read (b : Fin 2) (t : Fin 8192) (d : Fin 1024) :
    val_main_v24 (F := Ideal) o p x w g (ix3 b t d)
      = normed (fun j => val_main_v11 (F := Ideal) o p x w (ix3 b t j)) (fun j => g (ix1 j)) d := by
  unfold val_main_v24 val_main_v21 val_main_v20 val_main_v19 val_main_v18 val_main_v16 val_main_v14 val_main_v13 val_main_v12
  generalize val_main_v11 (F := Ideal) o p x w = y
  pointwise [val_main_v15, val_main_v17, val_main_v22, val_main_v23, val_main_cst, val_main_cst_0, val_main_cst_1]
  rfl

include hp in
theorem normal_read (b : Fin 2) (t : Fin 8192) (d : Fin 1024) :
    val_main_v24 (F := Ideal) o p x w g (ix3 b t d) = Cert.OutProjIdeal.Gen.normal o p x w g b t d :=
  (normed_read o p x w g b t d).trans (congrArg (fun a => normed a _ d) (funext fun j => token_read o p x w hp b t j))

include hp in
theorem summed_read : val_main_v11 (F := Ideal) o p x w = Cert.OutProjIdeal.Gen.summed o p x w := funext fun i => by
  obtain ⟨b, t, d, rfl⟩ : ∃ (b : Fin 2) (t : Fin 8192) (d : Fin 1024), i = ix3 b t d := ⟨i 0, i 1, i 2, eq_ix3 i⟩
  exact token_read o p x w hp b t d

include hp in
theorem every_read : val_main_v27 (F := Ideal) o p x w g = Cert.OutProjIdeal.Gen.every o p x w g := funext fun i => by
  obtain ⟨b, z, t, d, rfl⟩ : ∃ (b : Fin 2) (z : Fin 1) (t : Fin 8192) (d : Fin 1024), i = ix4 b z t d := ⟨i 0, i 1, i 2, i 3, eq_ix4 i⟩
  refine Eq.trans ?_ (normal_read o p x w g hp b t d)
  unfold val_main_v27 val_main_v26 val_main_v25
  generalize val_main_v24 (F := Ideal) o p x w g = y
  pointwise []

include hp in
theorem fourth_read : val_main_v30 (F := Ideal) o p x w g = Cert.OutProjIdeal.Gen.everyFourth o p x w g := funext fun i => by
  obtain ⟨b, u, t, d, rfl⟩ : ∃ (b : Fin 2) (u : Fin 4) (t : Fin 2048) (d : Fin 1024), i = ix4 b u t d := ⟨i 0, i 1, i 2, i 3, eq_ix4 i⟩
  refine Eq.trans ?_ (normal_read o p x w g hp b (⟨u.val + 4 * t.val, by omega⟩ : Fin 8192) d)
  unfold val_main_v30 val_main_v29 val_main_v28
  generalize val_main_v24 (F := Ideal) o p x w g = y
  pointwise []
  exact congrArg (fun q => y (ix3 b q d)) (Fin.ext (by show t.val * 4 + u.val = u.val + 4 * t.val; omega))

include hp in
theorem sixteenth_read : val_main_v33 (F := Ideal) o p x w g = Cert.OutProjIdeal.Gen.everySixteenth o p x w g := funext fun i => by
  obtain ⟨b, u, t, d, rfl⟩ : ∃ (b : Fin 2) (u : Fin 16) (t : Fin 512) (d : Fin 1024), i = ix4 b u t d := ⟨i 0, i 1, i 2, i 3, eq_ix4 i⟩
  refine Eq.trans ?_ (normal_read o p x w g hp b (⟨u.val + 16 * t.val, by omega⟩ : Fin 8192) d)
  unfold val_main_v33 val_main_v32 val_main_v31
  generalize val_main_v24 (F := Ideal) o p x w g = y
  pointwise []
  exact congrArg (fun q => y (ix3 b q d)) (Fin.ext (by show t.val * 16 + u.val = u.val + 16 * t.val; omega))

end Cert.OutProjRefIdeal.Read

end
-- ==== Proof.ProjMath.lean ====
module

public import proofs.«01_k».proof.Proof.NormValue

@[expose] public section

set_option maxRecDepth 16384

noncomputable section

namespace Cert.ProjMath

open Idealize.ShloMosaic Idealize.ShloMosaic.TcCoe Idealize.ShloMosaic.Tactic
open Cert.NormMath

/-! What the three projections of the second layer have in common: each multiplies the normalised tokens by some blocks of 1024
columns of the weights, and scales the first block, the queries. -/

/-- The factor of the columns of block `b`: the queries' are scaled. -/
def blockFactor (b : ℕ) : EReal := factor (4 * b)

/-- One entry of a projection: token `n` against column `a` of the weights, the result's block of columns being `b`. -/
def entry (h : Vec Ideal ⟨2, ![16384, 1024]⟩ .bf16) (w : Vec Ideal ⟨2, ![1024, 10240]⟩ .f32) (n : Fin 16384) (a : Fin 10240) (b : ℕ) : EReal :=
  (∑ k, h (ix2 n k) * w (ix2 k a)) * blockFactor b

/-- A body's product with scaled weights is the scaled product. -/
theorem scaled_sum (p w : Fin 1024 → EReal) (b : ℕ) : ∑ k, p k * (w k * blockFactor b) = (∑ k, p k * w k) * blockFactor b :=
  sum_scale _ (factor_nonneg _) (factor_ne_top _) p w

/-- The factor a body picks at block `j` of the columns, `q` being the named scale. -/
theorem pick_block (q : EReal) (hq : q = (((Real.log 256)⁻¹ : ℝ) : EReal)) (j : Fin 4) :
    (Scalar.select (Scalar.cmpi CmpIPredicate.slt (BitVec.ofNat 32 j.val) 1#32) q 1 : EReal) = blockFactor j.val := by
  rw [hq, ← Cert.NormProjIdeal.Norm.named_scale]
  exact Cert.NormProjIdeal.Norm.pick_factor j 0

/-- A reference's choice between the divided and the plain product, at column `a` of its result. -/
theorem choose_block (y : EReal) {a : ℕ} (ha : a < 4096) :
    (Scalar.select (IntOp.cmpi CmpIPredicate.slt (BitVec.ofNat 32 a) 1024#32)
        (Ideal.div y (Ideal.ofBits FTy.f32 1090519040#32 * Ideal.log (Ideal.ofBits FTy.f32 1073741824#32))) y : EReal)
      = y * blockFactor (a / 1024) := by
  rw [Cert.NormProjRefIdeal.Read.query_word ha, div_log]
  unfold blockFactor factor
  by_cases h : a < 1024
  · rw [if_pos h, if_pos (by omega)]; rfl
  · rw [if_neg h, if_neg (by omega), mul_one]; rfl

end Cert.ProjMath

end
-- ==== Proof.ProjFirstValue.lean ====
module

public import proofs.«01_k».proof.Proof.ProjMath
public import proofs.«01_k».proof.Proof.Gen.ProjFirstIdeal
public import proofs.«01_k».proof.Proof.Gen.ProjFirstIdeal.Frame
public import proofs.«01_k».proof.Proof.Gen.ProjFirstRefIdeal
public import proofs.«01_k».proof.Proof.Gen.ProjFirstRefIdeal.Read
public import Idealize.ShloMosaic.Lib.Pipeline.Value
public import Idealize.ShloMosaic.Lib.Pipeline.ValueKit
public import Idealize.ShloMosaic.Lib.Pointwise

@[expose] public section

set_option maxRecDepth 16384

noncomputable section

namespace Cert.ProjFirstIdeal.Gen

open Idealize.ShloMosaic Idealize.ShloMosaic.TcCoe Idealize.ShloMosaic.Tactic
open Cert.ProjMath

variable (m : (ℓ : Loc nD τ sig) → Buf (Elt Ideal) ℓ)

/-- The weights' block of columns that makes block `j` of the result: the first three, and the last. -/
def weightBlock (j : ℕ) : ℕ := if j < 3 then j else 9

theorem weightBlock_lt (j : ℕ) : weightBlock j < 10 := by unfold weightBlock; split <;> omega

theorem h_index : ∀ t : Fin cfg0.N, win0_0.index t = ![t.val / 4, 0] := (by decide +kernel : ∀ t : Fin grid0.N, _)
theorem w_index : ∀ t : Fin cfg0.N, win0_1.index t = ![0, weightBlock (t.val % 4)] := (by decide +kernel : ∀ t : Fin grid0.N, _)
theorem out_index : ∀ t : Fin cfg0.N, win0_2.index t = ![t.val / 4, t.val % 4] := (by decide +kernel : ∀ t : Fin grid0.N, _)
theorem column : ∀ t : Fin cfg0.N, (grid0.coords t 1).val = t.val % 4 := (by decide +kernel : ∀ t : Fin grid0.N, _)
theorem points (t : Fin cfg0.N) : t.val < 32 := lt_of_lt_of_eq t.isLt (by decide : cfg0.N = 32)

theorem h_block (c : Dev nD) (t : Fin cfg0.N) (r : Fin 2048) (k : Fin 1024) :
    (iblk m c 0 t : S2048x1024.Idx → EReal) (ix2 r k)
      = (m ((c : Thread nD τ).loc main_arg0) : S16384x1024.Idx → EReal) (ix2 (⟨2048 * (t.val / 4) + r.val, by have := points t; omega⟩ : Fin 16384) k) := by
  rw [← V_main_arg0 m c]
  blk_simp [iblk]
  congr 1
  blk_ext [h_index]

theorem w_block (c : Dev nD) (t : Fin cfg0.N) (k l : Fin 1024) :
    (iblk m c 1 t : S1024x1024.Idx → EReal) (ix2 k l)
      = (m ((c : Thread nD τ).loc main_arg1) : S1024x10240.Idx → EReal)
          (ix2 k (⟨1024 * weightBlock (t.val % 4) + l.val, by have := weightBlock_lt (t.val % 4); omega⟩ : Fin 10240)) := by
  rw [← V_main_arg1 m c]
  blk_simp [iblk]
  congr 1
  blk_ext [w_index]

theorem named_scale : (Named.named (F := Ideal) κ "q_scale" (φ := .f32) 0x3E38AA3B#32 : EReal) = (((Real.log 256)⁻¹ : ℝ) : EReal) :=
  IdealRules.named_const.ideal_named_scalar _ _ _ _ rfl

/-- The body's product: the weights scaled where the block is the queries'. -/
theorem pay_apply (i : grid0.Coords) (p : Vec Ideal S2048x1024 .bf16) (w : Vec Ideal S1024x1024 .f32) (r : Fin 2048) (l : Fin 1024) :
    k0_pay1 i p w (ix2 r l) = ∑ k, p (ix2 r k) *
      (w (ix2 k l) * Scalar.select (Scalar.cmpi CmpIPredicate.slt (BitVec.ofNat 32 (i 1).val) 1#32) (Named.named (F := Ideal) κ "q_scale" (φ := .f32) 0x3E38AA3B#32) 1) := by
  pointwise [k0_pay1]

/-- The projection's result, from the arguments. -/
def projected (h : Vec Ideal S16384x1024 .bf16) (w : Vec Ideal S1024x10240 .f32) : Vec Ideal S16384x4096 .bf16 := fun i =>
  entry h w (i 0) ⟨1024 * weightBlock ((i 1).val / 1024) + (i 1).val % 1024, by have := weightBlock_lt ((i 1).val / 1024); omega⟩ ((i 1).val / 1024)

/-- What a point of the grid writes is its block of the result. -/
theorem block_value (c : Dev nD) (t : Fin cfg0.N) (r : Fin 2048) (l : Fin 1024) :
    k0_pay1 (grid0.coords t) (iblk m c 0 t) (iblk m c 1 t) (ix2 r l)
      = projected (m ((c : Thread nD τ).loc main_arg0)) (m ((c : Thread nD τ).loc main_arg1))
          (ix2 (⟨2048 * (t.val / 4) + r.val, by have := points t; omega⟩ : Fin 16384) (⟨1024 * (t.val % 4) + l.val, by omega⟩ : Fin 4096)) := by
  have hl := l.isLt
  have e1 : (1024 * (t.val % 4) + l.val) / 1024 = t.val % 4 := by omega
  have e2 : (1024 * (t.val % 4) + l.val) % 1024 = l.val := by omega
  rw [pay_apply, column, pick_block _ named_scale ⟨t.val % 4, by omega⟩, scaled_sum]
  unfold projected entry
  simp only [ix2_0, ix2_1, e1, e2]
  exact congrArg (· * _) (Finset.sum_congr rfl fun k _ => congrArg₂ (· * ·) (h_block m c t r k) (w_block m c t k l))

/-- The array the call leaves. -/
theorem array_value (c : Dev nD) :
    (dats m 0 c).arrAt 2 cfg0.N = projected (m ((c : Thread nD τ).loc main_arg0)) (m ((c : Thread nD τ).loc main_arg1)) := by
  refine (dats m 0 c).arrAt_eq_of_covers 2 _ (by decide +kernel) fun t hf y => ?_
  blk_simp
  rw [after0_2]
  frame_out
  change S2048x1024.Idx at y
  idx_vars y
  refine (block_value m c t y0 y1).trans ?_
  congr 1
  blk_ext [out_index]

end Cert.ProjFirstIdeal.Gen

namespace Cert.ProjFirstRefIdeal.Read

open Idealize.ShloMosaic Idealize.ShloMosaic.TcCoe Idealize.ShloMosaic.Tactic
open Cert.ProjMath Cert.ProjFirstIdeal.Gen

variable (h : Vec Ideal S16384x1024 .bf16) (w : Vec Ideal S1024x10240 .f32)

/-- The reference's weights: the first three blocks of columns, and the last. -/
theorem weights_read (k : Fin 1024) (a : Fin 4096) :
    val_main_v2 (F := Ideal) w (ix2 k a)
      = w (ix2 k (⟨1024 * weightBlock (a.val / 1024) + a.val % 1024, by have := weightBlock_lt (a.val / 1024); omega⟩ : Fin 10240)) := by
  have ha := a.isLt
  by_cases h3 : a.val < 3072
  · have e : weightBlock (a.val / 1024) = a.val / 1024 := if_pos (by omega)
    pointwise [val_main_v2, val_main_v1, val_main_v0]
    rw [dif_pos h3]
    exact congrArg (fun q => w (ix2 k q)) (Fin.ext (by simp only [e]; omega))
  · have e : weightBlock (a.val / 1024) = 9 := if_neg (by omega)
    pointwise [val_main_v2, val_main_v1, val_main_v0]
    rw [dif_neg h3]
    exact congrArg (fun q => w (ix2 k q)) (Fin.ext (by simp only [e]; omega))

/-- The reference's result is the projection. -/
theorem result_read : val_main_v13 (F := Ideal) h w = projected h w := by
  funext i
  obtain ⟨n, a, rfl⟩ : ∃ (n : Fin 16384) (a : Fin 4096), i = ix2 n a := ⟨i 0, i 1, eq_ix2 i⟩
  pointwise [val_main_v3, val_main_v4, val_main_v5, val_main_v6, val_main_v7, val_main_v8, val_main_v9, val_main_v10, val_main_v11, val_main_v12, val_main_v13, val_main_c, val_main_cst, val_main_cst_0]
  rw [choose_block _ a.isLt]
  unfold projected entry
  exact congrArg (· * _) (Finset.sum_congr rfl fun k _ => congrArg (_ * ·) (weights_read w k a))

end Cert.ProjFirstRefIdeal.Read

end
-- ==== Proof.ProjSecondValue.lean ====
module

public import proofs.«01_k».proof.Proof.ProjMath
public import proofs.«01_k».proof.Proof.Gen.ProjSecondIdeal
public import proofs.«01_k».proof.Proof.Gen.ProjSecondIdeal.Frame
public import proofs.«01_k».proof.Proof.Gen.ProjSecondRefIdeal
public import proofs.«01_k».proof.Proof.Gen.ProjSecondRefIdeal.Read
public import Idealize.ShloMosaic.Lib.Pipeline.Value
public import Idealize.ShloMosaic.Lib.Pipeline.ValueKit
public import Idealize.ShloMosaic.Lib.Pointwise

@[expose] public section

set_option maxRecDepth 16384

noncomputable section

namespace Cert.ProjSecondIdeal.Gen

open Idealize.ShloMosaic Idealize.ShloMosaic.TcCoe Idealize.ShloMosaic.Tactic
open Cert.ProjMath

variable (m : (ℓ : Loc nD τ sig) → Buf (Elt Ideal) ℓ)

theorem h_index : ∀ t : Fin cfg0.N, win0_0.index t = ![t.val / 3, 0] := (by decide +kernel : ∀ t : Fin grid0.N, _)
theorem w_index : ∀ t : Fin cfg0.N, win0_1.index t = ![0, 3 + t.val % 3] := (by decide +kernel : ∀ t : Fin grid0.N, _)
theorem out_index : ∀ t : Fin cfg0.N, win0_2.index t = ![t.val / 3, t.val % 3] := (by decide +kernel : ∀ t : Fin grid0.N, _)
theorem column : ∀ t : Fin cfg0.N, (grid0.coords t 1).val = t.val % 3 := (by decide +kernel : ∀ t : Fin grid0.N, _)
theorem points (t : Fin cfg0.N) : t.val < 24 := lt_of_lt_of_eq t.isLt (by decide : cfg0.N = 24)

theorem h_block (c : Dev nD) (t : Fin cfg0.N) (r : Fin 2048) (k : Fin 1024) :
    (iblk m c 0 t : S2048x1024.Idx → EReal) (ix2 r k)
      = (m ((c : Thread nD τ).loc main_arg0) : S16384x1024.Idx → EReal) (ix2 (⟨2048 * (t.val / 3) + r.val, by have := points t; omega⟩ : Fin 16384) k) := by
  rw [← V_main_arg0 m c]
  blk_simp [iblk]
  congr 1
  blk_ext [h_index]

theorem w_block (c : Dev nD) (t : Fin cfg0.N) (k l : Fin 1024) :
    (iblk m c 1 t : S1024x1024.Idx → EReal) (ix2 k l)
      = (m ((c : Thread nD τ).loc main_arg1) : S1024x10240.Idx → EReal)
          (ix2 k (⟨1024 * (3 + t.val % 3) + l.val, by omega⟩ : Fin 10240)) := by
  rw [← V_main_arg1 m c]
  blk_simp [iblk]
  congr 1
  blk_ext [w_index]

theorem named_scale : (Named.named (F := Ideal) κ "q_scale" (φ := .f32) 0x3E38AA3B#32 : EReal) = (((Real.log 256)⁻¹ : ℝ) : EReal) :=
  IdealRules.named_const.ideal_named_scalar _ _ _ _ rfl

/-- The body's product: the weights scaled where the block is the queries'. -/
theorem pay_apply (i : grid0.Coords) (p : Vec Ideal S2048x1024 .bf16) (w : Vec Ideal S1024x1024 .f32) (r : Fin 2048) (l : Fin 1024) :
    k0_pay1 i p w (ix2 r l) = ∑ k, p (ix2 r k) *
      (w (ix2 k l) * Scalar.select (Scalar.cmpi CmpIPredicate.slt (BitVec.ofNat 32 (i 1).val) 1#32) (Named.named (F := Ideal) κ "q_scale" (φ := .f32) 0x3E38AA3B#32) 1) := by
  pointwise [k0_pay1]

/-- The projection's result, from the arguments. -/
def projected (h : Vec Ideal S16384x1024 .bf16) (w : Vec Ideal S1024x10240 .f32) : Vec Ideal S16384x3072 .bf16 := fun i =>
  entry h w (i 0) ⟨1024 * 3 + (i 1).val, by have h1 : (i 1).val < 3072 := (i 1).isLt; omega⟩ ((i 1).val / 1024)

/-- What a point of the grid writes is its block of the result. -/
theorem block_value (c : Dev nD) (t : Fin cfg0.N) (r : Fin 2048) (l : Fin 1024) :
    k0_pay1 (grid0.coords t) (iblk m c 0 t) (iblk m c 1 t) (ix2 r l)
      = projected (m ((c : Thread nD τ).loc main_arg0)) (m ((c : Thread nD τ).loc main_arg1))
          (ix2 (⟨2048 * (t.val / 3) + r.val, by have := points t; omega⟩ : Fin 16384) (⟨1024 * (t.val % 3) + l.val, by omega⟩ : Fin 3072)) := by
  have hl := l.isLt
  have e1 : (1024 * (t.val % 3) + l.val) / 1024 = t.val % 3 := by omega
  rw [pay_apply, column, pick_block _ named_scale ⟨t.val % 3, by omega⟩, scaled_sum]
  unfold projected entry
  simp only [ix2_0, ix2_1, e1]
  refine congrArg (· * _) (Finset.sum_congr rfl fun k _ => congrArg₂ (· * ·) (h_block m c t r k) ((w_block m c t k l).trans ?_))
  exact congrArg (fun q => (m ((c : Thread nD τ).loc main_arg1) : S1024x10240.Idx → EReal) (ix2 k q))
    (Fin.ext (show 1024 * (3 + t.val % 3) + l.val = 1024 * 3 + (1024 * (t.val % 3) + l.val) by omega))

/-- The array the call leaves. -/
theorem array_value (c : Dev nD) :
    (dats m 0 c).arrAt 2 cfg0.N = projected (m ((c : Thread nD τ).loc main_arg0)) (m ((c : Thread nD τ).loc main_arg1)) := by
  refine (dats m 0 c).arrAt_eq_of_covers 2 _ (by decide +kernel) fun t hf y => ?_
  blk_simp
  rw [after0_2]
  frame_out
  change S2048x1024.Idx at y
  idx_vars y
  refine (block_value m c t y0 y1).trans ?_
  congr 1
  blk_ext [out_index]

end Cert.ProjSecondIdeal.Gen

namespace Cert.ProjSecondRefIdeal.Read

open Idealize.ShloMosaic Idealize.ShloMosaic.TcCoe Idealize.ShloMosaic.Tactic
open Cert.ProjMath Cert.ProjSecondIdeal.Gen

variable (h : Vec Ideal S16384x1024 .bf16) (w : Vec Ideal S1024x10240 .f32)

/-- The reference's weights: the second three blocks of columns. -/
theorem weights_read (k : Fin 1024) (a : Fin 3072) :
    val_main_v0 (F := Ideal) w (ix2 k a) = w (ix2 k (⟨1024 * 3 + a.val, by omega⟩ : Fin 10240)) := by
  pointwise [val_main_v0]

/-- The reference's result is the projection. -/
theorem result_read : val_main_v11 (F := Ideal) h w = projected h w := by
  funext i
  obtain ⟨n, a, rfl⟩ : ∃ (n : Fin 16384) (a : Fin 3072), i = ix2 n a := ⟨i 0, i 1, eq_ix2 i⟩
  pointwise [val_main_v1, val_main_v2, val_main_v3, val_main_v4, val_main_v5, val_main_v6, val_main_v7, val_main_v8, val_main_v9, val_main_v10, val_main_v11, val_main_c, val_main_cst, val_main_cst_0]
  rw [choose_block _ (a.isLt.trans (by decide))]
  unfold projected entry
  exact congrArg (· * _) (Finset.sum_congr rfl fun k _ => congrArg (_ * ·) (weights_read w k a))

end Cert.ProjSecondRefIdeal.Read

end
-- ==== Proof.ProjThirdValue.lean ====
module

public import proofs.«01_k».proof.Proof.ProjMath
public import proofs.«01_k».proof.Proof.Gen.ProjThirdIdeal
public import proofs.«01_k».proof.Proof.Gen.ProjThirdIdeal.Frame
public import proofs.«01_k».proof.Proof.Gen.ProjThirdRefIdeal
public import proofs.«01_k».proof.Proof.Gen.ProjThirdRefIdeal.Read
public import Idealize.ShloMosaic.Lib.Pipeline.Value
public import Idealize.ShloMosaic.Lib.Pipeline.ValueKit
public import Idealize.ShloMosaic.Lib.Pointwise

@[expose] public section

set_option maxRecDepth 16384

noncomputable section

namespace Cert.ProjThirdIdeal.Gen

open Idealize.ShloMosaic Idealize.ShloMosaic.TcCoe Idealize.ShloMosaic.Tactic
open Cert.ProjMath

variable (m : (ℓ : Loc nD τ sig) → Buf (Elt Ideal) ℓ)

theorem h_index : ∀ t : Fin cfg0.N, win0_0.index t = ![t.val / 3, 0] := (by decide +kernel : ∀ t : Fin grid0.N, _)
theorem w_index : ∀ t : Fin cfg0.N, win0_1.index t = ![0, 6 + t.val % 3] := (by decide +kernel : ∀ t : Fin grid0.N, _)
theorem out_index : ∀ t : Fin cfg0.N, win0_2.index t = ![t.val / 3, t.val % 3] := (by decide +kernel : ∀ t : Fin grid0.N, _)
theorem column : ∀ t : Fin cfg0.N, (grid0.coords t 1).val = t.val % 3 := (by decide +kernel : ∀ t : Fin grid0.N, _)
theorem points (t : Fin cfg0.N) : t.val < 24 := lt_of_lt_of_eq t.isLt (by decide : cfg0.N = 24)

theorem h_block (c : Dev nD) (t : Fin cfg0.N) (r : Fin 2048) (k : Fin 1024) :
    (iblk m c 0 t : S2048x1024.Idx → EReal) (ix2 r k)
      = (m ((c : Thread nD τ).loc main_arg0) : S16384x1024.Idx → EReal) (ix2 (⟨2048 * (t.val / 3) + r.val, by have := points t; omega⟩ : Fin 16384) k) := by
  rw [← V_main_arg0 m c]
  blk_simp [iblk]
  congr 1
  blk_ext [h_index]

theorem w_block (c : Dev nD) (t : Fin cfg0.N) (k l : Fin 1024) :
    (iblk m c 1 t : S1024x1024.Idx → EReal) (ix2 k l)
      = (m ((c : Thread nD τ).loc main_arg1) : S1024x10240.Idx → EReal)
          (ix2 k (⟨1024 * (6 + t.val % 3) + l.val, by omega⟩ : Fin 10240)) := by
  rw [← V_main_arg1 m c]
  blk_simp [iblk]
  congr 1
  blk_ext [w_index]

theorem named_scale : (Named.named (F := Ideal) κ "q_scale" (φ := .f32) 0x3E38AA3B#32 : EReal) = (((Real.log 256)⁻¹ : ℝ) : EReal) :=
  IdealRules.named_const.ideal_named_scalar _ _ _ _ rfl

/-- The body's product: the weights scaled where the block is the queries'. -/
theorem pay_apply (i : grid0.Coords) (p : Vec Ideal S2048x1024 .bf16) (w : Vec Ideal S1024x1024 .f32) (r : Fin 2048) (l : Fin 1024) :
    k0_pay1 i p w (ix2 r l) = ∑ k, p (ix2 r k) *
      (w (ix2 k l) * Scalar.select (Scalar.cmpi CmpIPredicate.slt (BitVec.ofNat 32 (i 1).val) 1#32) (Named.named (F := Ideal) κ "q_scale" (φ := .f32) 0x3E38AA3B#32) 1) := by
  pointwise [k0_pay1]

/-- The projection's result, from the arguments. -/
def projected (h : Vec Ideal S16384x1024 .bf16) (w : Vec Ideal S1024x10240 .f32) : Vec Ideal S16384x3072 .bf16 := fun i =>
  entry h w (i 0) ⟨1024 * 6 + (i 1).val, by have h1 : (i 1).val < 3072 := (i 1).isLt; omega⟩ ((i 1).val / 1024)

/-- What a point of the grid writes is its block of the result. -/
theorem block_value (c : Dev nD) (t : Fin cfg0.N) (r : Fin 2048) (l : Fin 1024) :
    k0_pay1 (grid0.coords t) (iblk m c 0 t) (iblk m c 1 t) (ix2 r l)
      = projected (m ((c : Thread nD τ).loc main_arg0)) (m ((c : Thread nD τ).loc main_arg1))
          (ix2 (⟨2048 * (t.val / 3) + r.val, by have := points t; omega⟩ : Fin 16384) (⟨1024 * (t.val % 3) + l.val, by omega⟩ : Fin 3072)) := by
  have hl := l.isLt
  have e1 : (1024 * (t.val % 3) + l.val) / 1024 = t.val % 3 := by omega
  rw [pay_apply, column, pick_block _ named_scale ⟨t.val % 3, by omega⟩, scaled_sum]
  unfold projected entry
  simp only [ix2_0, ix2_1, e1]
  refine congrArg (· * _) (Finset.sum_congr rfl fun k _ => congrArg₂ (· * ·) (h_block m c t r k) ((w_block m c t k l).trans ?_))
  exact congrArg (fun q => (m ((c : Thread nD τ).loc main_arg1) : S1024x10240.Idx → EReal) (ix2 k q))
    (Fin.ext (show 1024 * (6 + t.val % 3) + l.val = 1024 * 6 + (1024 * (t.val % 3) + l.val) by omega))

/-- The array the call leaves. -/
theorem array_value (c : Dev nD) :
    (dats m 0 c).arrAt 2 cfg0.N = projected (m ((c : Thread nD τ).loc main_arg0)) (m ((c : Thread nD τ).loc main_arg1)) := by
  refine (dats m 0 c).arrAt_eq_of_covers 2 _ (by decide +kernel) fun t hf y => ?_
  blk_simp
  rw [after0_2]
  frame_out
  change S2048x1024.Idx at y
  idx_vars y
  refine (block_value m c t y0 y1).trans ?_
  congr 1
  blk_ext [out_index]

end Cert.ProjThirdIdeal.Gen

namespace Cert.ProjThirdRefIdeal.Read

open Idealize.ShloMosaic Idealize.ShloMosaic.TcCoe Idealize.ShloMosaic.Tactic
open Cert.ProjMath Cert.ProjThirdIdeal.Gen

variable (h : Vec Ideal S16384x1024 .bf16) (w : Vec Ideal S1024x10240 .f32)

/-- The reference's weights: the third three blocks of columns. -/
theorem weights_read (k : Fin 1024) (a : Fin 3072) :
    val_main_v0 (F := Ideal) w (ix2 k a) = w (ix2 k (⟨1024 * 6 + a.val, by omega⟩ : Fin 10240)) := by
  pointwise [val_main_v0]

/-- The reference's result is the projection. -/
theorem result_read : val_main_v11 (F := Ideal) h w = projected h w := by
  funext i
  obtain ⟨n, a, rfl⟩ : ∃ (n : Fin 16384) (a : Fin 3072), i = ix2 n a := ⟨i 0, i 1, eq_ix2 i⟩
  pointwise [val_main_v1, val_main_v2, val_main_v3, val_main_v4, val_main_v5, val_main_v6, val_main_v7, val_main_v8, val_main_v9, val_main_v10, val_main_v11, val_main_c, val_main_cst, val_main_cst_0]
  rw [choose_block _ (a.isLt.trans (by decide))]
  unfold projected entry
  exact congrArg (· * _) (Finset.sum_congr rfl fun k _ => congrArg (_ * ·) (weights_read w k a))

end Cert.ProjThirdRefIdeal.Read

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Run
public import proofs.«01_k».proof.Proof.Meet
public import proofs.«01_k».proof.Proof.Finite
public import proofs.«01_k».proof.Proof.Gen.NormProj
public import proofs.«01_k».proof.Proof.Gen.NormProj.Skeleton
public import proofs.«01_k».proof.Proof.Gen.NormProj.Launch
public import proofs.«01_k».proof.Proof.Gen.NormProj.Points
public import proofs.«01_k».proof.Proof.Gen.NormProj.Frame
public import proofs.«01_k».proof.Proof.Gen.NormProjIdeal
public import proofs.«01_k».proof.Proof.Gen.NormProjIdeal.Skeleton
public import proofs.«01_k».proof.Proof.Gen.NormProjIdeal.Launch
public import proofs.«01_k».proof.Proof.Gen.NormProjIdeal.Points
public import proofs.«01_k».proof.Proof.Gen.NormProjIdeal.Frame
public import proofs.«01_k».proof.Proof.Gen.NormProjRefIdeal
public import proofs.«01_k».proof.Proof.Gen.NormProjRefIdeal.Run
public import proofs.«01_k».proof.Proof.Gen.NormProjRefIdeal.Read
public import proofs.«01_k».proof.Proof.NormFrame
public import proofs.«01_k».proof.Proof.NormDat
public import proofs.«01_k».proof.Proof.NormValue
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.Pre_finite_gate
public import proofs.«01_k».proof.Proof.OutTile
public import proofs.«01_k».proof.Proof.OutBlock
public import proofs.«01_k».proof.Proof.OutValue
public import proofs.«01_k».proof.Proof.OutRef
public import proofs.«01_k».proof.Proof.Gen.ProjFirst
public import proofs.«01_k».proof.Proof.Gen.ProjFirst.Skeleton
public import proofs.«01_k».proof.Proof.Gen.ProjFirst.Launch
public import proofs.«01_k».proof.Proof.Gen.ProjFirst.Points
public import proofs.«01_k».proof.Proof.Gen.ProjFirst.Frame
public import proofs.«01_k».proof.Proof.Gen.ProjFirstIdeal
public import proofs.«01_k».proof.Proof.Gen.ProjFirstIdeal.Skeleton
public import proofs.«01_k».proof.Proof.Gen.ProjFirstIdeal.Launch
public import proofs.«01_k».proof.Proof.Gen.ProjFirstIdeal.Points
public import proofs.«01_k».proof.Proof.Gen.ProjFirstIdeal.Frame
public import proofs.«01_k».proof.Proof.Gen.ProjFirstRefIdeal
public import proofs.«01_k».proof.Proof.Gen.ProjFirstRefIdeal.Run
public import proofs.«01_k».proof.Proof.Gen.ProjFirstRefIdeal.Read
public import proofs.«01_k».proof.Proof.Gen.ProjSecond
public import proofs.«01_k».proof.Proof.Gen.ProjSecond.Skeleton
public import proofs.«01_k».proof.Proof.Gen.ProjSecond.Launch
public import proofs.«01_k».proof.Proof.Gen.ProjSecond.Points
public import proofs.«01_k».proof.Proof.Gen.ProjSecond.Frame
public import proofs.«01_k».proof.Proof.Gen.ProjSecondIdeal
public import proofs.«01_k».proof.Proof.Gen.ProjSecondIdeal.Skeleton
public import proofs.«01_k».proof.Proof.Gen.ProjSecondIdeal.Launch
public import proofs.«01_k».proof.Proof.Gen.ProjSecondIdeal.Points
public import proofs.«01_k».proof.Proof.Gen.ProjSecondIdeal.Frame
public import proofs.«01_k».proof.Proof.Gen.ProjSecondRefIdeal
public import proofs.«01_k».proof.Proof.Gen.ProjSecondRefIdeal.Run
public import proofs.«01_k».proof.Proof.Gen.ProjSecondRefIdeal.Read
public import proofs.«01_k».proof.Proof.Gen.ProjThird
public import proofs.«01_k».proof.Proof.Gen.ProjThird.Skeleton
public import proofs.«01_k».proof.Proof.Gen.ProjThird.Launch
public import proofs.«01_k».proof.Proof.Gen.ProjThird.Points
public import proofs.«01_k».proof.Proof.Gen.ProjThird.Frame
public import proofs.«01_k».proof.Proof.Gen.ProjThirdIdeal
public import proofs.«01_k».proof.Proof.Gen.ProjThirdIdeal.Skeleton
public import proofs.«01_k».proof.Proof.Gen.ProjThirdIdeal.Launch
public import proofs.«01_k».proof.Proof.Gen.ProjThirdIdeal.Points
public import proofs.«01_k».proof.Proof.Gen.ProjThirdIdeal.Frame
public import proofs.«01_k».proof.Proof.Gen.ProjThirdRefIdeal
public import proofs.«01_k».proof.Proof.Gen.ProjThirdRefIdeal.Run
public import proofs.«01_k».proof.Proof.Gen.ProjThirdRefIdeal.Read
public import proofs.«01_k».proof.Proof.ProjFirstValue
public import proofs.«01_k».proof.Proof.ProjSecondValue
public import proofs.«01_k».proof.Proof.ProjThirdValue
public import Idealize.ShloMosaic.Adequacy
public import Idealize.ShloMosaic.Init

@[expose] public section

noncomputable section

namespace Cert.Proof

open Idealize.ShloMosaic Idealize.SL.Sem

/-- The reference runs, and leaves its arguments as they were: its run read at the arguments. It declares no semaphore. -/
theorem ends_ref (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1))
      ∧ r.2.sem = fun _ => 0) :=
  (θ_run Cert.ReferenceIdeal.defs _ _).mono
    (fun r h => ⟨fun c => (h c).2, sem_eq_zero_of_no_sems (by decide) r.2⟩)
    (Cert.ReferenceIdeal.Value.run (F := Ideal) m ρ)

/-- The two named constants of the bias-table kernel. -/
theorem preserved : Cert.preserves_Kernel_KernelIdeal :=
  ⟨IdealRules.named_const.statement Cert.KernelIdeal.κ "log2e" .f32 0x3FB8AA3B#32 _ rfl,
   IdealRules.named_const.statement Cert.KernelIdeal.κ "mask" .f32 0xF149F2CA#32 _ rfl⟩

section

open Cert.KernelIdeal Cert.KernelIdeal.Gen

/-- The kernel's result from its arguments, when these are real. -/
theorem kernel_result (m : (ℓ : Loc nD τ sig) → Buf (Elt Ideal) ℓ) (ρ : Dev nD → PrngReg) (c : Dev nD)
    (h : Cert.Pre_finite.fn (F := Ideal) (m ((c.tc : Thread nD τ).loc main_arg0)) (m ((c.tc : Thread nD τ).loc main_arg1)) = fun _ => 1#1) :
    W4 m ρ c (Proc.devRef .tc main_v37)
      = Cert.ReferenceIdeal.Read.val_main_v106 (F := Ideal) (m ((c.tc : Thread nD τ).loc main_arg0)) (m ((c.tc : Thread nD τ).loc main_arg1)) := by
  obtain ⟨hA, hX⟩ := Cert.Pre_finite.Gen.real_args _ _ h
  have e : W4 m ρ c (Proc.devRef .tc main_v37) = result (m ((c.tc : Thread nD τ).loc main_arg0)) (V3 m ρ c main_v36) :=
    (W4_arr m ρ c 4).trans ((array_value (V3 m ρ) c).trans (congrArg (fun a => result a _) (W3_args m ρ c main_arg0 (by decide))))
  rw [e]
  funext i
  obtain ⟨g, n, l, rfl⟩ : ∃ (g : Fin 4) (n : Fin 16384) (l : Fin 256), i = ix3 g n l := ⟨i 0, i 1, i 2, eq_ix3 i⟩
  exact Cert.Attention.attended_eq _ _ _ _ hA hX g n l _ (table_apply m ρ c)

end

/-- The kernel and the reference run from the same real arguments and leave the same result. -/
theorem value : Cert.algebraic_KernelIdeal_ReferenceIdeal_pre_finite := by
  intro m ρ m' ρ' hpre hag
  refine ⟨fun c => Cert.ReferenceIdeal.Read.val_main_v106 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    (θ_run Cert.KernelIdeal.defs _ _).mono (fun r h c => ⟨(h c).1.trans (kernel_result m ρ c (hpre c)), (h c).2⟩) (Cert.KernelIdeal.Gen.run m ρ),
    (θ_run Cert.ReferenceIdeal.defs _ _).mono (fun r h c => ⟨(h c).1.trans ?_, (h c).2⟩) (Cert.ReferenceIdeal.Value.run (F := Ideal) m' ρ')⟩
  rw [Cert.ReferenceIdeal.Read.val_main_v106_eq, (hag c).1, (hag c).2]

/-- The reference of the projection runs, and leaves its arguments as they were. It declares no semaphore. -/
theorem ends_ref2 (m : (ℓ : Loc Cert.NormProjRefIdeal.nD Cert.NormProjRefIdeal.τ Cert.NormProjRefIdeal.sig) → Buf (Elt Ideal) ℓ) (ρ : Dev Cert.NormProjRefIdeal.nD → PrngReg) :
    θ_run (Cert.NormProjRefIdeal.defs (F := Ideal)) (onTc (τ := Cert.NormProjRefIdeal.τ) (Cert.NormProjRefIdeal.main (F := Ideal)))
      ⟨m, fun _ => 0, ρ⟩ (fun r => (∀ c : Dev Cert.NormProjRefIdeal.nD,
        r.2.mem ((c.tc : Thread Cert.NormProjRefIdeal.nD Cert.NormProjRefIdeal.τ).loc Cert.NormProjRefIdeal.main_arg0)
            = m ((c.tc : Thread Cert.NormProjRefIdeal.nD Cert.NormProjRefIdeal.τ).loc Cert.NormProjRefIdeal.main_arg0)
          ∧ r.2.mem ((c.tc : Thread Cert.NormProjRefIdeal.nD Cert.NormProjRefIdeal.τ).loc Cert.NormProjRefIdeal.main_arg1)
            = m ((c.tc : Thread Cert.NormProjRefIdeal.nD Cert.NormProjRefIdeal.τ).loc Cert.NormProjRefIdeal.main_arg1)
          ∧ r.2.mem ((c.tc : Thread Cert.NormProjRefIdeal.nD Cert.NormProjRefIdeal.τ).loc Cert.NormProjRefIdeal.main_arg2)
            = m ((c.tc : Thread Cert.NormProjRefIdeal.nD Cert.NormProjRefIdeal.τ).loc Cert.NormProjRefIdeal.main_arg2))
      ∧ r.2.sem = fun _ => 0) :=
  (θ_run Cert.NormProjRefIdeal.defs _ _).mono
    (fun r h => ⟨fun c => (h c).2, sem_eq_zero_of_no_sems (by decide) r.2⟩)
    (Cert.NormProjRefIdeal.Value.run (F := Ideal) m ρ)

/-- The named constant of the projection. -/
theorem preserved2 : Cert.preserves_NormProj_NormProjIdeal :=
  IdealRules.named_const.statement Cert.NormProjIdeal.κ "q_scale" .f32 0x3E38AA3B#32 _ rfl

/-- The projection and its reference run from the same arguments and leave the same result. -/
theorem value2 : Cert.algebraic_NormProjIdeal_NormProjRefIdeal := by
  intro m ρ m' ρ' _ hag
  refine ⟨fun c => Cert.NormProjIdeal.Norm.projected
      (m ((c.tc : Thread Cert.NormProjIdeal.nD Cert.NormProjIdeal.τ).loc Cert.NormProjIdeal.main_arg0))
      (m ((c.tc : Thread Cert.NormProjIdeal.nD Cert.NormProjIdeal.τ).loc Cert.NormProjIdeal.main_arg1))
      (m ((c.tc : Thread Cert.NormProjIdeal.nD Cert.NormProjIdeal.τ).loc Cert.NormProjIdeal.main_arg2)),
    (θ_run Cert.NormProjIdeal.defs _ _).mono (fun r h c => ⟨((h.1.1 c).1 3).trans (Cert.NormProjIdeal.Norm.array_value m c), h.2.1 c⟩)
      (θ_run_and (Cert.NormProjIdeal.Norm.ends m ρ) (Cert.NormProjIdeal.Norm.frame m ρ)),
    (θ_run Cert.NormProjRefIdeal.defs _ _).mono (fun r h c => ⟨(h c).1.trans ?_, (h c).2⟩) (Cert.NormProjRefIdeal.Value.run (F := Ideal) m' ρ')⟩
  rw [Cert.NormProjRefIdeal.Read.val_main_v24_eq, (hag c).1, (hag c).2.1, (hag c).2.2]
  exact funext fun i => Cert.NormProjRefIdeal.Read.result_read _ _ _ i

/-- The reference of the output projection runs, and leaves its arguments as they were. It declares no semaphore. -/
theorem ends_ref3 (m : (ℓ : Loc Cert.OutProjRefIdeal.nD Cert.OutProjRefIdeal.τ Cert.OutProjRefIdeal.sig) → Buf (Elt Ideal) ℓ) (ρ : Dev Cert.OutProjRefIdeal.nD → PrngReg) :
    θ_run (Cert.OutProjRefIdeal.defs (F := Ideal)) (onTc (τ := Cert.OutProjRefIdeal.τ) (Cert.OutProjRefIdeal.main (F := Ideal)))
      ⟨m, fun _ => 0, ρ⟩ (fun r => (∀ c : Dev Cert.OutProjRefIdeal.nD,
        r.2.mem ((c.tc : Thread Cert.OutProjRefIdeal.nD Cert.OutProjRefIdeal.τ).loc Cert.OutProjRefIdeal.main_arg0)
            = m ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1)
            = m ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2)
            = m ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3)
            = m ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4)
            = m ((c.tc : Thread Cert.OutProjRefIdeal.nD Cert.OutProjRefIdeal.τ).loc Cert.OutProjRefIdeal.main_arg4))
      ∧ r.2.sem = fun _ => 0) :=
  (θ_run Cert.OutProjRefIdeal.defs _ _).mono
    (fun r h => ⟨fun c => (h c).2.2.2.2, sem_eq_zero_of_no_sems (by decide) r.2⟩)
    (Cert.OutProjRefIdeal.Value.run (F := Ideal) m ρ)

open Cert.OutProjIdeal.Gen in
/-- The output projection and its reference run from the same arguments, the gates real, and leave the same four results. -/
theorem value3 : Cert.algebraic_OutProjIdeal_OutProjRefIdeal_pre_finite_gate := by
  intro m ρ m' ρ' hpre hag
  have hp := fun c => Cert.Pre_finite_gate.Gen.real_gates _ _ _ _ _ (hpre c)
  refine ⟨fun c => summed (A0 m c) (A1 m c) (A2 m c) (A3 m c), fun c => every (A0 m c) (A1 m c) (A2 m c) (A3 m c) (A4 m c),
    fun c => everyFourth (A0 m c) (A1 m c) (A2 m c) (A3 m c) (A4 m c), fun c => everySixteenth (A0 m c) (A1 m c) (A2 m c) (A3 m c) (A4 m c),
    (θ_run Cert.OutProjIdeal.defs _ _).mono (fun r h c => ⟨((h.1.1 c).1 5).trans (summed_value m c), ((h.1.1 c).1 6).trans (every_value m c),
        ((h.1.1 c).1 7).trans (fourth_value m c), ((h.1.1 c).1 8).trans (sixteenth_value m c), h.2.1 c⟩)
      (θ_run_and (run_main_quiescent m ρ) (frame m ρ)),
    (θ_run Cert.OutProjRefIdeal.defs _ _).mono (fun r h c => ⟨(h c).1.trans ?_, (h c).2.1.trans ?_, (h c).2.2.1.trans ?_, (h c).2.2.2.1.trans ?_, (h c).2.2.2.2⟩)
      (Cert.OutProjRefIdeal.Value.run (F := Ideal) m' ρ')⟩
  · rw [Cert.OutProjRefIdeal.Read.val_main_v11_eq, (hag c).1, (hag c).2.1, (hag c).2.2.1, (hag c).2.2.2.1]
    exact Cert.OutProjRefIdeal.Read.summed_read _ _ _ _ (hp c)
  · rw [Cert.OutProjRefIdeal.Read.val_main_v27_eq, (hag c).1, (hag c).2.1, (hag c).2.2.1, (hag c).2.2.2.1, (hag c).2.2.2.2]
    exact Cert.OutProjRefIdeal.Read.every_read _ _ _ _ _ (hp c)
  · rw [Cert.OutProjRefIdeal.Read.val_main_v30_eq, (hag c).1, (hag c).2.1, (hag c).2.2.1, (hag c).2.2.2.1, (hag c).2.2.2.2]
    exact Cert.OutProjRefIdeal.Read.fourth_read _ _ _ _ _ (hp c)
  · rw [Cert.OutProjRefIdeal.Read.val_main_v33_eq, (hag c).1, (hag c).2.1, (hag c).2.2.1, (hag c).2.2.2.1, (hag c).2.2.2.2]
    exact Cert.OutProjRefIdeal.Read.sixteenth_read _ _ _ _ _ (hp c)

/-- The reference of the second layer's first projection runs, and leaves its arguments as they were. It declares no semaphore. -/
theorem ends_ref4 (m : (ℓ : Loc Cert.ProjFirstRefIdeal.nD Cert.ProjFirstRefIdeal.τ Cert.ProjFirstRefIdeal.sig) → Buf (Elt Ideal) ℓ) (ρ : Dev Cert.ProjFirstRefIdeal.nD → PrngReg) :
    θ_run (Cert.ProjFirstRefIdeal.defs (F := Ideal)) (onTc (τ := Cert.ProjFirstRefIdeal.τ) (Cert.ProjFirstRefIdeal.main (F := Ideal)))
      ⟨m, fun _ => 0, ρ⟩ (fun r => (∀ c : Dev Cert.ProjFirstRefIdeal.nD,
        r.2.mem ((c.tc : Thread Cert.ProjFirstRefIdeal.nD Cert.ProjFirstRefIdeal.τ).loc Cert.ProjFirstRefIdeal.main_arg0) = m ((c.tc : Thread Cert.ProjFirstRefIdeal.nD Cert.ProjFirstRefIdeal.τ).loc Cert.ProjFirstRefIdeal.main_arg0)
          ∧ r.2.mem ((c.tc : Thread Cert.ProjFirstRefIdeal.nD Cert.ProjFirstRefIdeal.τ).loc Cert.ProjFirstRefIdeal.main_arg1) = m ((c.tc : Thread Cert.ProjFirstRefIdeal.nD Cert.ProjFirstRefIdeal.τ).loc Cert.ProjFirstRefIdeal.main_arg1))
      ∧ r.2.sem = fun _ => 0) :=
  (θ_run Cert.ProjFirstRefIdeal.defs _ _).mono (fun r h => ⟨fun c => (h c).2, sem_eq_zero_of_no_sems (by decide) r.2⟩)
    (Cert.ProjFirstRefIdeal.Value.run (F := Ideal) m ρ)

/-- The named constant of the second layer's first projection. -/
theorem preserved4 : Cert.preserves_ProjFirst_ProjFirstIdeal :=
  IdealRules.named_const.statement Cert.ProjFirstIdeal.κ "q_scale" .f32 0x3E38AA3B#32 _ rfl

/-- The second layer's first projection and its reference run from the same arguments and leave the same result. -/
theorem value4 : Cert.algebraic_ProjFirstIdeal_ProjFirstRefIdeal := by
  intro m ρ m' ρ' _ hag
  refine ⟨fun c => Cert.ProjFirstIdeal.Gen.projected (m ((c.tc : Thread Cert.ProjFirstIdeal.nD Cert.ProjFirstIdeal.τ).loc Cert.ProjFirstIdeal.main_arg0)) (m ((c.tc : Thread Cert.ProjFirstIdeal.nD Cert.ProjFirstIdeal.τ).loc Cert.ProjFirstIdeal.main_arg1)),
    (θ_run Cert.ProjFirstIdeal.defs _ _).mono (fun r h c => ⟨((h.1.1 c).1 2).trans (Cert.ProjFirstIdeal.Gen.array_value m c), h.2.1 c⟩)
      (θ_run_and (Cert.ProjFirstIdeal.Gen.run_main_quiescent m ρ) (Cert.ProjFirstIdeal.Gen.frame m ρ)),
    (θ_run Cert.ProjFirstRefIdeal.defs _ _).mono (fun r h c => ⟨(h c).1.trans ?_, (h c).2⟩) (Cert.ProjFirstRefIdeal.Value.run (F := Ideal) m' ρ')⟩
  rw [Cert.ProjFirstRefIdeal.Read.val_main_v13_eq, (hag c).1, (hag c).2]
  exact Cert.ProjFirstRefIdeal.Read.result_read _ _

/-- The reference of the second layer's second projection runs, and leaves its arguments as they were. It declares no semaphore. -/
theorem ends_ref5 (m : (ℓ : Loc Cert.ProjSecondRefIdeal.nD Cert.ProjSecondRefIdeal.τ Cert.ProjSecondRefIdeal.sig) → Buf (Elt Ideal) ℓ) (ρ : Dev Cert.ProjSecondRefIdeal.nD → PrngReg) :
    θ_run (Cert.ProjSecondRefIdeal.defs (F := Ideal)) (onTc (τ := Cert.ProjSecondRefIdeal.τ) (Cert.ProjSecondRefIdeal.main (F := Ideal)))
      ⟨m, fun _ => 0, ρ⟩ (fun r => (∀ c : Dev Cert.ProjSecondRefIdeal.nD,
        r.2.mem ((c.tc : Thread Cert.ProjSecondRefIdeal.nD Cert.ProjSecondRefIdeal.τ).loc Cert.ProjSecondRefIdeal.main_arg0) = m ((c.tc : Thread Cert.ProjSecondRefIdeal.nD Cert.ProjSecondRefIdeal.τ).loc Cert.ProjSecondRefIdeal.main_arg0)
          ∧ r.2.mem ((c.tc : Thread Cert.ProjSecondRefIdeal.nD Cert.ProjSecondRefIdeal.τ).loc Cert.ProjSecondRefIdeal.main_arg1) = m ((c.tc : Thread Cert.ProjSecondRefIdeal.nD Cert.ProjSecondRefIdeal.τ).loc Cert.ProjSecondRefIdeal.main_arg1))
      ∧ r.2.sem = fun _ => 0) :=
  (θ_run Cert.ProjSecondRefIdeal.defs _ _).mono (fun r h => ⟨fun c => (h c).2, sem_eq_zero_of_no_sems (by decide) r.2⟩)
    (Cert.ProjSecondRefIdeal.Value.run (F := Ideal) m ρ)

/-- The named constant of the second layer's second projection. -/
theorem preserved5 : Cert.preserves_ProjSecond_ProjSecondIdeal :=
  IdealRules.named_const.statement Cert.ProjSecondIdeal.κ "q_scale" .f32 0x3E38AA3B#32 _ rfl

/-- The second layer's second projection and its reference run from the same arguments and leave the same result. -/
theorem value5 : Cert.algebraic_ProjSecondIdeal_ProjSecondRefIdeal := by
  intro m ρ m' ρ' _ hag
  refine ⟨fun c => Cert.ProjSecondIdeal.Gen.projected (m ((c.tc : Thread Cert.ProjSecondIdeal.nD Cert.ProjSecondIdeal.τ).loc Cert.ProjSecondIdeal.main_arg0)) (m ((c.tc : Thread Cert.ProjSecondIdeal.nD Cert.ProjSecondIdeal.τ).loc Cert.ProjSecondIdeal.main_arg1)),
    (θ_run Cert.ProjSecondIdeal.defs _ _).mono (fun r h c => ⟨((h.1.1 c).1 2).trans (Cert.ProjSecondIdeal.Gen.array_value m c), h.2.1 c⟩)
      (θ_run_and (Cert.ProjSecondIdeal.Gen.run_main_quiescent m ρ) (Cert.ProjSecondIdeal.Gen.frame m ρ)),
    (θ_run Cert.ProjSecondRefIdeal.defs _ _).mono (fun r h c => ⟨(h c).1.trans ?_, (h c).2⟩) (Cert.ProjSecondRefIdeal.Value.run (F := Ideal) m' ρ')⟩
  rw [Cert.ProjSecondRefIdeal.Read.val_main_v11_eq, (hag c).1, (hag c).2]
  exact Cert.ProjSecondRefIdeal.Read.result_read _ _

/-- The reference of the second layer's third projection runs, and leaves its arguments as they were. It declares no semaphore. -/
theorem ends_ref6 (m : (ℓ : Loc Cert.ProjThirdRefIdeal.nD Cert.ProjThirdRefIdeal.τ Cert.ProjThirdRefIdeal.sig) → Buf (Elt Ideal) ℓ) (ρ : Dev Cert.ProjThirdRefIdeal.nD → PrngReg) :
    θ_run (Cert.ProjThirdRefIdeal.defs (F := Ideal)) (onTc (τ := Cert.ProjThirdRefIdeal.τ) (Cert.ProjThirdRefIdeal.main (F := Ideal)))
      ⟨m, fun _ => 0, ρ⟩ (fun r => (∀ c : Dev Cert.ProjThirdRefIdeal.nD,
        r.2.mem ((c.tc : Thread Cert.ProjThirdRefIdeal.nD Cert.ProjThirdRefIdeal.τ).loc Cert.ProjThirdRefIdeal.main_arg0) = m ((c.tc : Thread Cert.ProjThirdRefIdeal.nD Cert.ProjThirdRefIdeal.τ).loc Cert.ProjThirdRefIdeal.main_arg0)
          ∧ r.2.mem ((c.tc : Thread Cert.ProjThirdRefIdeal.nD Cert.ProjThirdRefIdeal.τ).loc Cert.ProjThirdRefIdeal.main_arg1) = m ((c.tc : Thread Cert.ProjThirdRefIdeal.nD Cert.ProjThirdRefIdeal.τ).loc Cert.ProjThirdRefIdeal.main_arg1))
      ∧ r.2.sem = fun _ => 0) :=
  (θ_run Cert.ProjThirdRefIdeal.defs _ _).mono (fun r h => ⟨fun c => (h c).2, sem_eq_zero_of_no_sems (by decide) r.2⟩)
    (Cert.ProjThirdRefIdeal.Value.run (F := Ideal) m ρ)

/-- The named constant of the second layer's third projection. -/
theorem preserved6 : Cert.preserves_ProjThird_ProjThirdIdeal :=
  IdealRules.named_const.statement Cert.ProjThirdIdeal.κ "q_scale" .f32 0x3E38AA3B#32 _ rfl

/-- The second layer's third projection and its reference run from the same arguments and leave the same result. -/
theorem value6 : Cert.algebraic_ProjThirdIdeal_ProjThirdRefIdeal := by
  intro m ρ m' ρ' _ hag
  refine ⟨fun c => Cert.ProjThirdIdeal.Gen.projected (m ((c.tc : Thread Cert.ProjThirdIdeal.nD Cert.ProjThirdIdeal.τ).loc Cert.ProjThirdIdeal.main_arg0)) (m ((c.tc : Thread Cert.ProjThirdIdeal.nD Cert.ProjThirdIdeal.τ).loc Cert.ProjThirdIdeal.main_arg1)),
    (θ_run Cert.ProjThirdIdeal.defs _ _).mono (fun r h c => ⟨((h.1.1 c).1 2).trans (Cert.ProjThirdIdeal.Gen.array_value m c), h.2.1 c⟩)
      (θ_run_and (Cert.ProjThirdIdeal.Gen.run_main_quiescent m ρ) (Cert.ProjThirdIdeal.Gen.frame m ρ)),
    (θ_run Cert.ProjThirdRefIdeal.defs _ _).mono (fun r h c => ⟨(h c).1.trans ?_, (h c).2⟩) (Cert.ProjThirdRefIdeal.Value.run (F := Ideal) m' ρ')⟩
  rw [Cert.ProjThirdRefIdeal.Read.val_main_v11_eq, (hag c).1, (hag c).2]
  exact Cert.ProjThirdRefIdeal.Read.result_read _ _

theorem claim : Cert.Claim :=
  ⟨Cert.Kernel.Gen.facts, Cert.KernelIdeal.Gen.facts, Cert.ReferenceIdeal.Gen.facts,
    Cert.NormProj.Gen.facts, Cert.NormProjIdeal.Gen.facts, Cert.NormProjRefIdeal.Gen.facts,
    Cert.OutProj.Gen.facts, Cert.OutProjIdeal.Gen.facts, Cert.OutProjRefIdeal.Gen.facts,
    Cert.ProjFirst.Gen.facts, Cert.ProjFirstIdeal.Gen.facts, Cert.ProjFirstRefIdeal.Gen.facts,
    Cert.ProjSecond.Gen.facts, Cert.ProjSecondIdeal.Gen.facts, Cert.ProjSecondRefIdeal.Gen.facts,
    Cert.ProjThird.Gen.facts, Cert.ProjThirdIdeal.Gen.facts, Cert.ProjThirdRefIdeal.Gen.facts,
    Cert.Pre_finite.Gen.facts, Cert.Pre_finite_gate.Gen.facts,
    fun m ρ _ => Cert.Kernel.Gen.frame m ρ, fun m ρ _ => Cert.KernelIdeal.Gen.frame m ρ,
    fun m ρ _ => Cert.KernelIdeal.Gen.frame m ρ, fun m ρ _ => ends_ref m ρ, fun m ρ _ => ends_ref m ρ,
    fun m ρ _ => Cert.NormProj.Norm.frame m ρ, fun m ρ _ => Cert.NormProjIdeal.Norm.frame m ρ, fun m ρ _ => ends_ref2 m ρ,
    fun m ρ _ => Cert.OutProj.Gen.frame m ρ, fun m ρ _ => Cert.OutProjIdeal.Gen.frame m ρ, fun m ρ _ => Cert.OutProjIdeal.Gen.frame m ρ,
    fun m ρ _ => ends_ref3 m ρ, fun m ρ _ => ends_ref3 m ρ,
    fun m ρ _ => Cert.ProjFirst.Gen.frame m ρ, fun m ρ _ => Cert.ProjFirstIdeal.Gen.frame m ρ, fun m ρ _ => ends_ref4 m ρ,
    fun m ρ _ => Cert.ProjSecond.Gen.frame m ρ, fun m ρ _ => Cert.ProjSecondIdeal.Gen.frame m ρ, fun m ρ _ => ends_ref5 m ρ,
    fun m ρ _ => Cert.ProjThird.Gen.frame m ρ, fun m ρ _ => Cert.ProjThirdIdeal.Gen.frame m ρ, fun m ρ _ => ends_ref6 m ρ,
    preserved, value, preserved2, value2, trivial, value3, preserved4, value4, preserved5, value5, preserved6, value6⟩

end Cert.Proof

end
